-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_down [hPre_finite_down : Cert.Pre_finite_down.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_down.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_down [hPre_finite_down : Cert.Pre_finite_down.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_down.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_up [hPre_finite_up : Cert.Pre_finite_up.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_up.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_up [hPre_finite_up : Cert.Pre_finite_up.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_up.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite_attn [hPre_finite_attn : Cert.Pre_finite_attn.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite_attn.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite_attn [hPre_finite_attn : Cert.Pre_finite_attn.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite_attn.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite_attn [hPre_finite_attn : Cert.Pre_finite_attn.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite_attn.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite_attn [hPre_finite_attn : Cert.Pre_finite_attn.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite_attn.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite_attn [hPre_finite_attn : Cert.Pre_finite_attn.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite_attn.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite_attn [hPre_finite_attn : Cert.Pre_finite_attn.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite_attn.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_down [hKernel2Ideal : Cert.Kernel2Ideal.Facts] [hPre_finite_down : Cert.Pre_finite_down.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_down m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_down [hReference2Ideal : Cert.Reference2Ideal.Facts] [hPre_finite_down : Cert.Pre_finite_down.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_down m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_up [hKernel6Ideal : Cert.Kernel6Ideal.Facts] [hPre_finite_up : Cert.Pre_finite_up.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_up m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_up [hReference6Ideal : Cert.Reference6Ideal.Facts] [hPre_finite_up : Cert.Pre_finite_up.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_up m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Kernel19Ideal_pre_finite_attn [hKernel19Ideal : Cert.Kernel19Ideal.Facts] [hPre_finite_attn : Cert.Pre_finite_attn.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite_attn m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Reference19Ideal_pre_finite_attn [hReference19Ideal : Cert.Reference19Ideal.Facts] [hPre_finite_attn : Cert.Pre_finite_attn.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite_attn m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Kernel20Ideal_pre_finite_attn [hKernel20Ideal : Cert.Kernel20Ideal.Facts] [hPre_finite_attn : Cert.Pre_finite_attn.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite_attn m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_finite_attn [hReference20Ideal : Cert.Reference20Ideal.Facts] [hPre_finite_attn : Cert.Pre_finite_attn.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite_attn m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Kernel21Ideal_pre_finite_attn [hKernel21Ideal : Cert.Kernel21Ideal.Facts] [hPre_finite_attn : Cert.Pre_finite_attn.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite_attn m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Reference21Ideal_pre_finite_attn [hReference21Ideal : Cert.Reference21Ideal.Facts] [hPre_finite_attn : Cert.Pre_finite_attn.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite_attn m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def preserves_Kernel_KernelIdeal : Prop :=
  True

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)) (v3 : (c : Dev Cert.KernelIdeal.nD) → Buf (Elt Ideal) ((c.tc : Thread Cert.KernelIdeal.nD Cert.KernelIdeal.τ).loc Cert.KernelIdeal.main_v39_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_v39_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_down [hKernel2Ideal : Cert.Kernel2Ideal.Facts] [hReference2Ideal : Cert.Reference2Ideal.Facts] [hPre_finite_down : Cert.Pre_finite_down.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_down m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v13) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite_up [hKernel6Ideal : Cert.Kernel6Ideal.Facts] [hReference6Ideal : Cert.Reference6Ideal.Facts] [hPre_finite_up : Cert.Pre_finite_up.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_up m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_v12) = v1 c
          ∧ r.2.mem ((c.tc : Thread Cert.Reference6Ideal.nD Cert.Reference6Ideal.τ).loc Cert.Reference6Ideal.main_v13) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal_pre_finite_attn [hKernel19Ideal : Cert.Kernel19Ideal.Facts] [hReference19Ideal : Cert.Reference19Ideal.Facts] [hPre_finite_attn : Cert.Pre_finite_attn.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite_attn m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v104) = v0 c
          ∧ r.2.mem ((c.tc : Thread Cert.Reference19Ideal.nD Cert.Reference19Ideal.τ).loc Cert.Reference19Ideal.main_v103) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal_pre_finite_attn [hKernel20Ideal : Cert.Kernel20Ideal.Facts] [hReference20Ideal : Cert.Reference20Ideal.Facts] [hPre_finite_attn : Cert.Pre_finite_attn.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite_attn m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v6_0)) (v1 : (c : Dev Cert.Kernel20Ideal.nD) → Buf (Elt Ideal) ((c.tc : Thread Cert.Kernel20Ideal.nD Cert.Kernel20Ideal.τ).loc Cert.Kernel20Ideal.main_v6_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v6_0) = v0 c
          ∧ r.2.mem ((c.tc : Thread Cert.Kernel20Ideal.nD Cert.Kernel20Ideal.τ).loc Cert.Kernel20Ideal.main_v6_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v104) = v0 c
          ∧ r.2.mem ((c.tc : Thread Cert.Reference20Ideal.nD Cert.Reference20Ideal.τ).loc Cert.Reference20Ideal.main_v105) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal_pre_finite_attn [hKernel21Ideal : Cert.Kernel21Ideal.Facts] [hReference21Ideal : Cert.Reference21Ideal.Facts] [hPre_finite_attn : Cert.Pre_finite_attn.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite_attn m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v6_0)) (v1 : (c : Dev Cert.Kernel21Ideal.nD) → Buf (Elt Ideal) ((c.tc : Thread Cert.Kernel21Ideal.nD Cert.Kernel21Ideal.τ).loc Cert.Kernel21Ideal.main_v6_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v6_0) = v0 c
          ∧ r.2.mem ((c.tc : Thread Cert.Kernel21Ideal.nD Cert.Kernel21Ideal.τ).loc Cert.Kernel21Ideal.main_v6_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v104) = v0 c
          ∧ r.2.mem ((c.tc : Thread Cert.Reference21Ideal.nD Cert.Reference21Ideal.τ).loc Cert.Reference21Ideal.main_v105) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v15) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v13) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v28) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite_gate : Cert.Pre_finite_gate.Facts) (hPre_finite_down : Cert.Pre_finite_down.Facts) (hPre_finite_up : Cert.Pre_finite_up.Facts) (hPre_finite_attn : Cert.Pre_finite_attn.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ quiescent_Kernel2 (hKernel2 := hKernel2)
    ∧ quiescent_Kernel2Ideal (hKernel2Ideal := hKernel2Ideal)
    ∧ quiescent_Kernel2Ideal_pre_finite_down (hKernel2Ideal := hKernel2Ideal) (hPre_finite_down := hPre_finite_down)
    ∧ quiescent_Reference2Ideal (hReference2Ideal := hReference2Ideal)
    ∧ quiescent_Reference2Ideal_pre_finite_down (hReference2Ideal := hReference2Ideal) (hPre_finite_down := hPre_finite_down)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_up (hKernel6Ideal := hKernel6Ideal) (hPre_finite_up := hPre_finite_up)
    ∧ quiescent_Reference6Ideal (hReference6Ideal := hReference6Ideal)
    ∧ quiescent_Reference6Ideal_pre_finite_up (hReference6Ideal := hReference6Ideal) (hPre_finite_up := hPre_finite_up)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite_attn (hKernel19Ideal := hKernel19Ideal) (hPre_finite_attn := hPre_finite_attn)
    ∧ quiescent_Reference19Ideal (hReference19Ideal := hReference19Ideal)
    ∧ quiescent_Reference19Ideal_pre_finite_attn (hReference19Ideal := hReference19Ideal) (hPre_finite_attn := hPre_finite_attn)
    ∧ quiescent_Kernel20 (hKernel20 := hKernel20)
    ∧ quiescent_Kernel20Ideal (hKernel20Ideal := hKernel20Ideal)
    ∧ quiescent_Kernel20Ideal_pre_finite_attn (hKernel20Ideal := hKernel20Ideal) (hPre_finite_attn := hPre_finite_attn)
    ∧ quiescent_Reference20Ideal (hReference20Ideal := hReference20Ideal)
    ∧ quiescent_Reference20Ideal_pre_finite_attn (hReference20Ideal := hReference20Ideal) (hPre_finite_attn := hPre_finite_attn)
    ∧ quiescent_Kernel21 (hKernel21 := hKernel21)
    ∧ quiescent_Kernel21Ideal (hKernel21Ideal := hKernel21Ideal)
    ∧ quiescent_Kernel21Ideal_pre_finite_attn (hKernel21Ideal := hKernel21Ideal) (hPre_finite_attn := hPre_finite_attn)
    ∧ quiescent_Reference21Ideal (hReference21Ideal := hReference21Ideal)
    ∧ quiescent_Reference21Ideal_pre_finite_attn (hReference21Ideal := hReference21Ideal) (hPre_finite_attn := hPre_finite_attn)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite_gate (hKernelIdeal := hKernelIdeal) (hReferenceIdeal := hReferenceIdeal) (hPre_finite_gate := hPre_finite_gate)
    ∧ preserves_Kernel2_Kernel2Ideal
    ∧ algebraic_Kernel2Ideal_Reference2Ideal_pre_finite_down (hKernel2Ideal := hKernel2Ideal) (hReference2Ideal := hReference2Ideal) (hPre_finite_down := hPre_finite_down)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_up (hKernel6Ideal := hKernel6Ideal) (hReference6Ideal := hReference6Ideal) (hPre_finite_up := hPre_finite_up)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite_attn (hKernel19Ideal := hKernel19Ideal) (hReference19Ideal := hReference19Ideal) (hPre_finite_attn := hPre_finite_attn)
    ∧ preserves_Kernel20_Kernel20Ideal
    ∧ algebraic_Kernel20Ideal_Reference20Ideal_pre_finite_attn (hKernel20Ideal := hKernel20Ideal) (hReference20Ideal := hReference20Ideal) (hPre_finite_attn := hPre_finite_attn)
    ∧ preserves_Kernel21_Kernel21Ideal
    ∧ algebraic_Kernel21Ideal_Reference21Ideal_pre_finite_attn (hKernel21Ideal := hKernel21Ideal) (hReference21Ideal := hReference21Ideal) (hPre_finite_attn := hPre_finite_attn)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite_attn.lean ====
abbrev S4096x6144 : Shape := ⟨2, ![4096, 6144]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  reducesTo_S4096x6144_S_d0_1 : S4096x6144.ReducesTo [0, 1] S_
  h_S_ : 0 < S_.numel

variable [Facts]

def fn {F : FTy → Type} [FloatOps F] (main_arg0 : FVec F S4096x6144 .bf16) (main_arg1 : FVec F S4096x6144 .bf16) (main_arg2 : FVec F S4096x6144 .bf16) : IVec S_ 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_c : IVec S_ 1 := constantI S_ 1 1#1
  let main_v4 : IVec S_ 1 := (fun x v => Host.reduce IntOp.andi x v reducesTo_S4096x6144_S_d0_1 h_S_) main_v3 main_c
  let main_v5 : FVec F S4096x6144 .f32 := (extf .f32 · bitsLt_bf16_f32) main_arg1
  let main_v6 : FVec F S4096x6144 .f32 := Host.absf main_v5
  let main_cst_0 : FVec F S_ .f32 := constant S_ .f32 0x7F800000#32
  let main_v7 : FVec F S4096x6144 .f32 := broadcastInDim S4096x6144 ![] bcast_S_S4096x6144 main_cst_0
  let main_v8 : IVec S4096x6144 1 := cmpf .olt main_v6 main_v7
  let main_c_1 : IVec S_ 1 := constantI S_ 1 1#1
  let main_v9 : IVec S_ 1 := (fun x v => Host.reduce IntOp.andi x v reducesTo_S4096x6144_S_d0_1 h_S_) main_v8 main_c_1
  let main_v10 : FVec F S4096x6144 .f32 := (extf .f32 · bitsLt_bf16_f32) main_arg2
  let main_v11 : FVec F S4096x6144 .f32 := Host.absf main_v10
  let main_cst_2 : FVec F S_ .f32 := constant S_ .f32 0x7F800000#32
  let main_v12 : FVec F S4096x6144 .f32 := broadcastInDim S4096x6144 ![] bcast_S_S4096x6144 main_cst_2
  let main_v13 : IVec S4096x6144 1 := cmpf .olt main_v11 main_v12
  let main_c_3 : IVec S_ 1 := constantI S_ 1 1#1
  let main_v14 : IVec S_ 1 := (fun x v => Host.reduce IntOp.andi x v reducesTo_S4096x6144_S_d0_1 h_S_) main_v13 main_c_3
  let main_v15 : IVec S_ 1 := andi main_v4 main_v9
  let main_v16 : IVec S_ 1 := andi main_v15 main_v14
  main_v16
-- ==== Pre_finite_down.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bitsLt_bf16_f32 : FTy.bits .bf16 < FTy.bits .f32
  bcast_S_S5632x2048 : S_.BroadcastsInDim S5632x2048 (![] : Fin 0 → Fin S5632x2048.rank)
  reducesTo_S5632x2048_S_d0_1 : S5632x2048.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v3 : IVec S_ 1) (main_v7 : IVec S_ 1) (main_v12 : IVec S_ 1) (main_v15 : IVec S4096x2048 1) (main_c_5 : IVec S_ 1) : IVec S_ 1 :=
  let main_v16 : IVec S_ 1 := (fun x v => Host.reduce IntOp.andi x v reducesTo_S4096x2048_S_d0_1 h_S_) main_v15 main_c_5
  let main_v17 : IVec S_ 1 := andi main_v3 main_v7
  let main_v18 : IVec S_ 1 := andi main_v17 main_v12
  let main_v19 : IVec S_ 1 := andi main_v18 main_v16
  main_v19

def fn {F : FTy → Type} [FloatOps F] (main_arg0 : FVec F S4096x5632 .f32) (main_arg1 : FVec F S4096x5632 .f32) (main_arg2 : FVec F S5632x2048 .bf16) (main_arg3 : FVec F S4096x2048 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S4096x5632 .f32 := Host.absf main_arg1
  let main_cst_0 : FVec F S_ .f32 := constant S_ .f32 0x7F800000#32
  let main_v5 : FVec F S4096x5632 .f32 := broadcastInDim S4096x5632 ![] bcast_S_S4096x5632 main_cst_0
  let main_v6 : IVec S4096x5632 1 := cmpf .olt main_v4 main_v5
  let main_c_1 : IVec S_ 1 := constantI S_ 1 1#1
  let main_v7 : IVec S_ 1 := (fun x v => Host.reduce IntOp.andi x v reducesTo_S4096x5632_S_d0_1 h_S_) main_v6 main_c_1
  let main_v8 : FVec F S5632x2048 .f32 := (extf .f32 · bitsLt_bf16_f32) main_arg2
  let main_v9 : FVec F S5632x2048 .f32 := Host.absf main_v8
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : FVec F S4096x2048 .f32 := Host.absf main_arg3
  let main_cst_4 : FVec F S_ .f32 := constant S_ .f32 0x7F800000#32
  let main_v14 : FVec F S4096x2048 .f32 := broadcastInDim S4096x2048 ![] bcast_S_S4096x2048 main_cst_4
  let main_v15 : IVec S4096x2048 1 := cmpf .olt main_v13 main_v14
  let main_c_5 : IVec S_ 1 := constantI S_ 1 1#1
  fn_part1 (F := F) main_v3 main_v7 main_v12 main_v15 main_c_5
-- ==== Pre_finite_gate.lean ====
abbrev S4096x4096 : Shape := ⟨2, ![4096, 4096]⟩
abbrev S1x2048 : Shape := ⟨2, ![1, 2048]⟩
abbrev S16x128x128 : Shape := ⟨3, ![16, 128, 128]⟩
abbrev S16x128 : Shape := ⟨2, ![16, 128]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S16x128x128 : S_.BroadcastsInDim S16x128x128 (![] : Fin 0 → Fin S16x128x128.rank)
  reducesTo_S16x128x128_S_d0_1_2 : S16x128x128.ReducesTo [0, 1, 2] S_
  bcast_S_S16x128 : S_.BroadcastsInDim S16x128 (![] : Fin 0 → Fin S16x128.rank)
  reducesTo_S16x128_S_d0_1 : S16x128.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S4096x2048 .f32) (main_v3 : IVec S_ 1) (main_v7 : IVec S_ 1) (main_v11 : IVec S_ 1) (main_v15 : IVec S_ 1) : IVec S_ 1 :=
  let main_v16 : FVec F S4096x2048 .f32 := Host.absf main_arg4
  let main_cst_6 : FVec F S_ .f32 := constant S_ .f32 0x7F800000#32
  let main_v17 : FVec F S4096x2048 .f32 := broadcastInDim S4096x2048 ![] bcast_S_S4096x2048 main_cst_6
  let main_v18 : IVec S4096x2048 1 := cmpf .olt main_v16 main_v17
  let main_c_7 : IVec S_ 1 := constantI S_ 1 1#1
  let main_v19 : IVec S_ 1 := (fun x v => Host.reduce IntOp.andi x v reducesTo_S4096x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x4096 .f32) (main_arg1 : FVec F S1x2048 .f32) (main_arg2 : FVec F S16x128x128 .f32) (main_arg3 : FVec F S16x128 .f32) (main_arg4 : FVec F S4096x2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : FVec F S16x128x128 .f32 := Host.absf main_arg2
  let main_cst_2 : FVec F S_ .f32 := constant S_ .f32 0x7F800000#32
  let main_v9 : FVec F S16x128x128 .f32 := broadcastInDim S16x128x128 ![] bcast_S_S16x128x128 main_cst_2
  let main_v10 : IVec S16x128x128 1 := cmpf .olt main_v8 main_v9
  let main_c_3 : IVec S_ 1 := constantI S_ 1 1#1
  let main_v11 : IVec S_ 1 := (fun x v => Host.reduce IntOp.andi x v reducesTo_S16x128x128_S_d0_1_2 h_S_) main_v10 main_c_3
  let main_v12 : FVec F S16x128 .f32 := Host.absf main_arg3
  let main_cst_4 : FVec F S_ .f32 := constant S_ .f32 0x7F800000#32
  let main_v13 : FVec F S16x128 .f32 := broadcastInDim S16x128 ![] bcast_S_S16x128 main_cst_4
  let main_v14 : IVec S16x128 1 := cmpf .olt main_v12 main_v13
  let main_c_5 : IVec S_ 1 := constantI S_ 1 1#1
  let main_v15 : IVec S_ 1 := (fun x v => Host.reduce IntOp.andi x v reducesTo_S16x128_S_d0_1 h_S_) main_v14 main_c_5
  fn_part1 (F := F) main_arg4 main_v3 main_v7 main_v11 main_v15
-- ==== Pre_finite_up.lean ====
abbrev S4096x2048 : Shape := ⟨2, ![4096, 2048]⟩
abbrev S2048x5632 : Shape := ⟨2, ![2048, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S4096x2048 .bf16) (main_arg1 : FVec F S2048x5632 .bf16) (main_arg2 : FVec F S2048x5632 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S2048x5632 .f32 := (extf .f32 · bitsLt_bf16_f32) main_arg1
  let main_v6 : FVec F S2048x5632 .f32 := Host.absf main_v5
  let main_cst_0 : FVec F S_ .f32 := constant S_ .f32 0x7F800000#32
  let main_v7 : FVec F S2048x5632 .f32 := broadcastInDim S2048x5632 ![] bcast_S_S2048x5632 main_cst_0
  let main_v8 : IVec S2048x5632 1 := cmpf .olt main_v6 main_v7
  let main_c_1 : IVec S_ 1 := constantI S_ 1 1#1
  let main_v9 : IVec S_ 1 := (fun x v => Host.reduce IntOp.andi x v reducesTo_S2048x5632_S_d0_1 h_S_) main_v8 main_c_1
  let main_v10 : FVec F S2048x5632 .f32 := (extf .f32 · bitsLt_bf16_f32) main_arg2
  let main_v11 : FVec F S2048x5632 .f32 := Host.absf main_v10
  let main_cst_2 : FVec F S_ .f32 := constant S_ .f32 0x7F800000#32
  let main_v12 : FVec F S2048x5632 .f32 := broadcastInDim S2048x5632 ![] bcast_S_S2048x5632 main_cst_2
  let main_v13 : IVec S2048x5632 1 := cmpf .olt main_v11 main_v12
  let main_c_3 : IVec S_ 1 := constantI S_ 1 1#1
  let main_v14 : IVec S_ 1 := (fun x v => Host.reduce IntOp.andi x v reducesTo_S2048x5632_S_d0_1 h_S_) main_v13 main_c_3
  let main_v15 : IVec S_ 1 := andi main_v4 main_v9
  let main_v16 : IVec S_ 1 := andi main_v15 main_v14
  main_v16
-- ==== Kernel.lean ====
abbrev S4096x4096 : Shape := ⟨2, ![4096, 4096]⟩
abbrev S1x2048 : Shape := ⟨2, ![1, 2048]⟩
abbrev S16x128x128 : Shape := ⟨3, ![16, 128, 128]⟩
abbrev S16x128 : Shape := ⟨2, ![16, 128]⟩
abbrev S4096x2048 : Shape := ⟨2, ![4096, 2048]⟩
abbrev S_ : Shape := ⟨0, ![]⟩
abbrev S128x16 : Shape := ⟨2, ![128, 16]⟩
abbrev S128x16x128 : Shape := ⟨3, ![128, 16, 128]⟩
abbrev S128x2048 : Shape := ⟨2, ![128, 2048]⟩
abbrev S128x4096 : Shape := ⟨2, ![128, 4096]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩
abbrev S2048 : Shape := ⟨1, ![2048]⟩

abbrev nBuf : Space → Nat
  | .hbm => 59
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S1x2048, .f32⟩
  | .hbm, ⟨2, _⟩ => ⟨S16x128x128, .f32⟩
  | .hbm, ⟨3, _⟩ => ⟨S16x128, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S128x16, .f32⟩
  | .hbm, ⟨51, _⟩ => ⟨S128x16x128, .f32⟩
  | .hbm, ⟨52, _⟩ => ⟨S128x2048, .f32⟩
  | .hbm, ⟨53, _⟩ => ⟨S4096x4096, .bf16⟩
  | .hbm, ⟨54, _⟩ => ⟨S16x128x128, .f32⟩
  | .hbm, ⟨55, _⟩ => ⟨S4096x4096, .bf16⟩
  | .hbm, ⟨56, _⟩ => ⟨S16x128x128, .f32⟩
  | .hbm, ⟨57, _⟩ => ⟨S128x2048, .f32⟩
  | .hbm, ⟨58, _⟩ => ⟨S1x2048, .f32⟩
  | .local _ .vmem, ⟨0, _⟩ => ⟨S128x4096, .f32⟩
  | .local _ .vmem, ⟨1, _⟩ => ⟨S128x4096, .f32⟩
  | .local _ .vmem, ⟨2, _⟩ => ⟨S128x4096, .bf16⟩
  | .local _ .vmem, ⟨3, _⟩ => ⟨S128x4096, .bf16⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S16x128x128, .f32⟩
  | .local _ .vmem, ⟨8, _⟩ => ⟨S16x128x128, .f32⟩
  | .local _ .vmem, ⟨9, _⟩ => ⟨S128x2048, .f32⟩
  | .local _ .vmem, ⟨10, _⟩ => ⟨S128x4096, .bf16⟩
  | .local _ .vmem, ⟨11, _⟩ => ⟨S128x4096, .bf16⟩
  | .local _ .vmem, ⟨12, _⟩ => ⟨S16x128x128, .f32⟩
  | .local _ .vmem, ⟨13, _⟩ => ⟨S128x2048, .f32⟩
  | .local _ .vmem, ⟨14, _⟩ => ⟨S1x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39_0 : Ref sig .tc := ⟨.hbm, 55, rfl⟩
abbrev main_v39_1 : Ref sig .tc := ⟨.hbm, 56, rfl⟩
abbrev main_v39_2 : Ref sig .tc := ⟨.hbm, 57, rfl⟩
abbrev main_v39_3 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x4096 : Shape := ⟨2, ![4096, 4096]⟩
abbrev S1x2048 : Shape := ⟨2, ![1, 2048]⟩
abbrev S16x128x128 : Shape := ⟨3, ![16, 128, 128]⟩
abbrev S16x128 : Shape := ⟨2, ![16, 128]⟩
abbrev S4096x2048 : Shape := ⟨2, ![4096, 2048]⟩
abbrev S128x16 : Shape := ⟨2, ![128, 16]⟩
abbrev S128x16x128 : Shape := ⟨3, ![128, 16, 128]⟩
abbrev S128x2048 : Shape := ⟨2, ![128, 2048]⟩
abbrev S_ : Shape := ⟨0, ![]⟩
abbrev S4096 : Shape := ⟨1, ![4096]⟩
abbrev S4096x1 : Shape := ⟨2, ![4096, 1]⟩
abbrev S1x32x128x16x128 : Shape := ⟨5, ![1, 32, 128, 16, 128]⟩
abbrev S128x128 : Shape := ⟨2, ![128, 128]⟩
abbrev S1x128x128 : Shape := ⟨3, ![1, 128, 128]⟩
abbrev S16x1x32x128x128 : Shape := ⟨5, ![16, 1, 32, 128, 128]⟩
abbrev S1x1x128x16x128 : Shape := ⟨5, ![1, 1, 128, 16, 128]⟩
abbrev S1x128x16x128 : Shape := ⟨4, ![1, 128, 16, 128]⟩
abbrev S2048 : Shape := ⟨1, ![2048]⟩

abbrev nBuf : Space → Nat
  | .hbm => 137
  | .vmem => 0
  | .smem => 0
  | _ => 0

abbrev hbmTy0_0 (i : Nat) : BufTy := match i % 128 with
  | 0 => ⟨S4096x4096, .f32⟩
  | 1 => ⟨S1x2048, .f32⟩
  | 2 => ⟨S16x128x128, .f32⟩
  | 3 => ⟨S16x128, .f32⟩
  | 4 => ⟨S4096x2048, .f32⟩
  | 5 => ⟨S128x16, .f32⟩
  | 6 => ⟨S128x16x128, .f32⟩
  | 7 => ⟨S128x2048, .f32⟩
  | 8 => ⟨S4096x4096, .f32⟩
  | 9 => ⟨S4096x4096, .f32⟩
  | 10 => ⟨S4096x4096, .f32⟩
  | 11 => ⟨S_, .f32⟩
  | 12 => ⟨S4096x4096, .f32⟩
  | 13 => ⟨S4096x4096, .f32⟩
  | 14 => ⟨S_, .f32⟩
  | 15 => ⟨S4096x4096, .f32⟩
  | 16 => ⟨S4096x4096, .f32⟩
  | 17 => ⟨S4096x4096, .f32⟩
  | 18 => ⟨S_, .f32⟩
  | 19 => ⟨S4096x4096, .f32⟩
  | 20 => ⟨S4096x4096, .f32⟩
  | 21 => ⟨S4096x4096, .f32⟩
  | 22 => ⟨S_, .f32⟩
  | 23 => ⟨S4096x4096, .f32⟩
  | 24 => ⟨S4096x4096, .f32⟩
  | 25 => ⟨S_, .f32⟩
  | 26 => ⟨S4096x4096, .f32⟩
  | 27 => ⟨S4096x4096, .f32⟩
  | 28 => ⟨S4096x4096, .f32⟩
  | 29 => ⟨S_, .f32⟩
  | 30 => ⟨S4096x4096, .f32⟩
  | 31 => ⟨S4096x4096, .f32⟩
  | 32 => ⟨S_, .f32⟩
  | 33 => ⟨S4096x4096, .f32⟩
  | 34 => ⟨S4096x4096, .f32⟩
  | 35 => ⟨S4096x4096, .f32⟩
  | 36 => ⟨S4096x2048, .f32⟩
  | 37 => ⟨S4096x2048, .f32⟩
  | 38 => ⟨S4096x2048, .f32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x2048, .f32⟩
  | 54 => ⟨S4096x2048, .f32⟩
  | 55 => ⟨S4096x2048, .f32⟩
  | 56 => ⟨S4096x2048, .f32⟩
  | 57 => ⟨S1x32x128x16x128, .f32⟩
  | 58 => ⟨S_, .f32⟩
  | 59 => ⟨S128x128, .f32⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S_, .f32⟩
  | 67 => ⟨S128x128, .f32⟩
  | 68 => ⟨S128x128, .f32⟩
  | 69 => ⟨S1x128x128, .f32⟩
  | 70 => ⟨S16x128x128, .f32⟩
  | 71 => ⟨S16x128x128, .f32⟩
  | 72 => ⟨S16x1x32x128x128, .f32⟩
  | 73 => ⟨S1x32x128x16x128, .f32⟩
  | 74 => ⟨S1x1x128x16x128, .f32⟩
  | 75 => ⟨S1x32x128x16x128, .f32⟩
  | 76 => ⟨S1x32x128x16x128, .f32⟩
  | 77 => ⟨S4096x2048, .f32⟩
  | 78 => ⟨S4096x2048, .f32⟩
  | 79 => ⟨S4096x2048, .f32⟩
  | 80 => ⟨S4096x2048, .f32⟩
  | 81 => ⟨S1x32x128x16x128, .f32⟩
  | 82 => ⟨S_, .f32⟩
  | 83 => ⟨S1x128x16x128, .f32⟩
  | 84 => ⟨S1x1x128x16x128, .f32⟩
  | 85 => ⟨S128x2048, .f32⟩
  | 86 => ⟨S16x1x32x128x128, .f32⟩
  | 87 => ⟨S16x128x128, .f32⟩
  | 88 => ⟨S16x1x32x128x128, .f32⟩
  | 89 => ⟨S1x32x128x16x128, .f32⟩
  | 90 => ⟨S16x128x128, .f32⟩
  | 91 => ⟨S16x128x128, .f32⟩
  | 92 => ⟨S4096x2048, .f32⟩
  | 93 => ⟨S4096x2048, .f32⟩
  | 94 => ⟨S_, .f32⟩
  | 95 => ⟨S2048, .f32⟩
  | 96 => ⟨S1x2048, .f32⟩
  | 97 => ⟨S4096x2048, .f32⟩
  | 98 => ⟨S4096x2048, .f32⟩
  | 99 => ⟨S4096x2048, .f32⟩
  | 100 => ⟨S_, .f32⟩
  | 101 => ⟨S4096, .f32⟩
  | 102 => ⟨S4096x1, .f32⟩
  | 103 => ⟨S4096x2048, .f32⟩
  | 104 => ⟨S4096x2048, .f32⟩
  | 105 => ⟨S4096x1, .f32⟩
  | 106 => ⟨S_, .f32⟩
  | 107 => ⟨S4096x1, .f32⟩
  | 108 => ⟨S4096x1, .f32⟩
  | 109 => ⟨S_, .f32⟩
  | 110 => ⟨S4096, .f32⟩
  | 111 => ⟨S4096x2048, .f32⟩
  | 112 => ⟨S4096x2048, .f32⟩
  | 113 => ⟨S4096x2048, .f32⟩
  | 114 => ⟨S4096x2048, .f32⟩
  | 115 => ⟨S4096x2048, .f32⟩
  | 116 => ⟨S_, .f32⟩
  | 117 => ⟨S4096x4096, .f32⟩
  | 118 => ⟨S_, .f32⟩
  | 119 => ⟨S4096x4096, .f32⟩
  | 120 => ⟨S4096x4096, .f32⟩
  | 121 => ⟨S4096x4096, .f32⟩
  | 122 => ⟨S4096x4096, .f32⟩
  | 123 => ⟨S_, .f32⟩
  | 124 => ⟨S4096x4096, .f32⟩
  | 125 => ⟨S4096x4096, .f32⟩
  | 126 => ⟨S4096x4096, .f32⟩
  | 127 => ⟨S_, .f32⟩
  | _ => ⟨S4096x4096, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S_, .f32⟩
  | 4 => ⟨S4096x4096, .f32⟩
  | 5 => ⟨S4096x4096, .f32⟩
  | 6 => ⟨S4096x4096, .f32⟩
  | 7 => ⟨S4096x4096, .f32⟩
  | 8 => ⟨S4096x4096, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_cst : Ref sig .tc := ⟨.hbm, 66, rfl⟩
abbrev main_call0_v5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_14 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_16 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_18 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_19 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_20 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩

abbrev nD : Nat := 1
abbrev τ : Topo := Topo.v7x

variable {F : FTy → Type} [FloatOps F]
-- ==== Kernel2.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 34
  | .vmem => 12
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S5632x2048, .bf16⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .bf16⟩
  | .hbm, ⟨30, _⟩ => ⟨S4096x5632, .bf16⟩
  | .hbm, ⟨31, _⟩ => ⟨S4096x5632, .bf16⟩
  | .hbm, ⟨32, _⟩ => ⟨S4096x5632, .bf16⟩
  | .hbm, ⟨33, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11_0 : Ref sig .tc := ⟨.hbm, 32, rfl⟩
abbrev main_v11_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S5632x2048, .bf16⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S5632x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .bf16⟩
  | .hbm, ⟨34, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩

abbrev nD : Nat := 1
abbrev τ : Topo := Topo.v7x

variable {F : FTy → Type} [FloatOps F]
-- ==== Kernel3.lean ====
abbrev S4096x2048 : Shape := ⟨2, ![4096, 2048]⟩
abbrev S4096x5632 : Shape := ⟨2, ![4096, 5632]⟩
abbrev S2048x5632 : Shape := ⟨2, ![2048, 5632]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S2048x5632, .bf16⟩
  | .hbm, ⟨4, _⟩ => ⟨S2048x5632, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S_, .f32⟩
  | .hbm, ⟨4, _⟩ => ⟨S2048x5632, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S5632x2048, .f32⟩
  | .hbm, ⟨11, _⟩ => ⟨S2048x5632, .f32⟩
  | .hbm, ⟨12, _⟩ => ⟨S5632x2048, .f32⟩
  | .hbm, ⟨13, _⟩ => ⟨S2048x5632, .f32⟩
  | .hbm, ⟨14, _⟩ => ⟨S2048x5632, .bf16⟩
  | .hbm, ⟨15, _⟩ => ⟨S2048x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel4.lean ====
abbrev S2048x5632 : Shape := ⟨2, ![2048, 5632]⟩
abbrev S4096x5632 : Shape := ⟨2, ![4096, 5632]⟩
abbrev S4096x2048 : Shape := ⟨2, ![4096, 2048]⟩
abbrev S512x5632 : Shape := ⟨2, ![512, 5632]⟩
abbrev S256x5632 : Shape := ⟨2, ![256, 5632]⟩
abbrev S512x256 : Shape := ⟨2, ![512, 256]⟩

abbrev nBuf : Space → Nat
  | .hbm => 5
  | .vmem => 10
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4096x5632, .bf16⟩
  | .hbm, ⟨3, _⟩ => ⟨S4096x5632, .bf16⟩
  | .hbm, ⟨4, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S512x5632, .bf16⟩
  | .local _ .vmem, ⟨3, _⟩ => ⟨S512x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | .local _ .vmem, ⟨7, _⟩ => ⟨S256x5632, .bf16⟩
  | .local _ .vmem, ⟨8, _⟩ => ⟨S512x256, .f32⟩
  | .local _ .vmem, ⟨9, _⟩ => ⟨S512x256, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S2048x5632 : Shape := ⟨2, ![2048, 5632]⟩
abbrev S4096x5632 : Shape := ⟨2, ![4096, 5632]⟩
abbrev S_ : Shape := ⟨0, ![]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4096x5632, .bf16⟩
  | .hbm, ⟨3, _⟩ => ⟨S4096x5632, .bf16⟩
  | .hbm, ⟨4, _⟩ => ⟨S_, .f32⟩
  | .hbm, ⟨5, _⟩ => ⟨S4096x2048, .f32⟩
  | .hbm, ⟨6, _⟩ => ⟨S2048x5632, .f32⟩
  | .hbm, ⟨7, _⟩ => ⟨S4096x5632, .f32⟩
  | .hbm, ⟨8, _⟩ => ⟨S2048x5632, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S4096x512 : Shape := ⟨2, ![4096, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S2048x5632, .f32⟩
  | .hbm, ⟨13, _⟩ => ⟨S5632x2048, .f32⟩
  | .hbm, ⟨14, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S4096x2048 : Shape := ⟨2, ![4096, 2048]⟩
abbrev S2048x5632 : Shape := ⟨2, ![2048, 5632]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S2048x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S_, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | .hbm, ⟨31, _⟩ => ⟨S4096x5632, .bf16⟩
  | .hbm, ⟨32, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel7.lean ====
abbrev S4096x2048 : Shape := ⟨2, ![4096, 2048]⟩
abbrev S4096x5632 : Shape := ⟨2, ![4096, 5632]⟩
abbrev S5632x2048 : Shape := ⟨2, ![5632, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S5632x2048, .bf16⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2048 : Shape := ⟨2, ![4096, 2048]⟩
abbrev S4096x5632 : Shape := ⟨2, ![4096, 5632]⟩
abbrev S5632x2048 : Shape := ⟨2, ![5632, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S5632x2048, .bf16⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x2048 : Shape := ⟨2, ![2048, 2048]⟩
abbrev S4096x2048 : Shape := ⟨2, ![4096, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x2048 : Shape := ⟨2, ![4096, 2048]⟩
abbrev S4096x4096 : Shape := ⟨2, ![4096, 4096]⟩
abbrev S2048x4096 : Shape := ⟨2, ![2048, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S2048x4096 : Shape := ⟨2, ![2048, 4096]⟩
abbrev S4096x4096 : Shape := ⟨2, ![4096, 4096]⟩
abbrev S4096x2048 : Shape := ⟨2, ![4096, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4096x4096, .bf16⟩
  | .hbm, ⟨2, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x4096 : Shape := ⟨2, ![2048, 4096]⟩
abbrev S4096x4096 : Shape := ⟨2, ![4096, 4096]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x4096, .bf16⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x2048 : Shape := ⟨2, ![4096, 2048]⟩
abbrev S2048x12288 : Shape := ⟨2, ![2048, 12288]⟩
abbrev S4096x12288 : Shape := ⟨2, ![4096, 12288]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .bf16⟩
  | .hbm, ⟨2, _⟩ => ⟨S4096x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x12288 : Shape := ⟨2, ![2048, 12288]⟩
abbrev S4096x12288 : Shape := ⟨2, ![4096, 12288]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .bf16⟩
  | .hbm, ⟨2, _⟩ => ⟨S4096x2048, .f32⟩
  | .hbm, ⟨3, _⟩ => ⟨S2048x12288, .f32⟩
  | .hbm, ⟨4, _⟩ => ⟨S4096x12288, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4096x2048 : Shape := ⟨2, ![4096, 2048]⟩
abbrev S4096x12288 : Shape := ⟨2, ![4096, 12288]⟩
abbrev S2048x12288 : Shape := ⟨2, ![2048, 12288]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x12288, .bf16⟩
  | .hbm, ⟨2, _⟩ => ⟨S2048x12288, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S4096x12288 : Shape := ⟨2, ![4096, 12288]⟩
abbrev S_ : Shape := ⟨0, ![]⟩
abbrev S2048x12288 : Shape := ⟨2, ![2048, 12288]⟩
abbrev S12288x2048 : Shape := ⟨2, ![12288, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x12288, .bf16⟩
  | .hbm, ⟨2, _⟩ => ⟨S_, .f32⟩
  | .hbm, ⟨3, _⟩ => ⟨S2048x12288, .f32⟩
  | .hbm, ⟨4, _⟩ => ⟨S4096x2048, .f32⟩
  | .hbm, ⟨5, _⟩ => ⟨S4096x12288, .f32⟩
  | .hbm, ⟨6, _⟩ => ⟨S4096x12288, .f32⟩
  | .hbm, ⟨7, _⟩ => ⟨S12288x2048, .f32⟩
  | .hbm, ⟨8, _⟩ => ⟨S2048x12288, .f32⟩
  | .hbm, ⟨9, _⟩ => ⟨S2048x12288, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S2048x12288 : Shape := ⟨2, ![2048, 12288]⟩
abbrev S4096x12288 : Shape := ⟨2, ![4096, 12288]⟩
abbrev S4096x2048 : Shape := ⟨2, ![4096, 2048]⟩
abbrev S512x12288 : Shape := ⟨2, ![512, 12288]⟩
abbrev S256x12288 : Shape := ⟨2, ![256, 12288]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x12288, .bf16⟩
  | .hbm, ⟨1, _⟩ => ⟨S4096x12288, .bf16⟩
  | .hbm, ⟨2, _⟩ => ⟨S4096x2048, .f32⟩
  | .local _ .vmem, ⟨0, _⟩ => ⟨S512x12288, .bf16⟩
  | .local _ .vmem, ⟨1, _⟩ => ⟨S512x12288, .bf16⟩
  | .local _ .vmem, ⟨2, _⟩ => ⟨S256x12288, .bf16⟩
  | .local _ .vmem, ⟨3, _⟩ => ⟨S256x12288, .bf16⟩
  | .local _ .vmem, ⟨4, _⟩ => ⟨S512x256, .f32⟩
  | .local _ .vmem, ⟨5, _⟩ => ⟨S512x256, .f32⟩
  | _, _ => ⟨S2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x12288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x12288 : Shape := ⟨2, ![2048, 12288]⟩
abbrev S4096x12288 : Shape := ⟨2, ![4096, 12288]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x12288, .bf16⟩
  | .hbm, ⟨1, _⟩ => ⟨S4096x12288, .bf16⟩
  | .hbm, ⟨2, _⟩ => ⟨S_, .f32⟩
  | .hbm, ⟨3, _⟩ => ⟨S4096x2048, .f32⟩
  | .hbm, ⟨4, _⟩ => ⟨S2048x12288, .f32⟩
  | .hbm, ⟨5, _⟩ => ⟨S4096x12288, .f32⟩
  | .hbm, ⟨6, _⟩ => ⟨S4096x12288, .f32⟩
  | .hbm, ⟨7, _⟩ => ⟨S4096x2048, .f32⟩
  | _, _ => ⟨S2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x2048 : Shape := ⟨2, ![4096, 2048]⟩
abbrev S4096x6144 : Shape := ⟨2, ![4096, 6144]⟩
abbrev S2048x6144 : Shape := ⟨2, ![2048, 6144]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S2048x6144 : Shape := ⟨2, ![2048, 6144]⟩
abbrev S4096x6144 : Shape := ⟨2, ![4096, 6144]⟩
abbrev S4096x2048 : Shape := ⟨2, ![4096, 2048]⟩
abbrev S1024x6144 : Shape := ⟨2, ![1024, 6144]⟩
abbrev S512x6144 : Shape := ⟨2, ![512, 6144]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x6144, .bf16⟩
  | .hbm, ⟨1, _⟩ => ⟨S4096x6144, .bf16⟩
  | .hbm, ⟨2, _⟩ => ⟨S4096x2048, .f32⟩
  | .local _ .vmem, ⟨0, _⟩ => ⟨S1024x6144, .bf16⟩
  | .local _ .vmem, ⟨1, _⟩ => ⟨S1024x6144, .bf16⟩
  | .local _ .vmem, ⟨2, _⟩ => ⟨S512x6144, .bf16⟩
  | .local _ .vmem, ⟨3, _⟩ => ⟨S512x6144, .bf16⟩
  | .local _ .vmem, ⟨4, _⟩ => ⟨S1024x512, .f32⟩
  | .local _ .vmem, ⟨5, _⟩ => ⟨S1024x512, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x6144 : Shape := ⟨2, ![2048, 6144]⟩
abbrev S4096x6144 : Shape := ⟨2, ![4096, 6144]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S4096x6144, .bf16⟩
  | .hbm, ⟨2, _⟩ => ⟨S_, .f32⟩
  | .hbm, ⟨3, _⟩ => ⟨S4096x2048, .f32⟩
  | .hbm, ⟨4, _⟩ => ⟨S2048x6144, .f32⟩
  | .hbm, ⟨5, _⟩ => ⟨S4096x6144, .f32⟩
  | .hbm, ⟨6, _⟩ => ⟨S4096x6144, .f32⟩
  | .hbm, ⟨7, _⟩ => ⟨S4096x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S4096x6144 : Shape := ⟨2, ![4096, 6144]⟩
abbrev S4096x2048 : Shape := ⟨2, ![4096, 2048]⟩
abbrev S4096x128 : Shape := ⟨2, ![4096, 128]⟩
abbrev S128x2048 : Shape := ⟨2, ![128, 2048]⟩
abbrev S128x128 : Shape := ⟨2, ![128, 128]⟩
abbrev S128x256 : Shape := ⟨2, ![128, 256]⟩
abbrev S256x128 : Shape := ⟨2, ![256, 128]⟩
abbrev S128 : Shape := ⟨1, ![128]⟩
abbrev S128x1 : Shape := ⟨2, ![128, 1]⟩

abbrev nBuf : Space → Nat
  | .hbm => 5
  | .vmem => 14
  | .smem => 0
  | _ => 0

abbrev bufTy : (tb : Table) → Fin (tcTables nBuf tb) → BufTy
  | .hbm, ⟨0, _⟩ => ⟨S4096x6144, .bf16⟩
  | .hbm, ⟨1, _⟩ => ⟨S4096x6144, .bf16⟩
  | .hbm, ⟨2, _⟩ => ⟨S4096x6144, .bf16⟩
  | .hbm, ⟨3, _⟩ => ⟨S4096x2048, .f32⟩
  | .hbm, ⟨4, _⟩ => ⟨S4096x128, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .f32⟩
  | .local _ .vmem, ⟨11, _⟩ => ⟨S128x2048, .f32⟩
  | .local _ .vmem, ⟨12, _⟩ => ⟨S128x128, .f32⟩
  | .local _ .vmem, ⟨13, _⟩ => ⟨S128x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli arg0 c3_i32
  let c0_i32_0 : BitVec 32 := 0#32
  let v3 : BitVec 32 := Scalar.addi v2 c0_i32_0
  let c0_i32_1 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli arg0 c3_i32
  let c0_i32_0 : BitVec 32 := 0#32
  let v3 : BitVec 32 := Scalar.addi v2 c0_i32_0
  let c0_i32_1 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S4096x6144 : Shape := ⟨2, ![4096, 6144]⟩
abbrev S16 : Shape := ⟨1, ![16]⟩
abbrev S1x4096x3x16x128 : Shape := ⟨5, ![1, 4096, 3, 16, 128]⟩
abbrev S1x4096x1x16x128 : Shape := ⟨5, ![1, 4096, 1, 16, 128]⟩
abbrev S1x4096x16x128 : Shape := ⟨4, ![1, 4096, 16, 128]⟩
abbrev S1x1x4096x16x128 : Shape := ⟨5, ![1, 1, 4096, 16, 128]⟩
abbrev S_ : Shape := ⟨0, ![]⟩
abbrev S1x32x128x16x128 : Shape := ⟨5, ![1, 32, 128, 16, 128]⟩
abbrev S1x4224x16x128 : Shape := ⟨4, ![1, 4224, 16, 128]⟩
abbrev S1x32x256x16x128 : Shape := ⟨5, ![1, 32, 256, 16, 128]⟩
abbrev S1x32x16x128x256 : Shape := ⟨5, ![1, 32, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S16x1x1 : Shape := ⟨3, ![16, 1, 1]⟩
abbrev S16x128x256 : Shape := ⟨3, ![16, 128, 256]⟩
abbrev S1x32x1x128x256 : Shape := ⟨5, ![1, 32, 1, 128, 256]⟩
abbrev S1x1x16x128x256 : Shape := ⟨5, ![1, 1, 16, 128, 256]⟩
abbrev S1x32x16x128 : Shape := ⟨4, ![1, 32, 16, 128]⟩
abbrev S1x32x16x128x1 : Shape := ⟨5, ![1, 32, 16, 128, 1]⟩
abbrev S1x32x16x128x128 : Shape := ⟨5, ![1, 32, 16, 128, 128]⟩
abbrev S1x32x128x16 : Shape := ⟨4, ![1, 32, 128, 16]⟩
abbrev S1x4096x16 : Shape := ⟨3, ![1, 4096, 16]⟩
abbrev S1x1x4096x16 : Shape := ⟨4, ![1, 1, 4096, 16]⟩
abbrev S1x4096x1x16 : Shape := ⟨4, ![1, 4096, 1, 16]⟩
abbrev S4096x16 : Shape := ⟨2, ![4096, 16]⟩
abbrev S4096x128 : Shape := ⟨2, ![4096, 128]⟩
abbrev S4096x2048 : Shape := ⟨2, ![4096, 2048]⟩

abbrev nBuf : Space → Nat
  | .hbm => 130
  | .vmem => 0
  | .smem => 0
  | _ => 0

abbrev hbmTy0_0 (i : Nat) : BufTy := match i % 128 with
  | 0 => ⟨S4096x6144, .bf16⟩
  | 1 => ⟨S4096x6144, .bf16⟩
  | 2 => ⟨S4096x6144, .bf16⟩
  | 3 => ⟨S16, .f32⟩
  | 4 => ⟨S1x4096x3x16x128, .bf16⟩
  | 5 => ⟨S1x4096x1x16x128, .bf16⟩
  | 6 => ⟨S1x4096x16x128, .bf16⟩
  | 7 => ⟨S1x4096x3x16x128, .bf16⟩
  | 8 => ⟨S1x4096x1x16x128, .bf16⟩
  | 9 => ⟨S1x4096x16x128, .bf16⟩
  | 10 => ⟨S1x4096x3x16x128, .bf16⟩
  | 11 => ⟨S1x4096x1x16x128, .bf16⟩
  | 12 => ⟨S1x4096x16x128, .bf16⟩
  | 13 => ⟨S1x4096x1x16x128, .bf16⟩
  | 14 => ⟨S1x1x4096x16x128, .bf16⟩
  | 15 => ⟨S1x4096x16x128, .bf16⟩
  | 16 => ⟨S_, .i32⟩
  | 17 => ⟨S_, .bf16⟩
  | 18 => ⟨S1x4096x16x128, .bf16⟩
  | 19 => ⟨S1x32x128x16x128, .bf16⟩
  | 20 => ⟨S1x4096x1x16x128, .bf16⟩
  | 21 => ⟨S1x1x4096x16x128, .bf16⟩
  | 22 => ⟨S1x4096x16x128, .bf16⟩
  | 23 => ⟨S_, .i32⟩
  | 24 => ⟨S_, .bf16⟩
  | 25 => ⟨S1x4224x16x128, .bf16⟩
  | 26 => ⟨S1x4096x16x128, .bf16⟩
  | 27 => ⟨S1x32x128x16x128, .bf16⟩
  | 28 => ⟨S1x4096x16x128, .bf16⟩
  | 29 => ⟨S1x32x128x16x128, .bf16⟩
  | 30 => ⟨S1x32x256x16x128, .bf16⟩
  | 31 => ⟨S1x4096x1x16x128, .bf16⟩
  | 32 => ⟨S1x1x4096x16x128, .bf16⟩
  | 33 => ⟨S1x4096x16x128, .bf16⟩
  | 34 => ⟨S_, .i32⟩
  | 35 => ⟨S_, .bf16⟩
  | 36 => ⟨S1x4224x16x128, .bf16⟩
  | 37 => ⟨S1x4096x16x128, .bf16⟩
  | 38 => ⟨S1x32x128x16x128, .bf16⟩
  | 39 => ⟨S1x4096x16x128, .bf16⟩
  | 40 => ⟨S1x32x128x16x128, .bf16⟩
  | 41 => ⟨S1x32x256x16x128, .bf16⟩
  | 42 => ⟨S1x32x16x128x256, .f32⟩
  | 43 => ⟨S128, .i32⟩
  | 44 => ⟨S128x1, .i32⟩
  | 45 => ⟨S256, .i32⟩
  | 46 => ⟨S1x256, .i32⟩
  | 47 => ⟨S_, .i32⟩
  | 48 => ⟨S128x1, .i32⟩
  | 49 => ⟨S128x1, .i32⟩
  | 50 => ⟨S128x256, .i32⟩
  | 51 => ⟨S128x256, .i32⟩
  | 52 => ⟨S128x256, .i32⟩
  | 53 => ⟨S32, .i32⟩
  | 54 => ⟨S32x1x1, .i32⟩
  | 55 => ⟨S_, .i32⟩
  | 56 => ⟨S32x1x1, .i32⟩
  | 57 => ⟨S32x1x1, .i32⟩
  | 58 => ⟨S_, .i32⟩
  | 59 => ⟨S32x1x1, .i32⟩
  | 60 => ⟨S32x1x1, .i32⟩
  | 61 => ⟨S1x1x256, .i32⟩
  | 62 => ⟨S32x1x256, .i32⟩
  | 63 => ⟨S32x1x256, .i32⟩
  | 64 => ⟨S32x1x256, .i32⟩
  | 65 => ⟨S_, .i32⟩
  | 66 => ⟨S128x256, .i32⟩
  | 67 => ⟨S128x256, .i1⟩
  | 68 => ⟨S1x128x256, .i1⟩
  | 69 => ⟨S_, .i32⟩
  | 70 => ⟨S128x256, .i32⟩
  | 71 => ⟨S128x256, .i1⟩
  | 72 => ⟨S1x128x256, .i1⟩
  | 73 => ⟨S1x128x256, .i1⟩
  | 74 => ⟨S_, .i32⟩
  | 75 => ⟨S32x1x256, .i32⟩
  | 76 => ⟨S32x1x256, .i1⟩
  | 77 => ⟨S32x128x256, .i1⟩
  | 78 => ⟨S32x128x256, .i1⟩
  | 79 => ⟨S32x128x256, .i1⟩
  | 80 => ⟨S16x1x1, .f32⟩
  | 81 => ⟨S16x1x1, .f32⟩
  | 82 => ⟨S_, .i32⟩
  | 83 => ⟨S128x256, .i32⟩
  | 84 => ⟨S128x256, .i32⟩
  | 85 => ⟨S128x256, .f32⟩
  | 86 => ⟨S1x128x256, .f32⟩
  | 87 => ⟨S16x128x256, .f32⟩
  | 88 => ⟨S16x128x256, .f32⟩
  | 89 => ⟨S16x128x256, .f32⟩
  | 90 => ⟨S1x32x1x128x256, .i1⟩
  | 91 => ⟨S1x1x16x128x256, .f32⟩
  | 92 => ⟨S1x32x16x128x256, .f32⟩
  | 93 => ⟨S1x32x16x128x256, .f32⟩
  | 94 => ⟨S_, .f32⟩
  | 95 => ⟨S_, .f32⟩
  | 96 => ⟨S1x32x16x128x256, .i1⟩
  | 97 => ⟨S1x32x16x128x256, .f32⟩
  | 98 => ⟨S1x32x16x128x256, .f32⟩
  | 99 => ⟨S_, .f32⟩
  | 100 => ⟨S1x32x16x128, .f32⟩
  | 101 => ⟨S1x32x16x128x1, .f32⟩
  | 102 => ⟨S1x32x16x128x256, .f32⟩
  | 103 => ⟨S1x32x16x128x256, .f32⟩
  | 104 => ⟨S1x32x16x128x256, .f32⟩
  | 105 => ⟨S_, .f32⟩
  | 106 => ⟨S1x32x16x128, .f32⟩
  | 107 => ⟨S1x32x16x128x1, .f32⟩
  | 108 => ⟨S1x32x16x128x256, .f32⟩
  | 109 => ⟨S1x32x16x128x256, .f32⟩
  | 110 => ⟨S1x32x256x16x128, .f32⟩
  | 111 => ⟨S1x32x16x128x128, .f32⟩
  | 112 => ⟨S1x32x128x16x128, .f32⟩
  | 113 => ⟨S1x32x16x128x1, .f32⟩
  | 114 => ⟨S1x32x16x128x1, .f32⟩
  | 115 => ⟨S1x32x16x128, .f32⟩
  | 116 => ⟨S1x32x128x16, .f32⟩
  | 117 => ⟨S1x4096x16, .f32⟩
  | 118 => ⟨S1x4096x16x128, .f32⟩
  | 119 => ⟨S1x1x4096x16x128, .f32⟩
  | 120 => ⟨S1x4096x1x16x128, .f32⟩
  | 121 => ⟨S1x4096x16x128, .f32⟩
  | 122 => ⟨S1x1x4096x16, .f32⟩
  | 123 => ⟨S1x4096x1x16, .f32⟩
  | 124 => ⟨S1x4096x16, .f32⟩
  | 125 => ⟨S4096x16, .f32⟩
  | 126 => ⟨S_, .i32⟩
  | 127 => ⟨S_, .f32⟩
  | _ => ⟨S4096x6144, .bf16⟩

abbrev hbmTy0_1 (i : Nat) : BufTy := match i % 128 with
  | 0 => ⟨S4096x128, .f32⟩
  | 1 => ⟨S4096x2048, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_call1_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_1 : Ref sig .tc := ⟨.hbm, 34, rfl⟩
abbrev main_call2_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_3 : Ref sig .tc := ⟨.hbm, 55, rfl⟩
abbrev main_v44 : Ref sig .tc := ⟨.hbm, 56, rfl⟩
abbrev main_v45 : Ref sig .tc := ⟨.hbm, 57, rfl⟩
abbrev main_c_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_8 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v77 : Ref sig .tc := ⟨.hbm, 98, rfl⟩
abbrev main_cst_10 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_11 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_c_12 : Ref sig .tc := ⟨.hbm, 126, rfl⟩
abbrev main_call4_v0 : Ref sig .tc := ⟨.hbm, 127, rfl⟩
abbrev main_v103 : Ref sig .tc := ⟨.hbm, 128, rfl⟩
abbrev main_v104 : Ref sig .tc := ⟨.hbm, 129, rfl⟩

abbrev nD : Nat := 1
abbrev τ : Topo := Topo.v7x

variable {F : FTy → Type} [FloatOps F]
-- ==== Kernel20.lean ====
abbrev S4096x6144 : Shape := ⟨2, ![4096, 6144]⟩
abbrev S4096x2048 : Shape := ⟨2, ![4096, 2048]⟩
abbrev S1024x8192 : Shape := ⟨2, ![1024, 8192]⟩
abbrev S1024x512 : Shape := ⟨2, ![1024, 512]⟩
abbrev S128x2048 : Shape := ⟨2, ![128, 2048]⟩
abbrev S128x128 : Shape := ⟨2, ![128, 128]⟩
abbrev S128x256 : Shape := ⟨2, ![128, 256]⟩
abbrev S256x128 : Shape := ⟨2, ![256, 128]⟩
abbrev S128 : Shape := ⟨1, ![128]⟩
abbrev S128x1 : Shape := ⟨2, ![128, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x6144, .bf16⟩
  | .hbm, ⟨1, _⟩ => ⟨S4096x6144, .bf16⟩
  | .hbm, ⟨2, _⟩ => ⟨S4096x6144, .bf16⟩
  | .hbm, ⟨3, _⟩ => ⟨S4096x2048, .bf16⟩
  | .hbm, ⟨4, _⟩ => ⟨S1024x8192, .bf16⟩
  | .hbm, ⟨5, _⟩ => ⟨S4096x2048, .bf16⟩
  | .hbm, ⟨6, _⟩ => ⟨S1024x8192, .bf16⟩
  | .hbm, ⟨7, _⟩ => ⟨S4096x2048, .bf16⟩
  | .hbm, ⟨8, _⟩ => ⟨S1024x8192, .bf16⟩
  | .hbm, ⟨9, _⟩ => ⟨S1024x8192, .f32⟩
  | .hbm, ⟨10, _⟩ => ⟨S1024x512, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .f32⟩
  | .local _ .vmem, ⟨11, _⟩ => ⟨S128x2048, .f32⟩
  | .local _ .vmem, ⟨12, _⟩ => ⟨S128x128, .f32⟩
  | .local _ .vmem, ⟨13, _⟩ => ⟨S128x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let v2 : BitVec 32 := Scalar.muli arg0 c1_i32_0
  let c0_i32_1 : BitVec 32 := 0#32
  let v3 : BitVec 32 := Scalar.addi v2 c0_i32_1
  let c0_i32_2 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let v2 : BitVec 32 := Scalar.muli arg0 c1_i32_0
  let c0_i32_1 : BitVec 32 := 0#32
  let v3 : BitVec 32 := Scalar.addi v2 c0_i32_1
  let c0_i32_2 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S4096x6144 : Shape := ⟨2, ![4096, 6144]⟩
abbrev S16 : Shape := ⟨1, ![16]⟩
abbrev S1x4096x3x16x128 : Shape := ⟨5, ![1, 4096, 3, 16, 128]⟩
abbrev S1x4096x1x16x128 : Shape := ⟨5, ![1, 4096, 1, 16, 128]⟩
abbrev S1x4096x16x128 : Shape := ⟨4, ![1, 4096, 16, 128]⟩
abbrev S1x1024x4x16x128 : Shape := ⟨5, ![1, 1024, 4, 16, 128]⟩
abbrev S1x4x1024x16x128 : Shape := ⟨5, ![1, 4, 1024, 16, 128]⟩
abbrev S4x1024x16x128 : Shape := ⟨4, ![4, 1024, 16, 128]⟩
abbrev S_ : Shape := ⟨0, ![]⟩
abbrev S4x8x128x16x128 : Shape := ⟨5, ![4, 8, 128, 16, 128]⟩
abbrev S4x1152x16x128 : Shape := ⟨4, ![4, 1152, 16, 128]⟩
abbrev S4x8x256x16x128 : Shape := ⟨5, ![4, 8, 256, 16, 128]⟩
abbrev S4x8x16x128x256 : Shape := ⟨5, ![4, 8, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S16x1x1 : Shape := ⟨3, ![16, 1, 1]⟩
abbrev S16x128x256 : Shape := ⟨3, ![16, 128, 256]⟩
abbrev S1x8x1x128x256 : Shape := ⟨5, ![1, 8, 1, 128, 256]⟩
abbrev S1x1x16x128x256 : Shape := ⟨5, ![1, 1, 16, 128, 256]⟩
abbrev S4x8x16x128 : Shape := ⟨4, ![4, 8, 16, 128]⟩
abbrev S4x8x16x128x1 : Shape := ⟨5, ![4, 8, 16, 128, 1]⟩
abbrev S4x8x16x128x128 : Shape := ⟨5, ![4, 8, 16, 128, 128]⟩
abbrev S4x8x128x16 : Shape := ⟨4, ![4, 8, 128, 16]⟩
abbrev S4x1024x16 : Shape := ⟨3, ![4, 1024, 16]⟩
abbrev S1x4x1024x16 : Shape := ⟨4, ![1, 4, 1024, 16]⟩
abbrev S1x1024x4x16 : Shape := ⟨4, ![1, 1024, 4, 16]⟩
abbrev S1x4096x16 : Shape := ⟨3, ![1, 4096, 16]⟩
abbrev S4096x16 : Shape := ⟨2, ![4096, 16]⟩
abbrev S4096x128 : Shape := ⟨2, ![4096, 128]⟩
abbrev S1024x8192 : Shape := ⟨2, ![1024, 8192]⟩
abbrev S1024x512 : Shape := ⟨2, ![1024, 512]⟩

abbrev nBuf : Space → Nat
  | .hbm => 131
  | .vmem => 0
  | .smem => 0
  | _ => 0

abbrev hbmTy0_0 (i : Nat) : BufTy := match i % 128 with
  | 0 => ⟨S4096x6144, .bf16⟩
  | 1 => ⟨S4096x6144, .bf16⟩
  | 2 => ⟨S4096x6144, .bf16⟩
  | 3 => ⟨S16, .f32⟩
  | 4 => ⟨S1x4096x3x16x128, .bf16⟩
  | 5 => ⟨S1x4096x1x16x128, .bf16⟩
  | 6 => ⟨S1x4096x16x128, .bf16⟩
  | 7 => ⟨S1x4096x3x16x128, .bf16⟩
  | 8 => ⟨S1x4096x1x16x128, .bf16⟩
  | 9 => ⟨S1x4096x16x128, .bf16⟩
  | 10 => ⟨S1x4096x3x16x128, .bf16⟩
  | 11 => ⟨S1x4096x1x16x128, .bf16⟩
  | 12 => ⟨S1x4096x16x128, .bf16⟩
  | 13 => ⟨S1x1024x4x16x128, .bf16⟩
  | 14 => ⟨S1x4x1024x16x128, .bf16⟩
  | 15 => ⟨S4x1024x16x128, .bf16⟩
  | 16 => ⟨S_, .i32⟩
  | 17 => ⟨S_, .bf16⟩
  | 18 => ⟨S4x1024x16x128, .bf16⟩
  | 19 => ⟨S4x8x128x16x128, .bf16⟩
  | 20 => ⟨S1x1024x4x16x128, .bf16⟩
  | 21 => ⟨S1x4x1024x16x128, .bf16⟩
  | 22 => ⟨S4x1024x16x128, .bf16⟩
  | 23 => ⟨S_, .i32⟩
  | 24 => ⟨S_, .bf16⟩
  | 25 => ⟨S4x1152x16x128, .bf16⟩
  | 26 => ⟨S4x1024x16x128, .bf16⟩
  | 27 => ⟨S4x8x128x16x128, .bf16⟩
  | 28 => ⟨S4x1024x16x128, .bf16⟩
  | 29 => ⟨S4x8x128x16x128, .bf16⟩
  | 30 => ⟨S4x8x256x16x128, .bf16⟩
  | 31 => ⟨S1x1024x4x16x128, .bf16⟩
  | 32 => ⟨S1x4x1024x16x128, .bf16⟩
  | 33 => ⟨S4x1024x16x128, .bf16⟩
  | 34 => ⟨S_, .i32⟩
  | 35 => ⟨S_, .bf16⟩
  | 36 => ⟨S4x1152x16x128, .bf16⟩
  | 37 => ⟨S4x1024x16x128, .bf16⟩
  | 38 => ⟨S4x8x128x16x128, .bf16⟩
  | 39 => ⟨S4x1024x16x128, .bf16⟩
  | 40 => ⟨S4x8x128x16x128, .bf16⟩
  | 41 => ⟨S4x8x256x16x128, .bf16⟩
  | 42 => ⟨S4x8x16x128x256, .f32⟩
  | 43 => ⟨S128, .i32⟩
  | 44 => ⟨S128x1, .i32⟩
  | 45 => ⟨S256, .i32⟩
  | 46 => ⟨S1x256, .i32⟩
  | 47 => ⟨S_, .i32⟩
  | 48 => ⟨S128x1, .i32⟩
  | 49 => ⟨S128x1, .i32⟩
  | 50 => ⟨S128x256, .i32⟩
  | 51 => ⟨S128x256, .i32⟩
  | 52 => ⟨S128x256, .i32⟩
  | 53 => ⟨S8, .i32⟩
  | 54 => ⟨S8x1x1, .i32⟩
  | 55 => ⟨S_, .i32⟩
  | 56 => ⟨S8x1x1, .i32⟩
  | 57 => ⟨S8x1x1, .i32⟩
  | 58 => ⟨S_, .i32⟩
  | 59 => ⟨S8x1x1, .i32⟩
  | 60 => ⟨S8x1x1, .i32⟩
  | 61 => ⟨S1x1x256, .i32⟩
  | 62 => ⟨S8x1x256, .i32⟩
  | 63 => ⟨S8x1x256, .i32⟩
  | 64 => ⟨S8x1x256, .i32⟩
  | 65 => ⟨S_, .i32⟩
  | 66 => ⟨S128x256, .i32⟩
  | 67 => ⟨S128x256, .i1⟩
  | 68 => ⟨S1x128x256, .i1⟩
  | 69 => ⟨S_, .i32⟩
  | 70 => ⟨S128x256, .i32⟩
  | 71 => ⟨S128x256, .i1⟩
  | 72 => ⟨S1x128x256, .i1⟩
  | 73 => ⟨S1x128x256, .i1⟩
  | 74 => ⟨S_, .i32⟩
  | 75 => ⟨S8x1x256, .i32⟩
  | 76 => ⟨S8x1x256, .i1⟩
  | 77 => ⟨S8x128x256, .i1⟩
  | 78 => ⟨S8x128x256, .i1⟩
  | 79 => ⟨S8x128x256, .i1⟩
  | 80 => ⟨S16x1x1, .f32⟩
  | 81 => ⟨S16x1x1, .f32⟩
  | 82 => ⟨S_, .i32⟩
  | 83 => ⟨S128x256, .i32⟩
  | 84 => ⟨S128x256, .i32⟩
  | 85 => ⟨S128x256, .f32⟩
  | 86 => ⟨S1x128x256, .f32⟩
  | 87 => ⟨S16x128x256, .f32⟩
  | 88 => ⟨S16x128x256, .f32⟩
  | 89 => ⟨S16x128x256, .f32⟩
  | 90 => ⟨S1x8x1x128x256, .i1⟩
  | 91 => ⟨S1x1x16x128x256, .f32⟩
  | 92 => ⟨S4x8x16x128x256, .f32⟩
  | 93 => ⟨S4x8x16x128x256, .f32⟩
  | 94 => ⟨S_, .f32⟩
  | 95 => ⟨S_, .f32⟩
  | 96 => ⟨S4x8x16x128x256, .i1⟩
  | 97 => ⟨S4x8x16x128x256, .f32⟩
  | 98 => ⟨S4x8x16x128x256, .f32⟩
  | 99 => ⟨S_, .f32⟩
  | 100 => ⟨S4x8x16x128, .f32⟩
  | 101 => ⟨S4x8x16x128x1, .f32⟩
  | 102 => ⟨S4x8x16x128x256, .f32⟩
  | 103 => ⟨S4x8x16x128x256, .f32⟩
  | 104 => ⟨S4x8x16x128x256, .f32⟩
  | 105 => ⟨S_, .f32⟩
  | 106 => ⟨S4x8x16x128, .f32⟩
  | 107 => ⟨S4x8x16x128x1, .f32⟩
  | 108 => ⟨S4x8x16x128x256, .f32⟩
  | 109 => ⟨S4x8x16x128x256, .f32⟩
  | 110 => ⟨S4x8x256x16x128, .f32⟩
  | 111 => ⟨S4x8x16x128x128, .f32⟩
  | 112 => ⟨S4x8x128x16x128, .f32⟩
  | 113 => ⟨S4x8x16x128x1, .f32⟩
  | 114 => ⟨S4x8x16x128x1, .f32⟩
  | 115 => ⟨S4x8x16x128, .f32⟩
  | 116 => ⟨S4x8x128x16, .f32⟩
  | 117 => ⟨S4x1024x16, .f32⟩
  | 118 => ⟨S4x1024x16x128, .f32⟩
  | 119 => ⟨S1x4x1024x16x128, .f32⟩
  | 120 => ⟨S1x1024x4x16x128, .f32⟩
  | 121 => ⟨S1x4096x16x128, .f32⟩
  | 122 => ⟨S1x4x1024x16, .f32⟩
  | 123 => ⟨S1x1024x4x16, .f32⟩
  | 124 => ⟨S1x4096x16, .f32⟩
  | 125 => ⟨S4096x16, .f32⟩
  | 126 => ⟨S_, .i32⟩
  | 127 => ⟨S_, .f32⟩
  | _ => ⟨S4096x6144, .bf16⟩

abbrev hbmTy0_1 (i : Nat) : BufTy := match i % 128 with
  | 0 => ⟨S4096x128, .f32⟩
  | 1 => ⟨S1024x8192, .f32⟩
  | 2 => ⟨S1024x512, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_call1_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_1 : Ref sig .tc := ⟨.hbm, 34, rfl⟩
abbrev main_call2_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_3 : Ref sig .tc := ⟨.hbm, 55, rfl⟩
abbrev main_v44 : Ref sig .tc := ⟨.hbm, 56, rfl⟩
abbrev main_v45 : Ref sig .tc := ⟨.hbm, 57, rfl⟩
abbrev main_c_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_8 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v77 : Ref sig .tc := ⟨.hbm, 98, rfl⟩
abbrev main_cst_10 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_11 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_c_12 : Ref sig .tc := ⟨.hbm, 126, rfl⟩
abbrev main_call4_v0 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩

abbrev nD : Nat := 1
abbrev τ : Topo := Topo.v7x

variable {F : FTy → Type} [FloatOps F]
-- ==== Kernel21.lean ====
abbrev S4096x6144 : Shape := ⟨2, ![4096, 6144]⟩
abbrev S4096x2048 : Shape := ⟨2, ![4096, 2048]⟩
abbrev S256x32768 : Shape := ⟨2, ![256, 32768]⟩
abbrev S256x2048 : Shape := ⟨2, ![256, 2048]⟩
abbrev S128x2048 : Shape := ⟨2, ![128, 2048]⟩
abbrev S128x128 : Shape := ⟨2, ![128, 128]⟩
abbrev S128x256 : Shape := ⟨2, ![128, 256]⟩
abbrev S256x128 : Shape := ⟨2, ![256, 128]⟩
abbrev S128 : Shape := ⟨1, ![128]⟩
abbrev S128x1 : Shape := ⟨2, ![128, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x6144, .bf16⟩
  | .hbm, ⟨1, _⟩ => ⟨S4096x6144, .bf16⟩
  | .hbm, ⟨2, _⟩ => ⟨S4096x6144, .bf16⟩
  | .hbm, ⟨3, _⟩ => ⟨S4096x2048, .bf16⟩
  | .hbm, ⟨4, _⟩ => ⟨S256x32768, .bf16⟩
  | .hbm, ⟨5, _⟩ => ⟨S4096x2048, .bf16⟩
  | .hbm, ⟨6, _⟩ => ⟨S256x32768, .bf16⟩
  | .hbm, ⟨7, _⟩ => ⟨S4096x2048, .bf16⟩
  | .hbm, ⟨8, _⟩ => ⟨S256x32768, .bf16⟩
  | .hbm, ⟨9, _⟩ => ⟨S256x32768, .f32⟩
  | .hbm, ⟨10, _⟩ => ⟨S256x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .f32⟩
  | .local _ .vmem, ⟨11, _⟩ => ⟨S128x2048, .f32⟩
  | .local _ .vmem, ⟨12, _⟩ => ⟨S128x128, .f32⟩
  | .local _ .vmem, ⟨13, _⟩ => ⟨S128x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let v2 : BitVec 32 := Scalar.muli arg0 c1_i32_0
  let c0_i32_1 : BitVec 32 := 0#32
  let v3 : BitVec 32 := Scalar.addi v2 c0_i32_1
  let c0_i32_2 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let v2 : BitVec 32 := Scalar.muli arg0 c1_i32_0
  let c0_i32_1 : BitVec 32 := 0#32
  let v3 : BitVec 32 := Scalar.addi v2 c0_i32_1
  let c0_i32_2 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S4096x6144 : Shape := ⟨2, ![4096, 6144]⟩
abbrev S16 : Shape := ⟨1, ![16]⟩
abbrev S1x4096x3x16x128 : Shape := ⟨5, ![1, 4096, 3, 16, 128]⟩
abbrev S1x4096x1x16x128 : Shape := ⟨5, ![1, 4096, 1, 16, 128]⟩
abbrev S1x4096x16x128 : Shape := ⟨4, ![1, 4096, 16, 128]⟩
abbrev S1x256x16x16x128 : Shape := ⟨5, ![1, 256, 16, 16, 128]⟩
abbrev S1x16x256x16x128 : Shape := ⟨5, ![1, 16, 256, 16, 128]⟩
abbrev S16x256x16x128 : Shape := ⟨4, ![16, 256, 16, 128]⟩
abbrev S_ : Shape := ⟨0, ![]⟩
abbrev S16x2x128x16x128 : Shape := ⟨5, ![16, 2, 128, 16, 128]⟩
abbrev S16x384x16x128 : Shape := ⟨4, ![16, 384, 16, 128]⟩
abbrev S16x2x256x16x128 : Shape := ⟨5, ![16, 2, 256, 16, 128]⟩
abbrev S16x2x16x128x256 : Shape := ⟨5, ![16, 2, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2 : Shape := ⟨1, ![2]⟩
abbrev S2x1x1 : Shape := ⟨3, ![2, 1, 1]⟩
abbrev S1x1x256 : Shape := ⟨3, ![1, 1, 256]⟩
abbrev S2x1x256 : Shape := ⟨3, ![2, 1, 256]⟩
abbrev S1x128x256 : Shape := ⟨3, ![1, 128, 256]⟩
abbrev S2x128x256 : Shape := ⟨3, ![2, 128, 256]⟩
abbrev S16x1x1 : Shape := ⟨3, ![16, 1, 1]⟩
abbrev S16x128x256 : Shape := ⟨3, ![16, 128, 256]⟩
abbrev S1x2x1x128x256 : Shape := ⟨5, ![1, 2, 1, 128, 256]⟩
abbrev S1x1x16x128x256 : Shape := ⟨5, ![1, 1, 16, 128, 256]⟩
abbrev S16x2x16x128 : Shape := ⟨4, ![16, 2, 16, 128]⟩
abbrev S16x2x16x128x1 : Shape := ⟨5, ![16, 2, 16, 128, 1]⟩
abbrev S16x2x16x128x128 : Shape := ⟨5, ![16, 2, 16, 128, 128]⟩
abbrev S16x2x128x16 : Shape := ⟨4, ![16, 2, 128, 16]⟩
abbrev S16x256x16 : Shape := ⟨3, ![16, 256, 16]⟩
abbrev S1x16x256x16 : Shape := ⟨4, ![1, 16, 256, 16]⟩
abbrev S1x256x16x16 : Shape := ⟨4, ![1, 256, 16, 16]⟩
abbrev S1x4096x16 : Shape := ⟨3, ![1, 4096, 16]⟩
abbrev S4096x16 : Shape := ⟨2, ![4096, 16]⟩
abbrev S4096x128 : Shape := ⟨2, ![4096, 128]⟩
abbrev S256x32768 : Shape := ⟨2, ![256, 32768]⟩
abbrev S256x2048 : Shape := ⟨2, ![256, 2048]⟩

abbrev nBuf : Space → Nat
  | .hbm => 131
  | .vmem => 0
  | .smem => 0
  | _ => 0

abbrev hbmTy0_0 (i : Nat) : BufTy := match i % 128 with
  | 0 => ⟨S4096x6144, .bf16⟩
  | 1 => ⟨S4096x6144, .bf16⟩
  | 2 => ⟨S4096x6144, .bf16⟩
  | 3 => ⟨S16, .f32⟩
  | 4 => ⟨S1x4096x3x16x128, .bf16⟩
  | 5 => ⟨S1x4096x1x16x128, .bf16⟩
  | 6 => ⟨S1x4096x16x128, .bf16⟩
  | 7 => ⟨S1x4096x3x16x128, .bf16⟩
  | 8 => ⟨S1x4096x1x16x128, .bf16⟩
  | 9 => ⟨S1x4096x16x128, .bf16⟩
  | 10 => ⟨S1x4096x3x16x128, .bf16⟩
  | 11 => ⟨S1x4096x1x16x128, .bf16⟩
  | 12 => ⟨S1x4096x16x128, .bf16⟩
  | 13 => ⟨S1x256x16x16x128, .bf16⟩
  | 14 => ⟨S1x16x256x16x128, .bf16⟩
  | 15 => ⟨S16x256x16x128, .bf16⟩
  | 16 => ⟨S_, .i32⟩
  | 17 => ⟨S_, .bf16⟩
  | 18 => ⟨S16x256x16x128, .bf16⟩
  | 19 => ⟨S16x2x128x16x128, .bf16⟩
  | 20 => ⟨S1x256x16x16x128, .bf16⟩
  | 21 => ⟨S1x16x256x16x128, .bf16⟩
  | 22 => ⟨S16x256x16x128, .bf16⟩
  | 23 => ⟨S_, .i32⟩
  | 24 => ⟨S_, .bf16⟩
  | 25 => ⟨S16x384x16x128, .bf16⟩
  | 26 => ⟨S16x256x16x128, .bf16⟩
  | 27 => ⟨S16x2x128x16x128, .bf16⟩
  | 28 => ⟨S16x256x16x128, .bf16⟩
  | 29 => ⟨S16x2x128x16x128, .bf16⟩
  | 30 => ⟨S16x2x256x16x128, .bf16⟩
  | 31 => ⟨S1x256x16x16x128, .bf16⟩
  | 32 => ⟨S1x16x256x16x128, .bf16⟩
  | 33 => ⟨S16x256x16x128, .bf16⟩
  | 34 => ⟨S_, .i32⟩
  | 35 => ⟨S_, .bf16⟩
  | 36 => ⟨S16x384x16x128, .bf16⟩
  | 37 => ⟨S16x256x16x128, .bf16⟩
  | 38 => ⟨S16x2x128x16x128, .bf16⟩
  | 39 => ⟨S16x256x16x128, .bf16⟩
  | 40 => ⟨S16x2x128x16x128, .bf16⟩
  | 41 => ⟨S16x2x256x16x128, .bf16⟩
  | 42 => ⟨S16x2x16x128x256, .f32⟩
  | 43 => ⟨S128, .i32⟩
  | 44 => ⟨S128x1, .i32⟩
  | 45 => ⟨S256, .i32⟩
  | 46 => ⟨S1x256, .i32⟩
  | 47 => ⟨S_, .i32⟩
  | 48 => ⟨S128x1, .i32⟩
  | 49 => ⟨S128x1, .i32⟩
  | 50 => ⟨S128x256, .i32⟩
  | 51 => ⟨S128x256, .i32⟩
  | 52 => ⟨S128x256, .i32⟩
  | 53 => ⟨S2, .i32⟩
  | 54 => ⟨S2x1x1, .i32⟩
  | 55 => ⟨S_, .i32⟩
  | 56 => ⟨S2x1x1, .i32⟩
  | 57 => ⟨S2x1x1, .i32⟩
  | 58 => ⟨S_, .i32⟩
  | 59 => ⟨S2x1x1, .i32⟩
  | 60 => ⟨S2x1x1, .i32⟩
  | 61 => ⟨S1x1x256, .i32⟩
  | 62 => ⟨S2x1x256, .i32⟩
  | 63 => ⟨S2x1x256, .i32⟩
  | 64 => ⟨S2x1x256, .i32⟩
  | 65 => ⟨S_, .i32⟩
  | 66 => ⟨S128x256, .i32⟩
  | 67 => ⟨S128x256, .i1⟩
  | 68 => ⟨S1x128x256, .i1⟩
  | 69 => ⟨S_, .i32⟩
  | 70 => ⟨S128x256, .i32⟩
  | 71 => ⟨S128x256, .i1⟩
  | 72 => ⟨S1x128x256, .i1⟩
  | 73 => ⟨S1x128x256, .i1⟩
  | 74 => ⟨S_, .i32⟩
  | 75 => ⟨S2x1x256, .i32⟩
  | 76 => ⟨S2x1x256, .i1⟩
  | 77 => ⟨S2x128x256, .i1⟩
  | 78 => ⟨S2x128x256, .i1⟩
  | 79 => ⟨S2x128x256, .i1⟩
  | 80 => ⟨S16x1x1, .f32⟩
  | 81 => ⟨S16x1x1, .f32⟩
  | 82 => ⟨S_, .i32⟩
  | 83 => ⟨S128x256, .i32⟩
  | 84 => ⟨S128x256, .i32⟩
  | 85 => ⟨S128x256, .f32⟩
  | 86 => ⟨S1x128x256, .f32⟩
  | 87 => ⟨S16x128x256, .f32⟩
  | 88 => ⟨S16x128x256, .f32⟩
  | 89 => ⟨S16x128x256, .f32⟩
  | 90 => ⟨S1x2x1x128x256, .i1⟩
  | 91 => ⟨S1x1x16x128x256, .f32⟩
  | 92 => ⟨S16x2x16x128x256, .f32⟩
  | 93 => ⟨S16x2x16x128x256, .f32⟩
  | 94 => ⟨S_, .f32⟩
  | 95 => ⟨S_, .f32⟩
  | 96 => ⟨S16x2x16x128x256, .i1⟩
  | 97 => ⟨S16x2x16x128x256, .f32⟩
  | 98 => ⟨S16x2x16x128x256, .f32⟩
  | 99 => ⟨S_, .f32⟩
  | 100 => ⟨S16x2x16x128, .f32⟩
  | 101 => ⟨S16x2x16x128x1, .f32⟩
  | 102 => ⟨S16x2x16x128x256, .f32⟩
  | 103 => ⟨S16x2x16x128x256, .f32⟩
  | 104 => ⟨S16x2x16x128x256, .f32⟩
  | 105 => ⟨S_, .f32⟩
  | 106 => ⟨S16x2x16x128, .f32⟩
  | 107 => ⟨S16x2x16x128x1, .f32⟩
  | 108 => ⟨S16x2x16x128x256, .f32⟩
  | 109 => ⟨S16x2x16x128x256, .f32⟩
  | 110 => ⟨S16x2x256x16x128, .f32⟩
  | 111 => ⟨S16x2x16x128x128, .f32⟩
  | 112 => ⟨S16x2x128x16x128, .f32⟩
  | 113 => ⟨S16x2x16x128x1, .f32⟩
  | 114 => ⟨S16x2x16x128x1, .f32⟩
  | 115 => ⟨S16x2x16x128, .f32⟩
  | 116 => ⟨S16x2x128x16, .f32⟩
  | 117 => ⟨S16x256x16, .f32⟩
  | 118 => ⟨S16x256x16x128, .f32⟩
  | 119 => ⟨S1x16x256x16x128, .f32⟩
  | 120 => ⟨S1x256x16x16x128, .f32⟩
  | 121 => ⟨S1x4096x16x128, .f32⟩
  | 122 => ⟨S1x16x256x16, .f32⟩
  | 123 => ⟨S1x256x16x16, .f32⟩
  | 124 => ⟨S1x4096x16, .f32⟩
  | 125 => ⟨S4096x16, .f32⟩
  | 126 => ⟨S_, .i32⟩
  | 127 => ⟨S_, .f32⟩
  | _ => ⟨S4096x6144, .bf16⟩

abbrev hbmTy0_1 (i : Nat) : BufTy := match i % 128 with
  | 0 => ⟨S4096x128, .f32⟩
  | 1 => ⟨S256x32768, .f32⟩
  | 2 => ⟨S256x2048, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_call1_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_1 : Ref sig .tc := ⟨.hbm, 34, rfl⟩
abbrev main_call2_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_3 : Ref sig .tc := ⟨.hbm, 55, rfl⟩
abbrev main_v44 : Ref sig .tc := ⟨.hbm, 56, rfl⟩
abbrev main_v45 : Ref sig .tc := ⟨.hbm, 57, rfl⟩
abbrev main_c_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_8 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v77 : Ref sig .tc := ⟨.hbm, 98, rfl⟩
abbrev main_cst_10 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_11 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_c_12 : Ref sig .tc := ⟨.hbm, 126, rfl⟩
abbrev main_call4_v0 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩

abbrev nD : Nat := 1
abbrev τ : Topo := Topo.v7x

variable {F : FTy → Type} [FloatOps F]
-- ==== Kernel22.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .bf16⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S4096x2048 : Shape := ⟨2, ![4096, 2048]⟩
abbrev S2048x4096 : Shape := ⟨2, ![2048, 4096]⟩
abbrev S4096x4096 : Shape := ⟨2, ![4096, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x2048, .f32⟩
  | .hbm, ⟨3, _⟩ => ⟨S2048x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel23.lean ====
abbrev S4096x2048 : Shape := ⟨2, ![4096, 2048]⟩
abbrev S2048 : Shape := ⟨1, ![2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .bf16⟩
  | .local _ .vmem, ⟨4, _⟩ => ⟨S128x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel24.lean ====
abbrev S4096x4096 : Shape := ⟨2, ![4096, 4096]⟩
abbrev S1x2048 : Shape := ⟨2, ![1, 2048]⟩
abbrev S16x128x128 : Shape := ⟨3, ![16, 128, 128]⟩
abbrev S16x128 : Shape := ⟨2, ![16, 128]⟩
abbrev S128x16 : Shape := ⟨2, ![128, 16]⟩
abbrev S128x16x128 : Shape := ⟨3, ![128, 16, 128]⟩
abbrev S128x2048 : Shape := ⟨2, ![128, 2048]⟩
abbrev S4096x2048 : Shape := ⟨2, ![4096, 2048]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 8
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1x2048, .f32⟩
  | .hbm, ⟨2, _⟩ => ⟨S16x128x128, .f32⟩
  | .hbm, ⟨3, _⟩ => ⟨S16x128, .f32⟩
  | .hbm, ⟨4, _⟩ => ⟨S128x16, .f32⟩
  | .hbm, ⟨5, _⟩ => ⟨S128x16x128, .f32⟩
  | .hbm, ⟨6, _⟩ => ⟨S128x2048, .f32⟩
  | .hbm, ⟨7, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S16x128x128, .f32⟩
  | .local _ .vmem, ⟨6, _⟩ => ⟨S128x2048, .f32⟩
  | .local _ .vmem, ⟨7, _⟩ => ⟨S128x2048, .bf16⟩
  | .local _ .vmem, ⟨8, _⟩ => ⟨S128x2048, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference24Ideal.lean ====
abbrev S4096x4096 : Shape := ⟨2, ![4096, 4096]⟩
abbrev S1x2048 : Shape := ⟨2, ![1, 2048]⟩
abbrev S16x128x128 : Shape := ⟨3, ![16, 128, 128]⟩
abbrev S16x128 : Shape := ⟨2, ![16, 128]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x32x128x16x128 : Shape := ⟨5, ![1, 32, 128, 16, 128]⟩
abbrev S128x128 : Shape := ⟨2, ![128, 128]⟩
abbrev S1x128x128 : Shape := ⟨3, ![1, 128, 128]⟩
abbrev S16x1x32x128x128 : Shape := ⟨5, ![16, 1, 32, 128, 128]⟩
abbrev S128x16 : Shape := ⟨2, ![128, 16]⟩
abbrev S1x1x128x16x1 : Shape := ⟨5, ![1, 1, 128, 16, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x2048, .f32⟩
  | .hbm, ⟨2, _⟩ => ⟨S16x128x128, .f32⟩
  | .hbm, ⟨3, _⟩ => ⟨S16x128, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S1x32x128x16x128, .f32⟩
  | .hbm, ⟨22, _⟩ => ⟨S_, .f32⟩
  | .hbm, ⟨23, _⟩ => ⟨S128x128, .f32⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S1x128x128, .f32⟩
  | .hbm, ⟨34, _⟩ => ⟨S16x128x128, .f32⟩
  | .hbm, ⟨35, _⟩ => ⟨S16x128x128, .f32⟩
  | .hbm, ⟨36, _⟩ => ⟨S16x1x32x128x128, .f32⟩
  | .hbm, ⟨37, _⟩ => ⟨S1x32x128x16x128, .f32⟩
  | .hbm, ⟨38, _⟩ => ⟨S128x16, .f32⟩
  | .hbm, ⟨39, _⟩ => ⟨S1x1x128x16x1, .f32⟩
  | .hbm, ⟨40, _⟩ => ⟨S1x32x128x16x128, .f32⟩
  | .hbm, ⟨41, _⟩ => ⟨S1x32x128x16x128, .f32⟩
  | .hbm, ⟨42, _⟩ => ⟨S4096x2048, .f32⟩
  | .hbm, ⟨43, _⟩ => ⟨S4096x2048, .f32⟩
  | .hbm, ⟨44, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_cst : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.Literals.lean ====
/- The literals of the programs as real numbers. -/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Literals

/-- The word of one half. -/
theorem half : Ideal.ofBits .f32 0x3F000000#32 = ((1 / 2 : ℝ) : EReal) := by
  simp [Ideal.ofBits, Ideal.ieee, -EReal.coe_mul]; norm_num

/-- The word of infinity. -/
theorem infinity : Ideal.ofBits .f32 0x7F800000#32 = ⊤ := by
  simp [Ideal.ofBits, Ideal.ieee]

end Cert.Literals

end
-- ==== Proof.Finite.lean ====
/- Arrays whose entries are all real numbers, and what the printed finiteness tests say. -/
module

public import proofs.«01_k».proof.Proof.Gen.Pre_finite_down
public import proofs.«01_k».proof.Proof.Gen.Pre_finite_up
public import Idealize.ShloMosaic.Lib.ReduceAll
public import Idealize.ShloMosaic.Lib.Affine
public import proofs.«01_k».proof.Proof.Literals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Finite

/-- An extended real that is a real number. -/
def IsReal (x : EReal) : Prop := ∃ r : ℝ, x = (r : EReal)

theorem IsReal.coe (r : ℝ) : IsReal (r : EReal) := ⟨r, rfl⟩

theorem IsReal.one : IsReal 1 := ⟨1, rfl⟩

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, by norm_cast⟩

theorem IsReal.sub {x y : EReal} (hx : IsReal x) (hy : IsReal y) : IsReal (x - y) := by
  obtain ⟨a, rfl⟩ := hx
  obtain ⟨b, rfl⟩ := hy
  exact ⟨a - b, by norm_cast⟩

theorem IsReal.mul {x y : EReal} (hx : IsReal x) (hy : IsReal y) : IsReal (x * y) := by
  obtain ⟨a, rfl⟩ := hx
  obtain ⟨b, rfl⟩ := hy
  exact ⟨a * b, by norm_cast⟩

theorem IsReal.sum {ι : Type*} (s : Finset ι) {f : ι → EReal} (h : ∀ i, IsReal (f i)) : IsReal (∑ i ∈ s, f i) := by
  classical
  induction s using Finset.induction_on with
  | empty => simpa using IsReal.zero
  | insert a s ha ih => rw [Finset.sum_insert ha]; exact (h a).add ih

/-- Multiplication by a real number distributes over a sum of two reals. -/
theorem mul_add_real {x a b : EReal} (hx : IsReal x) (ha : IsReal a) (hb : IsReal b) : x * (a + b) = x * a + x * b := by
  obtain ⟨x, rfl⟩ := hx
  obtain ⟨a, rfl⟩ := ha
  obtain ⟨b, rfl⟩ := hb
  exact_mod_cast mul_add x a b

/-- The sigmoid of a real number is a real number. -/
theorem IsReal.sigmoid {x : EReal} (hx : IsReal x) : IsReal (Ideal.div 1 (1 + Ideal.exp (-x))) := by
  obtain ⟨r, rfl⟩ := hx
  have h : (1 : EReal) + Ideal.exp (-(r : EReal)) = ((1 + Real.exp (-r) : ℝ) : EReal) := by
    rw [← EReal.coe_neg, Ideal.exp_coe, ← EReal.coe_one, ← EReal.coe_add]
  rw [h, Ideal.div_coe (by positivity)]
  exact IsReal.one.mul ⟨_, rfl⟩

/-- A number whose absolute value is below infinity is real. -/
theorem isReal_of_abs_lt_top {x : EReal} (h : max x (-x) < ⊤) : IsReal x := by
  induction x using EReal.rec with
  | bot => simp at h
  | top => simp at h
  | coe r => exact ⟨r, rfl⟩

/-- The printed test "every entry's absolute value is below infinity" says that every entry is real. -/
theorem isReal_of_test {s t : Shape} [Subsingleton t.Idx] {axes : List (Fin s.rank)} (x : FVec Ideal s .f32)
    (b : FVec Ideal s .f32) (hb : ∀ i, b i = ⊤) (hr : s.ReducesTo axes t) (h0 : 0 < t.numel)
    (e : ∀ j, Host.reduce IntOp.andi (cmpf .olt (Host.absf x) b) (constantI t 1 1#1) hr h0 j = 1#1) (i : s.Idx) :
    IsReal (x i) := by
  have h : Ideal.cmp .olt (max (x i) (-x i)) (b i) = 1#1 := Host.reduce_andi_all _ _ _ _ (hr.drop i) (e _) i
  refine isReal_of_abs_lt_top ?_
  by_contra hc
  simp only [hb i, Ideal.cmp, decide_eq_false hc] at h
  exact absurd h (by decide)

/-- The precondition of the feed-forward backward call: every entry of its arguments is real. -/
theorem down {g u : FVec Ideal Cert.Pre_finite_down.S4096x5632 .f32} {w : FVec Ideal Cert.Pre_finite_down.S5632x2048 .bf16}
    {d : FVec Ideal Cert.Pre_finite_down.S4096x2048 .f32} (h : Cert.Pre_finite_down.fn g u w d = fun _ => 1#1) :
    (∀ i, IsReal (g i)) ∧ (∀ i, IsReal (u i)) ∧ (∀ i, IsReal (w i)) ∧ ∀ i, IsReal (d i) := by
  have h := fun j => congrFun h j
  dsimp only [Cert.Pre_finite_down.fn, Cert.Pre_finite_down.fn_part1] at h
  simp only [andi, IntOp.andi_eq_one, forall_and] at h
  obtain ⟨⟨⟨h1, h2⟩, h3⟩, h4⟩ := h
  exact ⟨isReal_of_test _ _ (fun _ => Cert.Literals.infinity) _ _ h1, isReal_of_test _ _ (fun _ => Cert.Literals.infinity) _ _ h2,
    isReal_of_test _ _ (fun _ => Cert.Literals.infinity) _ _ h3, isReal_of_test _ _ (fun _ => Cert.Literals.infinity) _ _ h4⟩

/-- The precondition of the feed-forward forward call: every entry of its arguments is real. -/
theorem up {n : FVec Ideal Cert.Pre_finite_up.S4096x2048 .bf16} {wg wu : FVec Ideal Cert.Pre_finite_up.S2048x5632 .bf16}
    (h : Cert.Pre_finite_up.fn n wg wu = fun _ => 1#1) :
    (∀ i, IsReal (n i)) ∧ (∀ i, IsReal (wg i)) ∧ ∀ i, IsReal (wu i) := by
  have h := fun j => congrFun h j
  dsimp only [Cert.Pre_finite_up.fn] at h
  simp only [andi, IntOp.andi_eq_one, forall_and] at h
  obtain ⟨⟨h1, h2⟩, h3⟩ := h
  exact ⟨isReal_of_test _ _ (fun _ => Cert.Literals.infinity) _ _ h1, isReal_of_test _ _ (fun _ => Cert.Literals.infinity) _ _ h2,
    isReal_of_test _ _ (fun _ => Cert.Literals.infinity) _ _ h3⟩

end Cert.Finite

end
-- ==== Proof.FfnHiddenGrad.lean ====
/- The gradients of the two hidden arrays of the feed-forward layer. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import proofs.«01_k».proof.Proof.Literals
public import proofs.«01_k».proof.Proof.Finite

@[expose] public section

set_option maxRecDepth 16384

noncomputable section

open Idealize.ShloMosaic Idealize.ShloMosaic.TcCoe Idealize.SL.Sem
open Idealize.ShloMosaic.Pipeline (Dat)

namespace Cert.FfnHiddenGrad

open Cert.Finite Cert.Kernel2Ideal Cert.Kernel2Ideal.Gen

variable (m : (ℓ : Loc nD τ sig) → Buf (Elt Ideal) ℓ)

/-- The sigmoid. -/
def sigmoid (x : EReal) : EReal := Ideal.div 1 (1 + Ideal.exp (-x))

/-- Half of the output's cotangent. -/
def halfCot (d : FVec Ideal S4096x2048 .f32) : FVec Ideal S4096x2048 .bf16 := fun i => ((1 / 2 : ℝ) : EReal) * d i

/-- The derivative of `silu(g) * u` by `g`. -/
def gateFactor (g u : FVec Ideal S4096x5632 .f32) : FVec Ideal S4096x5632 .bf16 :=
  fun i => u i * sigmoid (g i) + g i * u i * (sigmoid (g i) * (1 - sigmoid (g i)))

/-- The derivative of `silu(g) * u` by `u`. -/
def upFactor (g : FVec Ideal S4096x5632 .f32) : FVec Ideal S4096x5632 .bf16 := fun i => g i * sigmoid (g i)

/-- The cotangent of the hidden activations: half the output's cotangent times the transpose of the weight. -/
def hiddenCot (w : FVec Ideal S5632x2048 .bf16) (d : FVec Ideal S4096x2048 .f32) (i : S4096x5632.Idx) : EReal :=
  ∑ k : Fin 2048, halfCot d (ix2 (i 0) k) * w (ix2 (i 1) k)

/-- The gradient of `g` in `silu(g) * u`, with the cotangent multiplied in first. -/
def gateGrad (g u : FVec Ideal S4096x5632 .f32) (w : FVec Ideal S5632x2048 .bf16) (d : FVec Ideal S4096x2048 .f32) : FVec Ideal S4096x5632 .bf16 :=
  fun i => hiddenCot w d i * u i * sigmoid (g i) + g i * (hiddenCot w d i * u i) * (sigmoid (g i) * (1 - sigmoid (g i)))

/-- The gradient of `u` in `silu(g) * u`. -/
def upGrad (g : FVec Ideal S4096x5632 .f32) (w : FVec Ideal S5632x2048 .bf16) (d : FVec Ideal S4096x2048 .f32) : FVec Ideal S4096x5632 .bf16 :=
  fun i => g i * sigmoid (g i) * hiddenCot w d i

/-- The sigmoid of a real number is real. -/
theorem sigmoid_real {x : EReal} (hx : IsReal x) : IsReal (sigmoid x) := hx.sigmoid

/-- Where all numbers are real, the cotangent distributes over the two terms of the derivative. -/
theorem distribute {h g u s : EReal} (hh : IsReal h) (hg : IsReal g) (hu : IsReal u) (hs : IsReal s) :
    h * (u * s + g * u * (s * (1 - s))) = h * u * s + g * (h * u) * (s * (1 - s)) := by
  obtain ⟨h, rfl⟩ := hh
  obtain ⟨g, rfl⟩ := hg
  obtain ⟨u, rfl⟩ := hu
  obtain ⟨s, rfl⟩ := hs
  rw [← EReal.coe_one]
  norm_cast
  ring

/-- The hidden cotangent of real arrays is real. -/
theorem hiddenCot_real {w : FVec Ideal S5632x2048 .bf16} {d : FVec Ideal S4096x2048 .f32} (hw : ∀ i, IsReal (w i))
    (hd : ∀ i, IsReal (d i)) (i) : IsReal (hiddenCot w d i) :=
  IsReal.sum _ fun _ => ((IsReal.coe _).mul (hd _)).mul (hw _)

/-- The block of every window at every grid point. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val] :=
  (by decide +kernel : ∀ t : Fin grid0.N, _)

/-- The cotangent that the call is given: half of the output's cotangent. -/
theorem entry_cot (c : Dev nD) : V m c main_v8 = halfCot (m ((c : Thread nD τ).loc main_arg3)) := by
  funext i
  simp only [V, hostOps0, hostOps0_1, hostOps0_2, hostOps0_3, List.flatten_cons, List.flatten_nil, List.append_nil,
    List.cons_append, List.nil_append, StableHlo.TRef.binary, StableHlo.TRef.nullary, StableHlo.TRef.unary,
    StableHlo.TRef.toBuf, StableHlo.TRef.ofBuf, cast_eq]
  entry_read
  pointwise
  rw [Cert.Literals.half]; rfl

/-- The derivative by `g` that the call is given. -/
theorem entry_gate (c : Dev nD) : V m c main_v9 = gateFactor (m ((c : Thread nD τ).loc main_arg0)) (m ((c : Thread nD τ).loc main_arg1)) := by
  funext i
  simp only [V, hostOps0, hostOps0_1, hostOps0_2, hostOps0_3, List.flatten_cons, List.flatten_nil, List.append_nil,
    List.cons_append, List.nil_append, StableHlo.TRef.binary, StableHlo.TRef.nullary, StableHlo.TRef.unary,
    StableHlo.TRef.toBuf, StableHlo.TRef.ofBuf, cast_eq]
  entry_read
  pointwise
  rfl

/-- The derivative by `u` that the call is given. -/
theorem entry_up (c : Dev nD) : V m c main_v10 = upFactor (m ((c : Thread nD τ).loc main_arg0)) := by
  funext i
  simp only [V, hostOps0, hostOps0_1, hostOps0_2, hostOps0_3, List.flatten_cons, List.flatten_nil, List.append_nil,
    List.cons_append, List.nil_append, StableHlo.TRef.binary, StableHlo.TRef.nullary, StableHlo.TRef.unary,
    StableHlo.TRef.toBuf, StableHlo.TRef.ofBuf, cast_eq]
  entry_read
  pointwise
  rfl

/-- One grid point's product, at each place of its block of the first result. -/
theorem hidden_gate (c : Dev nD) (t : Fin cfg0.N) (y) :
    k0_pay1 (iblk m c 0 t) (iblk m c 1 t) y = hiddenCot (m ((c : Thread nD τ).loc main_arg2)) (m ((c : Thread nD τ).loc main_arg3)) (((cfg0.win 4).blk t).view.emb y) := by
  unfold hiddenCot
  rw [← entry_cot, ← V_main_arg2 m c]
  pointwise [k0_pay1]
  blk_point [iblk, idx t]

/-- One grid point's product, at each place of its block of the second result. -/
theorem hidden_up (c : Dev nD) (t : Fin cfg0.N) (y) :
    k0_pay1 (iblk m c 0 t) (iblk m c 1 t) y = hiddenCot (m ((c : Thread nD τ).loc main_arg2)) (m ((c : Thread nD τ).loc main_arg3)) (((cfg0.win 5).blk t).view.emb y) := by
  unfold hiddenCot
  rw [← entry_cot, ← V_main_arg2 m c]
  pointwise [k0_pay1]
  blk_point [iblk, idx t]

/-- The derivative by `g` at each place of a block. -/
theorem factor_gate (c : Dev nD) (t : Fin cfg0.N) (y : S1024x512.Idx) :
    iblk m c 2 t y = gateFactor (m ((c : Thread nD τ).loc main_arg0)) (m ((c : Thread nD τ).loc main_arg1)) (((cfg0.win 4).blk t).view.emb y) := by
  rw [← entry_gate]
  blk_point [iblk, idx t]

/-- The derivative by `u` at each place of a block. -/
theorem factor_up (c : Dev nD) (t : Fin cfg0.N) (y : S1024x512.Idx) :
    iblk m c 3 t y = upFactor (m ((c : Thread nD τ).loc main_arg0)) (((cfg0.win 5).blk t).view.emb y) := by
  rw [← entry_up]
  blk_point [iblk, idx t]

/-- One grid point stores, at each place of its block, the function at the place of the array the block covers. -/
theorem point_gate (c : Dev nD) (hg : ∀ i, IsReal (m ((c : Thread nD τ).loc main_arg0) i)) (hu : ∀ i, IsReal (m ((c : Thread nD τ).loc main_arg1) i))
    (hw : ∀ i, IsReal (m ((c : Thread nD τ).loc main_arg2) i)) (hd : ∀ i, IsReal (m ((c : Thread nD τ).loc main_arg3) i)) (t : Fin cfg0.N) (y) :
    k0_pay2 (iblk m c 0 t) (iblk m c 1 t) (iblk m c 2 t) y
      = gateGrad (m ((c : Thread nD τ).loc main_arg0)) (m ((c : Thread nD τ).loc main_arg1)) (m ((c : Thread nD τ).loc main_arg2)) (m ((c : Thread nD τ).loc main_arg3))
          (((cfg0.win 4).blk t).view.emb y) := by
  pointwise [k0_pay2]
  rw [hidden_gate, factor_gate]
  exact distribute (hiddenCot_real hw hd _) (hg _) (hu _) (sigmoid_real (hg _))

/-- The blocks tile the array, so after the run it holds the function everywhere. -/
theorem final_gate (c : Dev nD) (hg : ∀ i, IsReal (m ((c : Thread nD τ).loc main_arg0) i)) (hu : ∀ i, IsReal (m ((c : Thread nD τ).loc main_arg1) i))
    (hw : ∀ i, IsReal (m ((c : Thread nD τ).loc main_arg2) i)) (hd : ∀ i, IsReal (m ((c : Thread nD τ).loc main_arg3) i)) : (dats m 0 c).arrAt 4 cfg0.N
    = gateGrad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_gate m c hg hu hw hd t y

/-- One grid point stores, at each place of its block, the function at the place of the array the block covers. -/
theorem point_up (c : Dev nD) (t : Fin cfg0.N) (y) :
    k0_pay3 (iblk m c 0 t) (iblk m c 1 t) (iblk m c 3 t) y
      = upGrad (m ((c : Thread nD τ).loc main_arg0)) (m ((c : Thread nD τ).loc main_arg2)) (m ((c : Thread nD τ).loc main_arg3))
          (((cfg0.win 5).blk t).view.emb y) := by
  pointwise [k0_pay3]
  rw [hidden_up, factor_up, mul_comm]
  rfl

/-- The blocks tile the array, so after the run it holds the function everywhere. -/
theorem final_up (c : Dev nD) : (dats m 0 c).arrAt 5 cfg0.N
    = upGrad (m ((c : Thread nD τ).loc main_arg0)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point_up m c t y

/-- The reference's gradient of `g` is the same function. -/
theorem reference_gate_eq (g u : FVec Ideal S4096x5632 .f32) (w : FVec Ideal S5632x2048 .bf16) (d : FVec Ideal S4096x2048 .f32) :
    truncf .bf16 (addf (mulf (mulf (Host.dotGeneral Cert.Reference2Ideal.dot_S4096x2048_S5632x2048_S4096x5632_1_1_0_0_n_n none (mulf (broadcastInDim Cert.Reference2Ideal.S4096x2048 ![] Cert.Reference2Ideal.Gen.bcast_S_S4096x2048 (constant Cert.Reference2Ideal.S_ .f32 0x3F000000#32)) d) (extf .f32 w Cert.Reference2Ideal.Gen.bitsLt_bf16_f32)) u) (Host.divf (broadcastInDim Cert.Reference2Ideal.S4096x5632 ![] Cert.Reference2Ideal.Gen.bcast_S_S4096x5632 (constant Cert.Reference2Ideal.S_ .f32 0x3F800000#32)) (addf (broadcastInDim Cert.Reference2Ideal.S4096x5632 ![] Cert.Reference2Ideal.Gen.bcast_S_S4096x5632 (constant Cert.Reference2Ideal.S_ .f32 0x3F800000#32)) (Host.exp (Host.negf g)))))
      (mulf (mulf g (mulf (Host.dotGeneral Cert.Reference2Ideal.dot_S4096x2048_S5632x2048_S4096x5632_1_1_0_0_n_n none (mulf (broadcastInDim Cert.Reference2Ideal.S4096x2048 ![] Cert.Reference2Ideal.Gen.bcast_S_S4096x2048 (constant Cert.Reference2Ideal.S_ .f32 0x3F000000#32)) d) (extf .f32 w Cert.Reference2Ideal.Gen.bitsLt_bf16_f32)) u)) (mulf (Host.divf (broadcastInDim Cert.Reference2Ideal.S4096x5632 ![] Cert.Reference2Ideal.Gen.bcast_S_S4096x5632 (constant Cert.Reference2Ideal.S_ .f32 0x3F800000#32)) (addf (broadcastInDim Cert.Reference2Ideal.S4096x5632 ![] Cert.Reference2Ideal.Gen.bcast_S_S4096x5632 (constant Cert.Reference2Ideal.S_ .f32 0x3F800000#32)) (Host.exp (Host.negf g)))) (subf (broadcastInDim Cert.Reference2Ideal.S4096x5632 ![] Cert.Reference2Ideal.Gen.bcast_S_S4096x5632 (constant Cert.Reference2Ideal.S_ .f32 0x3F800000#32)) (Host.divf (broadcastInDim Cert.Reference2Ideal.S4096x5632 ![] Cert.Reference2Ideal.Gen.bcast_S_S4096x5632 (constant Cert.Reference2Ideal.S_ .f32 0x3F800000#32)) (addf (broadcastInDim Cert.Reference2Ideal.S4096x5632 ![] Cert.Reference2Ideal.Gen.bcast_S_S4096x5632 (constant Cert.Reference2Ideal.S_ .f32 0x3F800000#32)) (Host.exp (Host.negf g)))))))) Cert.Reference2Ideal.Gen.bitsLt_bf16_f32 = gateGrad g u w d := by
  funext i
  pointwise [gateGrad, hiddenCot, halfCot, sigmoid]
  simp only [Cert.Literals.half]

/-- The reference's gradient of `u` is the same function. -/
theorem reference_up_eq (g : FVec Ideal S4096x5632 .f32) (w : FVec Ideal S5632x2048 .bf16) (d : FVec Ideal S4096x2048 .f32) :
    truncf .bf16 (mulf (mulf g (Host.divf (broadcastInDim Cert.Reference2Ideal.S4096x5632 ![] Cert.Reference2Ideal.Gen.bcast_S_S4096x5632 (constant Cert.Reference2Ideal.S_ .f32 0x3F800000#32)) (addf (broadcastInDim Cert.Reference2Ideal.S4096x5632 ![] Cert.Reference2Ideal.Gen.bcast_S_S4096x5632 (constant Cert.Reference2Ideal.S_ .f32 0x3F800000#32)) (Host.exp (Host.negf g))))) (Host.dotGeneral Cert.Reference2Ideal.dot_S4096x2048_S5632x2048_S4096x5632_1_1_0_0_n_n none (mulf (broadcastInDim Cert.Reference2Ideal.S4096x2048 ![] Cert.Reference2Ideal.Gen.bcast_S_S4096x2048 (constant Cert.Reference2Ideal.S_ .f32 0x3F000000#32)) d) (extf .f32 w Cert.Reference2Ideal.Gen.bitsLt_bf16_f32))) Cert.Reference2Ideal.Gen.bitsLt_bf16_f32 = upGrad g w d := by
  funext i
  pointwise [upGrad, hiddenCot, halfCot, sigmoid]
  simp only [Cert.Literals.half]

end Cert.FfnHiddenGrad

end
-- ==== Proof.FfnUpWeightGrad.lean ====
/- The weight gradients of the two input projections of the feed-forward layer. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnUpWeightGrad

open Cert.Kernel3Ideal Cert.Kernel3Ideal.Gen

variable (m : (ℓ : Loc nD τ sig) → Buf (Elt Ideal) ℓ)

/-- The gradient of the weight `w` of `n @ w` for the cotangent `d`: the transpose of `n` times `d`. -/
def weightGrad (n : FVec Ideal S4096x2048 .bf16) (d : FVec Ideal S4096x5632 .bf16) : FVec Ideal S2048x5632 .bf16 :=
  fun i => ∑ k : Fin 4096, n (ix2 k (i 0)) * d (ix2 k (i 1))

/-- The block of every window at every grid point. -/
theorem idx : ∀ t : Fin cfg0.N, win0_0.index t = ![0, (grid0.coords t 0).val]
    ∧ win0_1.index t = ![0, (grid0.coords t 1).val]
    ∧ win0_2.index t = ![0, (grid0.coords t 1).val]
    ∧ win0_3.index t = ![(grid0.coords t 0).val, (grid0.coords t 1).val]
    ∧ win0_4.index t = ![(grid0.coords t 0).val, (grid0.coords t 1).val] :=
  (by decide +kernel : ∀ t : Fin grid0.N, _)

/-- One grid point stores, at each place of its block, the function at the place of the array the block covers. -/
theorem point_gate (c : Dev nD) (t : Fin cfg0.N) (y) :
    k0_pay1 (iblk m c 0 t) (iblk m c 1 t) y
      = weightGrad (m ((c : Thread nD τ).loc main_arg0)) (m ((c : Thread nD τ).loc main_arg1))
          (((cfg0.win 3).blk t).view.emb y) := by
  pointwise [k0_pay1, weightGrad]
  blk_point [iblk, V, idx t]

/-- The blocks tile the array, so after the run it holds the function everywhere. -/
theorem final_gate (c : Dev nD) : (dats m 0 c).arrAt 3 cfg0.N
    = weightGrad (m ((c : Thread nD τ).loc main_arg0)) (m ((c : Thread nD τ).loc main_arg1)) := by
  refine (dats m 0 c).arrAt_eq_of_covers 3 _ (by decide +kernel) fun t hf y => ?_
  blk_simp; rw [after0_3]; frame_out
  exact point_gate m c t y

/-- One grid point stores, at each place of its block, the function at the place of the array the block covers. -/
theorem point_up (c : Dev nD) (t : Fin cfg0.N) (y) :
    k0_pay2 (iblk m c 0 t) (iblk m c 2 t) y
      = weightGrad (m ((c : Thread nD τ).loc main_arg0)) (m ((c : Thread nD τ).loc main_arg2))
          (((cfg0.win 4).blk t).view.emb y) := by
  pointwise [k0_pay2, weightGrad]
  blk_point [iblk, V, idx t]

/-- The blocks tile the array, so after the run it holds the function everywhere. -/
theorem final_up (c : Dev nD) : (dats m 0 c).arrAt 4 cfg0.N
    = weightGrad (m ((c : Thread nD τ).loc main_arg0)) (m ((c : Thread nD τ).loc main_arg2)) := by
  refine (dats m 0 c).arrAt_eq_of_covers 4 _ (by decide +kernel) fun t hf y => ?_
  blk_simp; rw [after0_4]; frame_out
  exact point_up m c t y

/-- The reference multiplies in the other order and transposes: the same function. -/
theorem reference_eq (n : FVec Ideal S4096x2048 .bf16) (d : FVec Ideal S4096x5632 .bf16) :
    truncf .bf16 (transpose Cert.Reference3Ideal.S2048x5632 [1, 0]
      (Host.dotGeneral Cert.Reference3Ideal.dot_S4096x5632_S4096x2048_S5632x2048_0_0_1_1_n_n none
        (extf .f32 d Cert.Reference3Ideal.Gen.bitsLt_bf16_f32) (extf .f32 n Cert.Reference3Ideal.Gen.bitsLt_bf16_f32))
      Cert.Reference3Ideal.Gen.transposes_S5632x2048_S2048x5632_1_0) Cert.Reference3Ideal.Gen.bitsLt_bf16_f32 = weightGrad n d := by
  funext i
  pointwise [weightGrad]
  exact Finset.sum_congr rfl fun k _ => mul_comm _ _

end Cert.FfnUpWeightGrad

end
-- ==== Proof.FfnInputGrad.lean ====
/- The input gradient of the two input projections of the feed-forward layer. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnInputGrad

open Cert.Kernel4Ideal Cert.Kernel4Ideal.Gen

variable (m : (ℓ : Loc nD τ sig) → Buf (Elt Ideal) ℓ)

/-- The gradient of the layer's input: each cotangent times the transpose of its weight, added. -/
def inputGrad (wg wu : FVec Ideal S2048x5632 .bf16) (dg du : FVec Ideal S4096x5632 .bf16) : FVec Ideal S4096x2048 .f32 :=
  fun i => (∑ k : Fin 5632, dg (ix2 (i 0) k) * wg (ix2 (i 1) k)) + ∑ k : Fin 5632, du (ix2 (i 0) k) * wu (ix2 (i 1) k)

/-- The block of every window at every grid point. -/
theorem idx : ∀ t : Fin cfg0.N, win0_0.index t = ![(grid0.coords t 0).val, 0]
    ∧ win0_1.index t = ![(grid0.coords t 0).val, 0]
    ∧ win0_2.index t = ![(grid0.coords t 1).val, 0]
    ∧ win0_3.index t = ![(grid0.coords t 1).val, 0]
    ∧ win0_4.index t = ![(grid0.coords t 0).val, (grid0.coords t 1).val] :=
  (by decide +kernel : ∀ t : Fin grid0.N, _)

/-- One grid point stores, at each place of its block, the function at the place of the array the block covers. -/
theorem point (c : Dev nD) (t : Fin cfg0.N) (y) :
    k0_pay1 (iblk m c 0 t) (iblk m c 2 t) (iblk m c 1 t) (iblk m c 3 t) y
      = inputGrad (m ((c : Thread nD τ).loc main_arg0)) (m ((c : Thread nD τ).loc main_arg1)) (m ((c : Thread nD τ).loc main_arg2)) (m ((c : Thread nD τ).loc main_arg3))
          (((cfg0.win 4).blk t).view.emb y) := by
  pointwise [k0_pay1, inputGrad]
  blk_point [iblk, V, idx t]

/-- The blocks tile the array, so after the run it holds the function everywhere. -/
theorem final (c : Dev nD) : (dats m 0 c).arrAt 4 cfg0.N
    = inputGrad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

/-- The reference adds the two products in the other order: the same function. -/
theorem reference_eq (wg wu : FVec Ideal S2048x5632 .bf16) (dg du : FVec Ideal S4096x5632 .bf16) :
    addf (Host.dotGeneral Cert.Reference4Ideal.dot_S4096x5632_S2048x5632_S4096x2048_1_1_0_0_n_n none
        (extf .f32 du Cert.Reference4Ideal.Gen.bitsLt_bf16_f32) (extf .f32 wu Cert.Reference4Ideal.Gen.bitsLt_bf16_f32))
      (Host.dotGeneral Cert.Reference4Ideal.dot_S4096x5632_S2048x5632_S4096x2048_1_1_0_0_n_n none
        (extf .f32 dg Cert.Reference4Ideal.Gen.bitsLt_bf16_f32) (extf .f32 wg Cert.Reference4Ideal.Gen.bitsLt_bf16_f32)) = inputGrad wg wu dg du := by
  funext i
  pointwise [inputGrad]
  exact add_comm _ _

end Cert.FfnInputGrad

end
-- ==== Proof.FfnDownWeightGrad.lean ====
/- The weight gradient of the output projection of the feed-forward layer. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import proofs.«01_k».proof.Proof.Literals

@[expose] public section

set_option maxRecDepth 16384

noncomputable section

open Idealize.ShloMosaic Idealize.ShloMosaic.TcCoe Idealize.SL.Sem
open Idealize.ShloMosaic.Pipeline (Dat)

namespace Cert.FfnDownWeightGrad

open Cert.Kernel5Ideal Cert.Kernel5Ideal.Gen

variable (m : (ℓ : Loc nD τ sig) → Buf (Elt Ideal) ℓ)

/-- The gradient of the weight `w` of `(a @ w) / 2` for the cotangent `d`: the transpose of `a` times `d / 2`. -/
def weightGrad (a : FVec Ideal S4096x5632 .bf16) (d : FVec Ideal S4096x2048 .f32) : FVec Ideal S5632x2048 .bf16 :=
  fun i => ∑ k : Fin 4096, a (ix2 k (i 0)) * (((1 / 2 : ℝ) : EReal) * d (ix2 k (i 1)))

/-- The block of every window at every grid point. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- One grid point stores, at each place of its block, the function at the place of the array the block covers. -/
theorem point (c : Dev nD) (t : Fin cfg0.N) (y) :
    k0_pay1 (iblk m c 0 t) (iblk m c 1 t) y
      = weightGrad (m ((c : Thread nD τ).loc main_arg0)) (m ((c : Thread nD τ).loc main_arg1))
          (((cfg0.win 2).blk t).view.emb y) := by
  pointwise [k0_pay1, weightGrad]
  blk_point [iblk, V, idx t]
  entry_read; pointwise
  rw [Cert.Literals.half]; blk_point [iblk, V, idx t]

/-- The blocks tile the array, so after the run it holds the function everywhere. -/
theorem final (c : Dev nD) : (dats m 0 c).arrAt 2 cfg0.N
    = weightGrad (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The reference multiplies in the other order and transposes: the same function. -/
theorem reference_eq (a : FVec Ideal S4096x5632 .bf16) (d : FVec Ideal S4096x2048 .f32) :
    truncf .bf16 (transpose Cert.Reference5Ideal.S5632x2048 [1, 0]
      (Host.dotGeneral Cert.Reference5Ideal.dot_S4096x2048_S4096x5632_S2048x5632_0_0_1_1_n_n none
        (mulf (broadcastInDim Cert.Reference5Ideal.S4096x2048 ![] Cert.Reference5Ideal.Gen.bcast_S_S4096x2048 (constant Cert.Reference5Ideal.S_ .f32 0x3F000000#32)) d) (extf .f32 a Cert.Reference5Ideal.Gen.bitsLt_bf16_f32))
      Cert.Reference5Ideal.Gen.transposes_S2048x5632_S5632x2048_1_0) Cert.Reference5Ideal.Gen.bitsLt_bf16_f32 = weightGrad a d := by
  funext i
  pointwise [weightGrad]
  exact Finset.sum_congr rfl fun k _ => by rw [Cert.Literals.half, mul_comm]

end Cert.FfnDownWeightGrad

end
-- ==== Proof.FfnUp.lean ====
/- The two input projections of the feed-forward layer with its gate, and the derivatives saved for the backward pass. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import proofs.«01_k».proof.Proof.Literals
public import proofs.«01_k».proof.Proof.Finite

@[expose] public section

set_option maxRecDepth 16384

noncomputable section

open Idealize.ShloMosaic Idealize.ShloMosaic.TcCoe Idealize.SL.Sem
open Idealize.ShloMosaic.Pipeline (Dat)

namespace Cert.FfnUp

open Cert.Finite Cert.Kernel6Ideal Cert.Kernel6Ideal.Gen

variable (m : (ℓ : Loc nD τ sig) → Buf (Elt Ideal) ℓ)

/-- The sigmoid. -/
def sigmoid (x : EReal) : EReal := Ideal.div 1 (1 + Ideal.exp (-x))

/-- The product of the layer's input `n` with a weight. -/
def product (n : FVec Ideal S4096x2048 .bf16) (w : FVec Ideal S2048x5632 .bf16) (i : S4096x5632.Idx) : EReal :=
  ∑ k : Fin 2048, n (ix2 (i 0) k) * w (ix2 k (i 1))

/-- The derivative of `silu(g) * u` by `g`, for the products `g` and `u`. -/
def gateFactor (n : FVec Ideal S4096x2048 .bf16) (wg wu : FVec Ideal S2048x5632 .bf16) : FVec Ideal S4096x5632 .bf16 :=
  fun i => product n wu i * sigmoid (product n wg i)
    + product n wg i * product n wu i * (sigmoid (product n wg i) * (1 - sigmoid (product n wg i)))

/-- The derivative of `silu(g) * u` by `u`: `silu(g)`. -/
def upFactor (n : FVec Ideal S4096x2048 .bf16) (wg : FVec Ideal S2048x5632 .bf16) : FVec Ideal S4096x5632 .bf16 :=
  fun i => product n wg i * sigmoid (product n wg i)

/-- The hidden activations `silu(g) * u`. -/
def hidden (n : FVec Ideal S4096x2048 .bf16) (wg wu : FVec Ideal S2048x5632 .bf16) : FVec Ideal S4096x5632 .bf16 :=
  fun i => product n wg i * sigmoid (product n wg i) * product n wu i

/-- The sigmoid of a real number is real. -/
theorem sigmoid_real {x : EReal} (hx : IsReal x) : IsReal (sigmoid x) := hx.sigmoid

/-- Where all numbers are real, `u` distributes over the two terms of the derivative of `silu`. -/
theorem distribute {g u s : EReal} (hg : IsReal g) (hu : IsReal u) (hs : IsReal s) :
    u * (s + g * s * (1 - s)) = u * s + g * u * (s * (1 - s)) := by
  obtain ⟨g, rfl⟩ := hg
  obtain ⟨u, rfl⟩ := hu
  obtain ⟨s, rfl⟩ := hs
  rw [← EReal.coe_one]
  norm_cast
  ring

/-- The product of real arrays is real. -/
theorem product_real {n : FVec Ideal S4096x2048 .bf16} {w : FVec Ideal S2048x5632 .bf16} (hn : ∀ i, IsReal (n i))
    (hw : ∀ i, IsReal (w i)) (i) : IsReal (product n w i) :=
  IsReal.sum _ fun _ => (hn _).mul (hw _)

/-- The block of every window at every grid point. -/
theorem idx : ∀ t : Fin cfg0.N, win0_0.index t = ![(grid0.coords t 0).val, 0]
    ∧ win0_1.index t = ![0, (grid0.coords t 1).val]
    ∧ win0_2.index t = ![0, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val] :=
  (by decide +kernel : ∀ t : Fin grid0.N, _)

/-- One grid point's product with the gate weight, at each place of its block of result 0. -/
theorem product_gate3 (c : Dev nD) (t : Fin cfg0.N) (y) :
    k0_pay1 (iblk m c 0 t) (iblk m c 1 t) y = product (m ((c : Thread nD τ).loc main_arg0)) (m ((c : Thread nD τ).loc main_arg1)) (((cfg0.win 3).blk t).view.emb y) := by
  pointwise [k0_pay1, product]
  blk_point [iblk, V, idx t]

/-- One grid point's product with the gate weight, at each place of its block of result 1. -/
theorem product_gate4 (c : Dev nD) (t : Fin cfg0.N) (y) :
    k0_pay1 (iblk m c 0 t) (iblk m c 1 t) y = product (m ((c : Thread nD τ).loc main_arg0)) (m ((c : Thread nD τ).loc main_arg1)) (((cfg0.win 4).blk t).view.emb y) := by
  pointwise [k0_pay1, product]
  blk_point [iblk, V, idx t]

/-- One grid point's product with the gate weight, at each place of its block of result 2. -/
theorem product_gate5 (c : Dev nD) (t : Fin cfg0.N) (y) :
    k0_pay1 (iblk m c 0 t) (iblk m c 1 t) y = product (m ((c : Thread nD τ).loc main_arg0)) (m ((c : Thread nD τ).loc main_arg1)) (((cfg0.win 5).blk t).view.emb y) := by
  pointwise [k0_pay1, product]
  blk_point [iblk, V, idx t]

/-- One grid point's product with the up weight, at each place of its block of result 0. -/
theorem product_up3 (c : Dev nD) (t : Fin cfg0.N) (y) :
    k0_pay2 (iblk m c 0 t) (iblk m c 2 t) y = product (m ((c : Thread nD τ).loc main_arg0)) (m ((c : Thread nD τ).loc main_arg2)) (((cfg0.win 3).blk t).view.emb y) := by
  pointwise [k0_pay2, product]
  blk_point [iblk, V, idx t]

/-- One grid point's product with the up weight, at each place of its block of result 2. -/
theorem product_up5 (c : Dev nD) (t : Fin cfg0.N) (y) :
    k0_pay2 (iblk m c 0 t) (iblk m c 2 t) y = product (m ((c : Thread nD τ).loc main_arg0)) (m ((c : Thread nD τ).loc main_arg2)) (((cfg0.win 5).blk t).view.emb y) := by
  pointwise [k0_pay2, product]
  blk_point [iblk, V, idx t]

/-- One grid point stores, at each place of its block, the function at the place of the array the block covers. -/
theorem point_gate (c : Dev nD) (hn : ∀ i, IsReal (m ((c : Thread nD τ).loc main_arg0) i)) (hg : ∀ i, IsReal (m ((c : Thread nD τ).loc main_arg1) i))
    (hu : ∀ i, IsReal (m ((c : Thread nD τ).loc main_arg2) i)) (t : Fin cfg0.N) (y) :
    k0_pay5 (iblk m c 0 t) (iblk m c 1 t) (iblk m c 0 t) (iblk m c 2 t) y
      = gateFactor (m ((c : Thread nD τ).loc main_arg0)) (m ((c : Thread nD τ).loc main_arg1)) (m ((c : Thread nD τ).loc main_arg2))
          (((cfg0.win 3).blk t).view.emb y) := by
  pointwise [k0_pay5, k0_pay4, k0_pay3]
  rw [product_gate3, product_up3, zero_sub]
  exact distribute (product_real hn hg _) (product_real hn hu _) (sigmoid_real (product_real hn hg _))

/-- The blocks tile the array, so after the run it holds the function everywhere. -/
theorem final_gate (c : Dev nD) (hn : ∀ i, IsReal (m ((c : Thread nD τ).loc main_arg0) i)) (hg : ∀ i, IsReal (m ((c : Thread nD τ).loc main_arg1) i))
    (hu : ∀ i, IsReal (m ((c : Thread nD τ).loc main_arg2) i)) : (dats m 0 c).arrAt 3 cfg0.N
    = gateFactor (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point_gate m c hn hg hu t y

/-- One grid point stores, at each place of its block, the function at the place of the array the block covers. -/
theorem point_up (c : Dev nD) (t : Fin cfg0.N) (y) :
    k0_pay6 (iblk m c 0 t) (iblk m c 1 t) y
      = upFactor (m ((c : Thread nD τ).loc main_arg0)) (m ((c : Thread nD τ).loc main_arg1))
          (((cfg0.win 4).blk t).view.emb y) := by
  pointwise [k0_pay6, k0_pay4, k0_pay3]
  rw [product_gate4, zero_sub]
  rfl

/-- The blocks tile the array, so after the run it holds the function everywhere. -/
theorem final_up (c : Dev nD) : (dats m 0 c).arrAt 4 cfg0.N
    = upFactor (m ((c : Thread nD τ).loc main_arg0)) (m ((c : Thread nD τ).loc main_arg1)) := by
  refine (dats m 0 c).arrAt_eq_of_covers 4 _ (by decide +kernel) fun t hf y => ?_
  blk_simp; rw [after0_4]; frame_out
  exact point_up m c t y

/-- One grid point stores, at each place of its block, the function at the place of the array the block covers. -/
theorem point_hidden (c : Dev nD) (t : Fin cfg0.N) (y) :
    k0_pay7 (iblk m c 0 t) (iblk m c 1 t) (iblk m c 0 t) (iblk m c 2 t) y
      = hidden (m ((c : Thread nD τ).loc main_arg0)) (m ((c : Thread nD τ).loc main_arg1)) (m ((c : Thread nD τ).loc main_arg2))
          (((cfg0.win 5).blk t).view.emb y) := by
  pointwise [k0_pay7, k0_pay4, k0_pay3]
  rw [product_gate5, product_up5, zero_sub]
  rfl

/-- The blocks tile the array, so after the run it holds the function everywhere. -/
theorem final_hidden (c : Dev nD) : (dats m 0 c).arrAt 5 cfg0.N
    = hidden (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point_hidden m c t y

/-- The reference's derivative by `g` is the same function. -/
theorem reference_gate_eq (n : FVec Ideal S4096x2048 .bf16) (wg wu : FVec Ideal S2048x5632 .bf16) :
    truncf .bf16 (addf (mulf (mulf (broadcastInDim Cert.Reference6Ideal.S4096x5632 ![] Cert.Reference6Ideal.Gen.bcast_S_S4096x5632 (constant Cert.Reference6Ideal.S_ .f32 0x3F800000#32)) (Host.dotGeneral Cert.Reference6Ideal.dot_S4096x2048_S2048x5632_S4096x5632_1_0_0_1_n_n none (extf .f32 n Cert.Reference6Ideal.Gen.bitsLt_bf16_f32) (extf .f32 wu Cert.Reference6Ideal.Gen.bitsLt_bf16_f32))) (Host.divf (broadcastInDim Cert.Reference6Ideal.S4096x5632 ![] Cert.Reference6Ideal.Gen.bcast_S_S4096x5632 (constant Cert.Reference6Ideal.S_ .f32 0x3F800000#32)) (addf (broadcastInDim Cert.Reference6Ideal.S4096x5632 ![] Cert.Reference6Ideal.Gen.bcast_S_S4096x5632 (constant Cert.Reference6Ideal.S_ .f32 0x3F800000#32)) (Host.exp (Host.negf (Host.dotGeneral Cert.Reference6Ideal.dot_S4096x2048_S2048x5632_S4096x5632_1_0_0_1_n_n none (extf .f32 n Cert.Reference6Ideal.Gen.bitsLt_bf16_f32) (extf .f32 wg Cert.Reference6Ideal.Gen.bitsLt_bf16_f32)))))))
      (mulf (mulf (Host.dotGeneral Cert.Reference6Ideal.dot_S4096x2048_S2048x5632_S4096x5632_1_0_0_1_n_n none (extf .f32 n Cert.Reference6Ideal.Gen.bitsLt_bf16_f32) (extf .f32 wg Cert.Reference6Ideal.Gen.bitsLt_bf16_f32)) (mulf (broadcastInDim Cert.Reference6Ideal.S4096x5632 ![] Cert.Reference6Ideal.Gen.bcast_S_S4096x5632 (constant Cert.Reference6Ideal.S_ .f32 0x3F800000#32)) (Host.dotGeneral Cert.Reference6Ideal.dot_S4096x2048_S2048x5632_S4096x5632_1_0_0_1_n_n none (extf .f32 n Cert.Reference6Ideal.Gen.bitsLt_bf16_f32) (extf .f32 wu Cert.Reference6Ideal.Gen.bitsLt_bf16_f32)))) (mulf (Host.divf (broadcastInDim Cert.Reference6Ideal.S4096x5632 ![] Cert.Reference6Ideal.Gen.bcast_S_S4096x5632 (constant Cert.Reference6Ideal.S_ .f32 0x3F800000#32)) (addf (broadcastInDim Cert.Reference6Ideal.S4096x5632 ![] Cert.Reference6Ideal.Gen.bcast_S_S4096x5632 (constant Cert.Reference6Ideal.S_ .f32 0x3F800000#32)) (Host.exp (Host.negf (Host.dotGeneral Cert.Reference6Ideal.dot_S4096x2048_S2048x5632_S4096x5632_1_0_0_1_n_n none (extf .f32 n Cert.Reference6Ideal.Gen.bitsLt_bf16_f32) (extf .f32 wg Cert.Reference6Ideal.Gen.bitsLt_bf16_f32)))))) (subf (broadcastInDim Cert.Reference6Ideal.S4096x5632 ![] Cert.Reference6Ideal.Gen.bcast_S_S4096x5632 (constant Cert.Reference6Ideal.S_ .f32 0x3F800000#32)) (Host.divf (broadcastInDim Cert.Reference6Ideal.S4096x5632 ![] Cert.Reference6Ideal.Gen.bcast_S_S4096x5632 (constant Cert.Reference6Ideal.S_ .f32 0x3F800000#32)) (addf (broadcastInDim Cert.Reference6Ideal.S4096x5632 ![] Cert.Reference6Ideal.Gen.bcast_S_S4096x5632 (constant Cert.Reference6Ideal.S_ .f32 0x3F800000#32)) (Host.exp (Host.negf (Host.dotGeneral Cert.Reference6Ideal.dot_S4096x2048_S2048x5632_S4096x5632_1_0_0_1_n_n none (extf .f32 n Cert.Reference6Ideal.Gen.bitsLt_bf16_f32) (extf .f32 wg Cert.Reference6Ideal.Gen.bitsLt_bf16_f32)))))))))) Cert.Reference6Ideal.Gen.bitsLt_bf16_f32 = gateFactor n wg wu := by
  funext i
  pointwise [gateFactor, product, sigmoid]

/-- The reference's derivative by `u` is the same function. -/
theorem reference_up_eq (n : FVec Ideal S4096x2048 .bf16) (wg : FVec Ideal S2048x5632 .bf16) :
    truncf .bf16 (mulf (mulf (Host.dotGeneral Cert.Reference6Ideal.dot_S4096x2048_S2048x5632_S4096x5632_1_0_0_1_n_n none (extf .f32 n Cert.Reference6Ideal.Gen.bitsLt_bf16_f32) (extf .f32 wg Cert.Reference6Ideal.Gen.bitsLt_bf16_f32)) (Host.divf (broadcastInDim Cert.Reference6Ideal.S4096x5632 ![] Cert.Reference6Ideal.Gen.bcast_S_S4096x5632 (constant Cert.Reference6Ideal.S_ .f32 0x3F800000#32)) (addf (broadcastInDim Cert.Reference6Ideal.S4096x5632 ![] Cert.Reference6Ideal.Gen.bcast_S_S4096x5632 (constant Cert.Reference6Ideal.S_ .f32 0x3F800000#32)) (Host.exp (Host.negf (Host.dotGeneral Cert.Reference6Ideal.dot_S4096x2048_S2048x5632_S4096x5632_1_0_0_1_n_n none (extf .f32 n Cert.Reference6Ideal.Gen.bitsLt_bf16_f32) (extf .f32 wg Cert.Reference6Ideal.Gen.bitsLt_bf16_f32))))))) (broadcastInDim Cert.Reference6Ideal.S4096x5632 ![] Cert.Reference6Ideal.Gen.bcast_S_S4096x5632 (constant Cert.Reference6Ideal.S_ .f32 0x3F800000#32))) Cert.Reference6Ideal.Gen.bitsLt_bf16_f32 = upFactor n wg := by
  funext i
  pointwise [upFactor, product, sigmoid]

/-- The reference's hidden activations are the same function. -/
theorem reference_hidden_eq (n : FVec Ideal S4096x2048 .bf16) (wg wu : FVec Ideal S2048x5632 .bf16) :
    truncf .bf16 (mulf (mulf (Host.dotGeneral Cert.Reference6Ideal.dot_S4096x2048_S2048x5632_S4096x5632_1_0_0_1_n_n none (extf .f32 n Cert.Reference6Ideal.Gen.bitsLt_bf16_f32) (extf .f32 wg Cert.Reference6Ideal.Gen.bitsLt_bf16_f32)) (Host.divf (broadcastInDim Cert.Reference6Ideal.S4096x5632 ![] Cert.Reference6Ideal.Gen.bcast_S_S4096x5632 (constant Cert.Reference6Ideal.S_ .f32 0x3F800000#32)) (addf (broadcastInDim Cert.Reference6Ideal.S4096x5632 ![] Cert.Reference6Ideal.Gen.bcast_S_S4096x5632 (constant Cert.Reference6Ideal.S_ .f32 0x3F800000#32)) (Host.exp (Host.negf (Host.dotGeneral Cert.Reference6Ideal.dot_S4096x2048_S2048x5632_S4096x5632_1_0_0_1_n_n none (extf .f32 n Cert.Reference6Ideal.Gen.bitsLt_bf16_f32) (extf .f32 wg Cert.Reference6Ideal.Gen.bitsLt_bf16_f32))))))) (Host.dotGeneral Cert.Reference6Ideal.dot_S4096x2048_S2048x5632_S4096x5632_1_0_0_1_n_n none (extf .f32 n Cert.Reference6Ideal.Gen.bitsLt_bf16_f32) (extf .f32 wu Cert.Reference6Ideal.Gen.bitsLt_bf16_f32))) Cert.Reference6Ideal.Gen.bitsLt_bf16_f32 = hidden n wg wu := by
  funext i
  pointwise [hidden, product, sigmoid]

end Cert.FfnUp

end
-- ==== Proof.FfnDown.lean ====
/- The output projection of the feed-forward layer, half of it added to the residual stream. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import proofs.«01_k».proof.Proof.Literals

@[expose] public section

set_option maxRecDepth 16384

noncomputable section

open Idealize.ShloMosaic Idealize.ShloMosaic.TcCoe Idealize.SL.Sem
open Idealize.ShloMosaic.Pipeline (Dat)

namespace Cert.FfnDown

open Cert.Kernel7Ideal Cert.Kernel7Ideal.Gen

variable (m : (ℓ : Loc nD τ sig) → Buf (Elt Ideal) ℓ)

/-- The residual stream `x` with half the product of the activations `a` and the weight `w` added. -/
def residual (x : FVec Ideal S4096x2048 .f32) (a : FVec Ideal S4096x5632 .bf16) (w : FVec Ideal S5632x2048 .bf16) :
    FVec Ideal S4096x2048 .f32 :=
  fun i => x i + ((1 / 2 : ℝ) : EReal) * ∑ k : Fin 5632, a (ix2 (i 0) k) * w (ix2 k (i 1))

/-- The block of every window at every grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

/-- One grid point stores, at each place of its block, the function at the place of the array the block covers. -/
theorem point (c : Dev nD) (t : Fin cfg0.N) (y) :
    k0_pay1 (iblk m c 0 t) (iblk m c 1 t) (iblk m c 2 t) y
      = residual (m ((c : Thread nD τ).loc main_arg0)) (m ((c : Thread nD τ).loc main_arg1)) (m ((c : Thread nD τ).loc main_arg2))
          (((cfg0.win 3).blk t).view.emb y) := by
  pointwise [k0_pay1, residual]
  rw [Cert.Literals.half]; blk_point [iblk, V, idx t]

/-- The blocks tile the array, so after the run it holds the function everywhere. -/
theorem final (c : Dev nD) : (dats m 0 c).arrAt 3 cfg0.N
    = residual (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

/-- The reference's sum is the same function. -/
theorem reference_eq (x : FVec Ideal S4096x2048 .f32) (a : FVec Ideal S4096x5632 .bf16) (w : FVec Ideal S5632x2048 .bf16) :
    addf x (mulf (broadcastInDim Cert.Reference7Ideal.S4096x2048 ![] Cert.Reference7Ideal.Gen.bcast_S_S4096x2048 (constant Cert.Reference7Ideal.S_ .f32 0x3F000000#32))
      (Host.dotGeneral Cert.Reference7Ideal.dot_S4096x5632_S5632x2048_S4096x2048_1_0_0_1_n_n none
        (extf .f32 a Cert.Reference7Ideal.Gen.bitsLt_bf16_f32) (extf .f32 w Cert.Reference7Ideal.Gen.bitsLt_bf16_f32))) = residual x a w := by
  funext i
  pointwise [residual]
  rw [Cert.Literals.half]

end Cert.FfnDown

end
-- ==== Proof.OutProj.lean ====
/- The output projection of a mixer, added to the residual stream. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProj

open Cert.Kernel8Ideal Cert.Kernel8Ideal.Gen

variable (m : (ℓ : Loc nD τ sig) → Buf (Elt Ideal) ℓ)

/-- The residual stream `x` with the product of the activations `a` and the weight `w` added. -/
def residual (x : FVec Ideal S4096x2048 .f32) (a : FVec Ideal S4096x2048 .bf16) (w : FVec Ideal S2048x2048 .bf16) :
    FVec Ideal S4096x2048 .f32 :=
  fun i => x i + ∑ k : Fin 2048, a (ix2 (i 0) k) * w (ix2 k (i 1))

/-- The block of every window at every grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

/-- One grid point stores, at each place of its block, the function at the place of the array the block covers. -/
theorem point (c : Dev nD) (t : Fin cfg0.N) (y) :
    k0_pay1 (iblk m c 0 t) (iblk m c 1 t) (iblk m c 2 t) y
      = residual (m ((c : Thread nD τ).loc main_arg0)) (m ((c : Thread nD τ).loc main_arg1)) (m ((c : Thread nD τ).loc main_arg2))
          (((cfg0.win 3).blk t).view.emb y) := by
  pointwise [k0_pay1, residual]
  blk_point [iblk, V, idx t]

/-- The blocks tile the array, so after the run it holds the function everywhere. -/
theorem final (c : Dev nD) : (dats m 0 c).arrAt 3 cfg0.N
    = residual (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

/-- The reference's sum is the same function. -/
theorem reference_eq (x : FVec Ideal S4096x2048 .f32) (a : FVec Ideal S4096x2048 .bf16) (w : FVec Ideal S2048x2048 .bf16) :
    addf x (Host.dotGeneral Cert.Reference8Ideal.dot_S4096x2048_S2048x2048_S4096x2048_1_0_0_1_n_n none
      (extf .f32 a Cert.Reference8Ideal.Gen.bitsLt_bf16_f32) (extf .f32 w Cert.Reference8Ideal.Gen.bitsLt_bf16_f32)) = residual x a w := by
  funext i
  pointwise [residual]

end Cert.OutProj

end
-- ==== Proof.OutProjWeightGrad.lean ====
/- The weight gradient of the output projection of a mixer. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjWeightGrad

open Cert.Kernel9Ideal Cert.Kernel9Ideal.Gen

variable (m : (ℓ : Loc nD τ sig) → Buf (Elt Ideal) ℓ)

/-- The gradient of the weight `w` of `a @ w` for the cotangent `d`: the transpose of `a` times `d`. -/
def weightGrad (a : FVec Ideal S4096x2048 .bf16) (d : FVec Ideal S4096x2048 .bf16) : FVec Ideal S2048x2048 .bf16 :=
  fun i => ∑ k : Fin 4096, a (ix2 k (i 0)) * d (ix2 k (i 1))

/-- The block of every window at every grid point. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- One grid point stores, at each place of its block, the function at the place of the array the block covers. -/
theorem point (c : Dev nD) (t : Fin cfg0.N) (y) :
    k0_pay1 (iblk m c 0 t) (iblk m c 1 t) y
      = weightGrad (m ((c : Thread nD τ).loc main_arg0)) (m ((c : Thread nD τ).loc main_arg1))
          (((cfg0.win 2).blk t).view.emb y) := by
  pointwise [k0_pay1, weightGrad]
  blk_point [iblk, V, idx t]

/-- The blocks tile the array, so after the run it holds the function everywhere. -/
theorem final (c : Dev nD) : (dats m 0 c).arrAt 2 cfg0.N
    = weightGrad (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The reference multiplies in the other order and transposes: the same function. -/
theorem reference_eq (a : FVec Ideal S4096x2048 .bf16) (d : FVec Ideal S4096x2048 .bf16) :
    truncf .bf16 (transpose Cert.Reference9Ideal.S2048x2048 [1, 0]
      (Host.dotGeneral Cert.Reference9Ideal.dot_S4096x2048_S4096x2048_S2048x2048_0_0_1_1_n_n none
        (extf .f32 d Cert.Reference9Ideal.Gen.bitsLt_bf16_f32) (extf .f32 a Cert.Reference9Ideal.Gen.bitsLt_bf16_f32))
      Cert.Reference9Ideal.Gen.transposes_S2048x2048_S2048x2048_1_0) Cert.Reference9Ideal.Gen.bitsLt_bf16_f32 = weightGrad a d := by
  funext i
  pointwise [weightGrad]
  exact Finset.sum_congr rfl fun k _ => mul_comm _ _

end Cert.OutProjWeightGrad

end
-- ==== Proof.OutProjInputGrad.lean ====
/- The gradient of the input of the output projection of a mixer. -/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjInputGrad

open Cert.Kernel10Ideal Cert.Kernel10Ideal.Gen

variable (m : (ℓ : Loc nD τ sig) → Buf (Elt Ideal) ℓ)

/-- The gradient of the activations `a` of `a @ w` for the cotangent `d`: `d` times the transpose of `w`. -/
def activationGrad (w : FVec Ideal S2048x2048 .bf16) (d : FVec Ideal S4096x2048 .bf16) : FVec Ideal S4096x2048 .f32 :=
  fun i => ∑ k : Fin 2048, d (ix2 (i 0) k) * w (ix2 (i 1) k)

/-- The block of every window at every grid point. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

/-- One grid point stores, at each place of its block, the function at the place of the array the block covers. -/
theorem point (c : Dev nD) (t : Fin cfg0.N) (y) :
    k0_pay1 (iblk m c 0 t) (iblk m c 1 t) y
      = activationGrad (m ((c : Thread nD τ).loc main_arg0)) (m ((c : Thread nD τ).loc main_arg1))
          (((cfg0.win 2).blk t).view.emb y) := by
  pointwise [k0_pay1, activationGrad]
  blk_point [iblk, V, idx t]

/-- The blocks tile the array, so after the run it holds the function everywhere. -/
theorem final (c : Dev nD) : (dats m 0 c).arrAt 2 cfg0.N
    = activationGrad (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The reference's product is the same function. -/
theorem reference_eq (w : FVec Ideal S2048x2048 .bf16) (d : FVec Ideal S4096x2048 .bf16) :
    Host.dotGeneral Cert.Reference10Ideal.dot_S4096x2048_S2048x2048_S4096x2048_1_1_0_0_n_n none
      (extf .f32 d Cert.Reference10Ideal.Gen.bitsLt_bf16_f32) (extf .f32 w Cert.Reference10Ideal.Gen.bitsLt_bf16_f32) = activationGrad w d := by
  funext i
  pointwise [activationGrad]

end Cert.OutProjInputGrad

end
-- ==== Proof.GateProjWeightGrad.lean ====
/- The weight gradient of the input projection of the gated mixer. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateProjWeightGrad

open Cert.Kernel11Ideal Cert.Kernel11Ideal.Gen

variable (m : (ℓ : Loc nD τ sig) → Buf (Elt Ideal) ℓ)

/-- The gradient of the weight `w` of `a @ w` for the cotangent `d`: the transpose of `a` times `d`. -/
def weightGrad (a : FVec Ideal S4096x2048 .bf16) (d : FVec Ideal S4096x4096 .bf16) : FVec Ideal S2048x4096 .bf16 :=
  fun i => ∑ k : Fin 4096, a (ix2 k (i 0)) * d (ix2 k (i 1))

/-- The block of every window at every grid point. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- One grid point stores, at each place of its block, the function at the place of the array the block covers. -/
theorem point (c : Dev nD) (t : Fin cfg0.N) (y) :
    k0_pay1 (iblk m c 0 t) (iblk m c 1 t) y
      = weightGrad (m ((c : Thread nD τ).loc main_arg0)) (m ((c : Thread nD τ).loc main_arg1))
          (((cfg0.win 2).blk t).view.emb y) := by
  pointwise [k0_pay1, weightGrad]
  blk_point [iblk, V, idx t]

/-- The blocks tile the array, so after the run it holds the function everywhere. -/
theorem final (c : Dev nD) : (dats m 0 c).arrAt 2 cfg0.N
    = weightGrad (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The reference multiplies in the other order and transposes: the same function. -/
theorem reference_eq (a : FVec Ideal S4096x2048 .bf16) (d : FVec Ideal S4096x4096 .bf16) :
    truncf .bf16 (transpose Cert.Reference11Ideal.S2048x4096 [1, 0]
      (Host.dotGeneral Cert.Reference11Ideal.dot_S4096x4096_S4096x2048_S4096x2048_0_0_1_1_n_n none
        (extf .f32 d Cert.Reference11Ideal.Gen.bitsLt_bf16_f32) (extf .f32 a Cert.Reference11Ideal.Gen.bitsLt_bf16_f32))
      Cert.Reference11Ideal.Gen.transposes_S4096x2048_S2048x4096_1_0) Cert.Reference11Ideal.Gen.bitsLt_bf16_f32 = weightGrad a d := by
  funext i
  pointwise [weightGrad]
  exact Finset.sum_congr rfl fun k _ => mul_comm _ _

end Cert.GateProjWeightGrad

end
-- ==== Proof.GateProjInputGrad.lean ====
/- The gradient of the input of the input projection of the gated mixer. -/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateProjInputGrad

open Cert.Kernel12Ideal Cert.Kernel12Ideal.Gen

variable (m : (ℓ : Loc nD τ sig) → Buf (Elt Ideal) ℓ)

/-- The gradient of the activations `a` of `a @ w` for the cotangent `d`: `d` times the transpose of `w`. -/
def activationGrad (w : FVec Ideal S2048x4096 .bf16) (d : FVec Ideal S4096x4096 .bf16) : FVec Ideal S4096x2048 .f32 :=
  fun i => ∑ k : Fin 4096, d (ix2 (i 0) k) * w (ix2 (i 1) k)

/-- The block of every window at every grid point. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

/-- One grid point stores, at each place of its block, the function at the place of the array the block covers. -/
theorem point (c : Dev nD) (t : Fin cfg0.N) (y) :
    k0_pay1 (iblk m c 0 t) (iblk m c 1 t) y
      = activationGrad (m ((c : Thread nD τ).loc main_arg0)) (m ((c : Thread nD τ).loc main_arg1))
          (((cfg0.win 2).blk t).view.emb y) := by
  pointwise [k0_pay1, activationGrad]
  blk_point [iblk, V, idx t]

/-- The blocks tile the array, so after the run it holds the function everywhere. -/
theorem final (c : Dev nD) : (dats m 0 c).arrAt 2 cfg0.N
    = activationGrad (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The reference's product is the same function. -/
theorem reference_eq (w : FVec Ideal S2048x4096 .bf16) (d : FVec Ideal S4096x4096 .bf16) :
    Host.dotGeneral Cert.Reference12Ideal.dot_S4096x4096_S2048x4096_S4096x2048_1_1_0_0_n_n none
      (extf .f32 d Cert.Reference12Ideal.Gen.bitsLt_bf16_f32) (extf .f32 w Cert.Reference12Ideal.Gen.bitsLt_bf16_f32) = activationGrad w d := by
  funext i
  pointwise [activationGrad]

end Cert.GateProjInputGrad

end
-- ==== Proof.KvProj.lean ====
/- The shared key and value projection. -/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KvProj

open Cert.Kernel13Ideal Cert.Kernel13Ideal.Gen

variable (m : (ℓ : Loc nD τ sig) → Buf (Elt Ideal) ℓ)

/-- The product of the activations `a` with the weight `w`. -/
def product (a : FVec Ideal S4096x2048 .bf16) (w : FVec Ideal S2048x12288 .bf16) : FVec Ideal S4096x12288 .f32 :=
  fun i => ∑ k : Fin 2048, a (ix2 (i 0) k) * w (ix2 k (i 1))

/-- The block of every window at every grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- One grid point stores, at each place of its block, the function at the place of the array the block covers. -/
theorem point (c : Dev nD) (t : Fin cfg0.N) (y) :
    k0_pay1 (iblk m c 0 t) (iblk m c 1 t) y
      = product (m ((c : Thread nD τ).loc main_arg0)) (m ((c : Thread nD τ).loc main_arg1))
          (((cfg0.win 2).blk t).view.emb y) := by
  pointwise [k0_pay1, product]
  blk_point [iblk, V, idx t]

/-- The blocks tile the array, so after the run it holds the function everywhere. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The reference's product is the same function. -/
theorem reference_eq (a : FVec Ideal S4096x2048 .bf16) (w : FVec Ideal S2048x12288 .bf16) :
    Host.dotGeneral Cert.Reference13Ideal.dot_S4096x2048_S2048x12288_S4096x12288_1_0_0_1_n_n none
      (extf .f32 a Cert.Reference13Ideal.Gen.bitsLt_bf16_f32) (extf .f32 w Cert.Reference13Ideal.Gen.bitsLt_bf16_f32) = product a w := by
  funext i
  pointwise [product]

end Cert.KvProj

end
-- ==== Proof.KvProjWeightGrad.lean ====
/- The weight gradient of the shared key and value projection. -/
module

public import proofs.«01_k».proof.Proof.Gen.Kernel14Ideal.Value
public import proofs.«01_k».proof.Proof.Gen.Reference14Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KvProjWeightGrad

open Cert.Kernel14Ideal Cert.Kernel14Ideal.Gen

variable (m : (ℓ : Loc nD τ sig) → Buf (Elt Ideal) ℓ)

/-- The gradient of the weight `w` of `a @ w` for the cotangent `d`: the transpose of `a` times `d`. -/
def weightGrad (a : FVec Ideal S4096x2048 .bf16) (d : FVec Ideal S4096x12288 .bf16) : FVec Ideal S2048x12288 .bf16 :=
  fun i => ∑ k : Fin 4096, a (ix2 k (i 0)) * d (ix2 k (i 1))

/-- The block of every window at every grid point. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- One grid point stores, at each place of its block, the function at the place of the array the block covers. -/
theorem point (c : Dev nD) (t : Fin cfg0.N) (y) :
    k0_pay1 (iblk m c 0 t) (iblk m c 1 t) y
      = weightGrad (m ((c : Thread nD τ).loc main_arg0)) (m ((c : Thread nD τ).loc main_arg1))
          (((cfg0.win 2).blk t).view.emb y) := by
  pointwise [k0_pay1, weightGrad]
  blk_point [iblk, V, idx t]

/-- The blocks tile the array, so after the run it holds the function everywhere. -/
theorem final (c : Dev nD) : (dats m 0 c).arrAt 2 cfg0.N
    = weightGrad (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The reference multiplies in the other order and transposes: the same function. -/
theorem reference_eq (a : FVec Ideal S4096x2048 .bf16) (d : FVec Ideal S4096x12288 .bf16) :
    truncf .bf16 (transpose Cert.Reference14Ideal.S2048x12288 [1, 0]
      (Host.dotGeneral Cert.Reference14Ideal.dot_S4096x12288_S4096x2048_S12288x2048_0_0_1_1_n_n none
        (extf .f32 d Cert.Reference14Ideal.Gen.bitsLt_bf16_f32) (extf .f32 a Cert.Reference14Ideal.Gen.bitsLt_bf16_f32))
      Cert.Reference14Ideal.Gen.transposes_S12288x2048_S2048x12288_1_0) Cert.Reference14Ideal.Gen.bitsLt_bf16_f32 = weightGrad a d := by
  funext i
  pointwise [weightGrad]
  exact Finset.sum_congr rfl fun k _ => mul_comm _ _

end Cert.KvProjWeightGrad

end
-- ==== Proof.KvProjInputGrad.lean ====
/- The gradient of the input of the shared key and value projection. -/
module

public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KvProjInputGrad

open Cert.Kernel15Ideal Cert.Kernel15Ideal.Gen

variable (m : (ℓ : Loc nD τ sig) → Buf (Elt Ideal) ℓ)

/-- The gradient of the activations `a` of `a @ w` for the cotangent `d`: `d` times the transpose of `w`. -/
def activationGrad (w : FVec Ideal S2048x12288 .bf16) (d : FVec Ideal S4096x12288 .bf16) : FVec Ideal S4096x2048 .f32 :=
  fun i => ∑ k : Fin 12288, d (ix2 (i 0) k) * w (ix2 (i 1) k)

/-- The block of every window at every grid point. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

/-- One grid point stores, at each place of its block, the function at the place of the array the block covers. -/
theorem point (c : Dev nD) (t : Fin cfg0.N) (y) :
    k0_pay1 (iblk m c 0 t) (iblk m c 1 t) y
      = activationGrad (m ((c : Thread nD τ).loc main_arg0)) (m ((c : Thread nD τ).loc main_arg1))
          (((cfg0.win 2).blk t).view.emb y) := by
  pointwise [k0_pay1, activationGrad]
  blk_point [iblk, V, idx t]

/-- The blocks tile the array, so after the run it holds the function everywhere. -/
theorem final (c : Dev nD) : (dats m 0 c).arrAt 2 cfg0.N
    = activationGrad (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The reference's product is the same function. -/
theorem reference_eq (w : FVec Ideal S2048x12288 .bf16) (d : FVec Ideal S4096x12288 .bf16) :
    Host.dotGeneral Cert.Reference15Ideal.dot_S4096x12288_S2048x12288_S4096x2048_1_1_0_0_n_n none
      (extf .f32 d Cert.Reference15Ideal.Gen.bitsLt_bf16_f32) (extf .f32 w Cert.Reference15Ideal.Gen.bitsLt_bf16_f32) = activationGrad w d := by
  funext i
  pointwise [activationGrad]

end Cert.KvProjInputGrad

end
-- ==== Proof.QueryProj.lean ====
/- The query projection. -/
module

public import proofs.«01_k».proof.Proof.Gen.Kernel16Ideal.Value
public import proofs.«01_k».proof.Proof.Gen.Reference16Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QueryProj

open Cert.Kernel16Ideal Cert.Kernel16Ideal.Gen

variable (m : (ℓ : Loc nD τ sig) → Buf (Elt Ideal) ℓ)

/-- The product of the activations `a` with the weight `w`. -/
def product (a : FVec Ideal S4096x2048 .bf16) (w : FVec Ideal S2048x6144 .bf16) : FVec Ideal S4096x6144 .f32 :=
  fun i => ∑ k : Fin 2048, a (ix2 (i 0) k) * w (ix2 k (i 1))

/-- The block of every window at every grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- One grid point stores, at each place of its block, the function at the place of the array the block covers. -/
theorem point (c : Dev nD) (t : Fin cfg0.N) (y) :
    k0_pay1 (iblk m c 0 t) (iblk m c 1 t) y
      = product (m ((c : Thread nD τ).loc main_arg0)) (m ((c : Thread nD τ).loc main_arg1))
          (((cfg0.win 2).blk t).view.emb y) := by
  pointwise [k0_pay1, product]
  blk_point [iblk, V, idx t]

/-- The blocks tile the array, so after the run it holds the function everywhere. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The reference's product is the same function. -/
theorem reference_eq (a : FVec Ideal S4096x2048 .bf16) (w : FVec Ideal S2048x6144 .bf16) :
    Host.dotGeneral Cert.Reference16Ideal.dot_S4096x2048_S2048x6144_S4096x6144_1_0_0_1_n_n none
      (extf .f32 a Cert.Reference16Ideal.Gen.bitsLt_bf16_f32) (extf .f32 w Cert.Reference16Ideal.Gen.bitsLt_bf16_f32) = product a w := by
  funext i
  pointwise [product]

end Cert.QueryProj

end
-- ==== Proof.QueryProjWeightGrad.lean ====
/- The weight gradient of the query projection. -/
module

public import proofs.«01_k».proof.Proof.Gen.Kernel17Ideal.Value
public import proofs.«01_k».proof.Proof.Gen.Reference17Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QueryProjWeightGrad

open Cert.Kernel17Ideal Cert.Kernel17Ideal.Gen

variable (m : (ℓ : Loc nD τ sig) → Buf (Elt Ideal) ℓ)

/-- The gradient of the weight `w` of `a @ w` for the cotangent `d`: the transpose of `a` times `d`. -/
def weightGrad (a : FVec Ideal S4096x2048 .bf16) (d : FVec Ideal S4096x6144 .bf16) : FVec Ideal S2048x6144 .bf16 :=
  fun i => ∑ k : Fin 4096, a (ix2 k (i 0)) * d (ix2 k (i 1))

/-- The block of every window at every grid point. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- One grid point stores, at each place of its block, the function at the place of the array the block covers. -/
theorem point (c : Dev nD) (t : Fin cfg0.N) (y) :
    k0_pay1 (iblk m c 0 t) (iblk m c 1 t) y
      = weightGrad (m ((c : Thread nD τ).loc main_arg0)) (m ((c : Thread nD τ).loc main_arg1))
          (((cfg0.win 2).blk t).view.emb y) := by
  pointwise [k0_pay1, weightGrad]
  blk_point [iblk, V, idx t]

/-- The blocks tile the array, so after the run it holds the function everywhere. -/
theorem final (c : Dev nD) : (dats m 0 c).arrAt 2 cfg0.N
    = weightGrad (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The reference multiplies in the other order and transposes: the same function. -/
theorem reference_eq (a : FVec Ideal S4096x2048 .bf16) (d : FVec Ideal S4096x6144 .bf16) :
    truncf .bf16 (transpose Cert.Reference17Ideal.S2048x6144 [1, 0]
      (Host.dotGeneral Cert.Reference17Ideal.dot_S4096x6144_S4096x2048_S6144x2048_0_0_1_1_n_n none
        (extf .f32 d Cert.Reference17Ideal.Gen.bitsLt_bf16_f32) (extf .f32 a Cert.Reference17Ideal.Gen.bitsLt_bf16_f32))
      Cert.Reference17Ideal.Gen.transposes_S6144x2048_S2048x6144_1_0) Cert.Reference17Ideal.Gen.bitsLt_bf16_f32 = weightGrad a d := by
  funext i
  pointwise [weightGrad]
  exact Finset.sum_congr rfl fun k _ => mul_comm _ _

end Cert.QueryProjWeightGrad

end
-- ==== Proof.QueryProjInputGrad.lean ====
/- The gradient of the input of the query projection. -/
module

public import proofs.«01_k».proof.Proof.Gen.Kernel18Ideal.Value
public import proofs.«01_k».proof.Proof.Gen.Reference18Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QueryProjInputGrad

open Cert.Kernel18Ideal Cert.Kernel18Ideal.Gen

variable (m : (ℓ : Loc nD τ sig) → Buf (Elt Ideal) ℓ)

/-- The gradient of the activations `a` of `a @ w` for the cotangent `d`: `d` times the transpose of `w`. -/
def activationGrad (w : FVec Ideal S2048x6144 .bf16) (d : FVec Ideal S4096x6144 .bf16) : FVec Ideal S4096x2048 .f32 :=
  fun i => ∑ k : Fin 6144, d (ix2 (i 0) k) * w (ix2 (i 1) k)

/-- The block of every window at every grid point. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

/-- One grid point stores, at each place of its block, the function at the place of the array the block covers. -/
theorem point (c : Dev nD) (t : Fin cfg0.N) (y) :
    k0_pay1 (iblk m c 0 t) (iblk m c 1 t) y
      = activationGrad (m ((c : Thread nD τ).loc main_arg0)) (m ((c : Thread nD τ).loc main_arg1))
          (((cfg0.win 2).blk t).view.emb y) := by
  pointwise [k0_pay1, activationGrad]
  blk_point [iblk, V, idx t]

/-- The blocks tile the array, so after the run it holds the function everywhere. -/
theorem final (c : Dev nD) : (dats m 0 c).arrAt 2 cfg0.N
    = activationGrad (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The reference's product is the same function. -/
theorem reference_eq (w : FVec Ideal S2048x6144 .bf16) (d : FVec Ideal S4096x6144 .bf16) :
    Host.dotGeneral Cert.Reference18Ideal.dot_S4096x6144_S2048x6144_S4096x2048_1_1_0_0_n_n none
      (extf .f32 d Cert.Reference18Ideal.Gen.bitsLt_bf16_f32) (extf .f32 w Cert.Reference18Ideal.Gen.bitsLt_bf16_f32) = activationGrad w d := by
  funext i
  pointwise [activationGrad]

end Cert.QueryProjInputGrad

end
-- ==== Proof.GateBlock.lean ====
/- The backward call of the spatial gate. -/
module

public import proofs.«01_k».proof.Proof.Gen.KernelIdeal.Value
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GateGrad

open Cert.KernelIdeal Cert.KernelIdeal.Gen

variable (m : (ℓ : Loc nD τ sig) → Buf (Elt Ideal) ℓ)

/-- The cotangent of the mixed values in a block of 128 rows: the incoming gradient times the gate's first half. -/
def dsv (z : FVec Ideal S128x4096 .f32) (dg : FVec Ideal S128x2048 .f32) : FVec Ideal S128x2048 .f32 :=
  fun y => dg y * z (ix2 (y 0) ⟨(y 1).val, lt_of_lt_of_le (y 1).isLt (by decide)⟩)

/-- Whether row `a` lies at or below column `b` of the triangle. -/
def below (a b : Fin 128) : BitVec 1 := IntOp.cmpi .sge (BitVec.ofNat 32 a.val) (BitVec.ofNat 32 b.val)

/-- Whether row `a` lies at or above column `b` of the triangle, as the kernel computes it. -/
def above (a b : Fin 128) : BitVec 1 := IntOp.ori (IntOp.xori (below a b) 1#1) (IntOp.cmpi .eq (BitVec.ofNat 32 a.val) (BitVec.ofNat 32 b.val))

/-- One group of 128 lanes of the gradient that reaches the normalised values in a block: the masked transposed mixing matrix of the group times the cotangent. -/
def dvnTile (z : FVec Ideal S128x4096 .f32) (dg : FVec Ideal S128x2048 .f32) (w : FVec Ideal S16x128x128 .f32) (g : Fin 16) : FVec Ideal S128x128 .f32 :=
  fun x => ∑ p : Fin 128, Scalar.select (above (x 0) p) (w (ix3 g (x 0) p) * dsv z dg (ix2 p ⟨128 * g.val + (x 1).val, by have := g.isLt; have : (x 1).val < 128 := (x 1).isLt; omega⟩)) 0

/-- The gradient that reaches the normalised values in a block of 128 rows. -/
def dvn (z : FVec Ideal S128x4096 .f32) (dg : FVec Ideal S128x2048 .f32) (w : FVec Ideal S16x128x128 .f32) : FVec Ideal S128x2048 .f32 :=
  fun y => ∑ p : Fin 128, Scalar.select (above (y 0) p) (w (ix3 ⟨(y 1).val / 128, by have : (y 1).val < 2048 := (y 1).isLt; omega⟩ (y 0) p) * dsv z dg (ix2 p (y 1))) 0

section
variable (z : FVec Ideal S128x4096 .f32) (dg : FVec Ideal S128x2048 .f32) (w : FVec Ideal S16x128x128 .f32)

/-- The block's first half, as the kernel reads it. -/
abbrev first : FVec Ideal S128x2048 .f32 := (k0_pay5 (View.ld (Val := Elt Ideal) z (Rect.unit (s := S128x4096) ![0, 0] ![128, 2048] inb_S128x4096_S128x2048_0_0)))

/-- Group 0's product is the group's tile. -/
theorem tile0 : (k0_pay20 k0_pay4 (k0_pay5 (View.ld (Val := Elt Ideal) z (Rect.unit (s := S128x4096) ![0, 0] ![128, 2048] inb_S128x4096_S128x2048_0_0))) dg (k0_pay14 (View.ld (Val := Elt Ideal) w (Rect.unit (s := S16x128x128) ![0, 0, 0] ![1, 128, 128] inb_S16x128x128_S1x128x128_0_0_0)))) = dvnTile z dg w 0 := by
  funext x
  open_payloads
  pointwise [dvnTile, dsv, above, below]

/-- Group 1's product is the group's tile. -/
theorem tile1 : (k0_pay28 k0_pay4 (k0_pay5 (View.ld (Val := Elt Ideal) z (Rect.unit (s := S128x4096) ![0, 0] ![128, 2048] inb_S128x4096_S128x2048_0_0))) dg (View.ld (Val := Elt Ideal) w (Rect.unit (s := S16x128x128) ![1, 0, 0] ![1, 128, 128] inb_S16x128x128_S1x128x128_1_0_0))) = dvnTile z dg w 1 := by
  funext x
  open_payloads
  pointwise [dvnTile, dsv, above, below]

/-- Group 2's product is the group's tile. -/
theorem tile2 : (k0_pay40 (k0_pay30 k0_pay4 (View.ld (Val := Elt Ideal) w (Rect.unit (s := S16x128x128) ![2, 0, 0] ![1, 128, 128] inb_S16x128x128_S1x128x128_2_0_0))) (k0_pay35 (k0_pay5 (View.ld (Val := Elt Ideal) z (Rect.unit (s := S128x4096) ![0, 0] ![128, 2048] inb_S128x4096_S128x2048_0_0))) dg)) = dvnTile z dg w 2 := by
  funext x
  open_payloads
  pointwise [dvnTile, dsv, above, below]

/-- Group 3's product is the group's tile. -/
theorem tile3 : (k0_pay49 (k0_pay42 k0_pay4 (View.ld (Val := Elt Ideal) w (Rect.unit (s := S16x128x128) ![3, 0, 0] ![1, 128, 128] inb_S16x128x128_S1x128x128_3_0_0))) (k0_pay45 (k0_pay5 (View.ld (Val := Elt Ideal) z (Rect.unit (s := S128x4096) ![0, 0] ![128, 2048] inb_S128x4096_S128x2048_0_0))) dg)) = dvnTile z dg w 3 := by
  funext x
  open_payloads
  pointwise [dvnTile, dsv, above, below]

/-- Group 4's product is the group's tile. -/
theorem tile4 : (k0_pay58 (k0_pay5 (View.ld (Val := Elt Ideal) z (Rect.unit (s := S128x4096) ![0, 0] ![128, 2048] inb_S128x4096_S128x2048_0_0))) dg (k0_pay51 k0_pay4 (View.ld (Val := Elt Ideal) w (Rect.unit (s := S16x128x128) ![4, 0, 0] ![1, 128, 128] inb_S16x128x128_S1x128x128_4_0_0)))) = dvnTile z dg w 4 := by
  funext x
  open_payloads
  pointwise [dvnTile, dsv, above, below]

/-- Group 5's product is the group's tile. -/
theorem tile5 : (k0_pay67 k0_pay4 (k0_pay5 (View.ld (Val := Elt Ideal) z (Rect.unit (s := S128x4096) ![0, 0] ![128, 2048] inb_S128x4096_S128x2048_0_0))) dg (k0_pay61 (View.ld (Val := Elt Ideal) w (Rect.unit (s := S16x128x128) ![5, 0, 0] ![1, 128, 128] inb_S16x128x128_S1x128x128_5_0_0)))) = dvnTile z dg w 5 := by
  funext x
  open_payloads
  pointwise [dvnTile, dsv, above, below]

/-- Group 6's product is the group's tile. -/
theorem tile6 : (k0_pay75 k0_pay4 (k0_pay5 (View.ld (Val := Elt Ideal) z (Rect.unit (s := S128x4096) ![0, 0] ![128, 2048] inb_S128x4096_S128x2048_0_0))) dg (View.ld (Val := Elt Ideal) w (Rect.unit (s := S16x128x128) ![6, 0, 0] ![1, 128, 128] inb_S16x128x128_S1x128x128_6_0_0))) = dvnTile z dg w 6 := by
  funext x
  open_payloads
  pointwise [dvnTile, dsv, above, below]

/-- Group 7's product is the group's tile. -/
theorem tile7 : (k0_pay87 (k0_pay77 k0_pay4 (View.ld (Val := Elt Ideal) w (Rect.unit (s := S16x128x128) ![7, 0, 0] ![1, 128, 128] inb_S16x128x128_S1x128x128_7_0_0))) (k0_pay82 (k0_pay5 (View.ld (Val := Elt Ideal) z (Rect.unit (s := S128x4096) ![0, 0] ![128, 2048] inb_S128x4096_S128x2048_0_0))) dg)) = dvnTile z dg w 7 := by
  funext x
  open_payloads
  pointwise [dvnTile, dsv, above, below]

/-- Group 8's product is the group's tile. -/
theorem tile8 : (k0_pay96 (k0_pay89 k0_pay4 (View.ld (Val := Elt Ideal) w (Rect.unit (s := S16x128x128) ![8, 0, 0] ![1, 128, 128] inb_S16x128x128_S1x128x128_8_0_0))) (k0_pay92 (k0_pay5 (View.ld (Val := Elt Ideal) z (Rect.unit (s := S128x4096) ![0, 0] ![128, 2048] inb_S128x4096_S128x2048_0_0))) dg)) = dvnTile z dg w 8 := by
  funext x
  open_payloads
  pointwise [dvnTile, dsv, above, below]

/-- Group 9's product is the group's tile. -/
theorem tile9 : (k0_pay105 (k0_pay5 (View.ld (Val := Elt Ideal) z (Rect.unit (s := S128x4096) ![0, 0] ![128, 2048] inb_S128x4096_S128x2048_0_0))) dg (k0_pay98 k0_pay4 (View.ld (Val := Elt Ideal) w (Rect.unit (s := S16x128x128) ![9, 0, 0] ![1, 128, 128] inb_S16x128x128_S1x128x128_9_0_0)))) = dvnTile z dg w 9 := by
  funext x
  open_payloads
  pointwise [dvnTile, dsv, above, below]

/-- Group 10's product is the group's tile. -/
theorem tile10 : (k0_pay114 k0_pay4 (k0_pay5 (View.ld (Val := Elt Ideal) z (Rect.unit (s := S128x4096) ![0, 0] ![128, 2048] inb_S128x4096_S128x2048_0_0))) dg (k0_pay108 (View.ld (Val := Elt Ideal) w (Rect.unit (s := S16x128x128) ![10, 0, 0] ![1, 128, 128] inb_S16x128x128_S1x128x128_10_0_0)))) = dvnTile z dg w 10 := by
  funext x
  open_payloads
  pointwise [dvnTile, dsv, above, below]

/-- Group 11's product is the group's tile. -/
theorem tile11 : (k0_pay122 k0_pay4 (k0_pay5 (View.ld (Val := Elt Ideal) z (Rect.unit (s := S128x4096) ![0, 0] ![128, 2048] inb_S128x4096_S128x2048_0_0))) dg (View.ld (Val := Elt Ideal) w (Rect.unit (s := S16x128x128) ![11, 0, 0] ![1, 128, 128] inb_S16x128x128_S1x128x128_11_0_0))) = dvnTile z dg w 11 := by
  funext x
  open_payloads
  pointwise [dvnTile, dsv, above, below]

/-- Group 12's product is the group's tile. -/
theorem tile12 : (k0_pay134 (k0_pay124 k0_pay4 (View.ld (Val := Elt Ideal) w (Rect.unit (s := S16x128x128) ![12, 0, 0] ![1, 128, 128] inb_S16x128x128_S1x128x128_12_0_0))) (k0_pay129 (k0_pay5 (View.ld (Val := Elt Ideal) z (Rect.unit (s := S128x4096) ![0, 0] ![128, 2048] inb_S128x4096_S128x2048_0_0))) dg)) = dvnTile z dg w 12 := by
  funext x
  open_payloads
  pointwise [dvnTile, dsv, above, below]

/-- Group 13's product is the group's tile. -/
theorem tile13 : (k0_pay143 (k0_pay136 k0_pay4 (View.ld (Val := Elt Ideal) w (Rect.unit (s := S16x128x128) ![13, 0, 0] ![1, 128, 128] inb_S16x128x128_S1x128x128_13_0_0))) (k0_pay139 (k0_pay5 (View.ld (Val := Elt Ideal) z (Rect.unit (s := S128x4096) ![0, 0] ![128, 2048] inb_S128x4096_S128x2048_0_0))) dg)) = dvnTile z dg w 13 := by
  funext x
  open_payloads
  pointwise [dvnTile, dsv, above, below]

/-- Group 14's product is the group's tile. -/
theorem tile14 : (k0_pay152 (k0_pay5 (View.ld (Val := Elt Ideal) z (Rect.unit (s := S128x4096) ![0, 0] ![128, 2048] inb_S128x4096_S128x2048_0_0))) dg (k0_pay145 k0_pay4 (View.ld (Val := Elt Ideal) w (Rect.unit (s := S16x128x128) ![14, 0, 0] ![1, 128, 128] inb_S16x128x128_S1x128x128_14_0_0)))) = dvnTile z dg w 14 := by
  funext x
  open_payloads
  pointwise [dvnTile, dsv, above, below]

/-- Sixteen tiles of 128 lanes side by side, read at a lane. -/
theorem side_by_side (v : Fin 16 → FVec Ideal S128x128 .f32) (h) (j : S128x2048.Idx) :
    concatenate S128x2048 1 (List.ofFn fun n => ⟨S128x128, v n⟩) h j
      = v ⟨(j 1).val / 128, by have : (j 1).val < 2048 := (j 1).isLt; omega⟩ (ix2 (j 0) ⟨(j 1).val % 128, by omega⟩) := by
  refine concatenate_ofFn_apply 1 v h rfl 128 rfl j _ ?_ _ ?_ ?_
  · rfl
  · rfl
  · intro b hb
    match b, hb with
    | ⟨0, _⟩, _ => rfl
    | ⟨1, _⟩, hb => exact absurd rfl hb

/-- Group 15's product is the group's tile. -/
theorem tile15 : matmul dot_S128x128_S128x128_S128x128_1_0_0_1_n_n none (truncf .bf16 (select k0_pay4 (k0_pay155 (View.ld (Val := Elt Ideal) w (Rect.unit (s := S16x128x128) ![15, 0, 0] ![1, 128, 128] inb_S16x128x128_S1x128x128_15_0_0))) (broadcast S128x128 (Scalar.ofBits (F := Ideal) .f32 0x00000000#32))) bitsLt_bf16_f32) (k0_pay159 (first z) dg) (constant S128x128 .f32 0x00000000#32) = dvnTile z dg w 15 := by
  funext x
  open_payloads
  unfold first k0_pay5
  pointwise [dvnTile, dsv, above, below]

/-- The sixteen products side by side. -/
theorem dvn_eq : k0_pay162 k0_pay4 (first z) dg (k0_pay20 k0_pay4 (k0_pay5 (View.ld (Val := Elt Ideal) z (Rect.unit (s := S128x4096) ![0, 0] ![128, 2048] inb_S128x4096_S128x2048_0_0))) dg (k0_pay14 (View.ld (Val := Elt Ideal) w (Rect.unit (s := S16x128x128) ![0, 0, 0] ![1, 128, 128] inb_S16x128x128_S1x128x128_0_0_0)))) (k0_pay28 k0_pay4 (k0_pay5 (View.ld (Val := Elt Ideal) z (Rect.unit (s := S128x4096) ![0, 0] ![128, 2048] inb_S128x4096_S128x2048_0_0))) dg (View.ld (Val := Elt Ideal) w (Rect.unit (s := S16x128x128) ![1, 0, 0] ![1, 128, 128] inb_S16x128x128_S1x128x128_1_0_0))) (k0_pay40 (k0_pay30 k0_pay4 (View.ld (Val := Elt Ideal) w (Rect.unit (s := S16x128x128) ![2, 0, 0] ![1, 128, 128] inb_S16x128x128_S1x128x128_2_0_0))) (k0_pay35 (k0_pay5 (View.ld (Val := Elt Ideal) z (Rect.unit (s := S128x4096) ![0, 0] ![128, 2048] inb_S128x4096_S128x2048_0_0))) dg)) (k0_pay49 (k0_pay42 k0_pay4 (View.ld (Val := Elt Ideal) w (Rect.unit (s := S16x128x128) ![3, 0, 0] ![1, 128, 128] inb_S16x128x128_S1x128x128_3_0_0))) (k0_pay45 (k0_pay5 (View.ld (Val := Elt Ideal) z (Rect.unit (s := S128x4096) ![0, 0] ![128, 2048] inb_S128x4096_S128x2048_0_0))) dg)) (k0_pay58 (k0_pay5 (View.ld (Val := Elt Ideal) z (Rect.unit (s := S128x4096) ![0, 0] ![128, 2048] inb_S128x4096_S128x2048_0_0))) dg (k0_pay51 k0_pay4 (View.ld (Val := Elt Ideal) w (Rect.unit (s := S16x128x128) ![4, 0, 0] ![1, 128, 128] inb_S16x128x128_S1x128x128_4_0_0)))) (k0_pay67 k0_pay4 (k0_pay5 (View.ld (Val := Elt Ideal) z (Rect.unit (s := S128x4096) ![0, 0] ![128, 2048] inb_S128x4096_S128x2048_0_0))) dg (k0_pay61 (View.ld (Val := Elt Ideal) w (Rect.unit (s := S16x128x128) ![5, 0, 0] ![1, 128, 128] inb_S16x128x128_S1x128x128_5_0_0)))) (k0_pay75 k0_pay4 (k0_pay5 (View.ld (Val := Elt Ideal) z (Rect.unit (s := S128x4096) ![0, 0] ![128, 2048] inb_S128x4096_S128x2048_0_0))) dg (View.ld (Val := Elt Ideal) w (Rect.unit (s := S16x128x128) ![6, 0, 0] ![1, 128, 128] inb_S16x128x128_S1x128x128_6_0_0))) (k0_pay87 (k0_pay77 k0_pay4 (View.ld (Val := Elt Ideal) w (Rect.unit (s := S16x128x128) ![7, 0, 0] ![1, 128, 128] inb_S16x128x128_S1x128x128_7_0_0))) (k0_pay82 (k0_pay5 (View.ld (Val := Elt Ideal) z (Rect.unit (s := S128x4096) ![0, 0] ![128, 2048] inb_S128x4096_S128x2048_0_0))) dg)) (k0_pay96 (k0_pay89 k0_pay4 (View.ld (Val := Elt Ideal) w (Rect.unit (s := S16x128x128) ![8, 0, 0] ![1, 128, 128] inb_S16x128x128_S1x128x128_8_0_0))) (k0_pay92 (k0_pay5 (View.ld (Val := Elt Ideal) z (Rect.unit (s := S128x4096) ![0, 0] ![128, 2048] inb_S128x4096_S128x2048_0_0))) dg)) (k0_pay105 (k0_pay5 (View.ld (Val := Elt Ideal) z (Rect.unit (s := S128x4096) ![0, 0] ![128, 2048] inb_S128x4096_S128x2048_0_0))) dg (k0_pay98 k0_pay4 (View.ld (Val := Elt Ideal) w (Rect.unit (s := S16x128x128) ![9, 0, 0] ![1, 128, 128] inb_S16x128x128_S1x128x128_9_0_0)))) (k0_pay114 k0_pay4 (k0_pay5 (View.ld (Val := Elt Ideal) z (Rect.unit (s := S128x4096) ![0, 0] ![128, 2048] inb_S128x4096_S128x2048_0_0))) dg (k0_pay108 (View.ld (Val := Elt Ideal) w (Rect.unit (s := S16x128x128) ![10, 0, 0] ![1, 128, 128] inb_S16x128x128_S1x128x128_10_0_0)))) (k0_pay122 k0_pay4 (k0_pay5 (View.ld (Val := Elt Ideal) z (Rect.unit (s := S128x4096) ![0, 0] ![128, 2048] inb_S128x4096_S128x2048_0_0))) dg (View.ld (Val := Elt Ideal) w (Rect.unit (s := S16x128x128) ![11, 0, 0] ![1, 128, 128] inb_S16x128x128_S1x128x128_11_0_0))) (k0_pay134 (k0_pay124 k0_pay4 (View.ld (Val := Elt Ideal) w (Rect.unit (s := S16x128x128) ![12, 0, 0] ![1, 128, 128] inb_S16x128x128_S1x128x128_12_0_0))) (k0_pay129 (k0_pay5 (View.ld (Val := Elt Ideal) z (Rect.unit (s := S128x4096) ![0, 0] ![128, 2048] inb_S128x4096_S128x2048_0_0))) dg)) (k0_pay143 (k0_pay136 k0_pay4 (View.ld (Val := Elt Ideal) w (Rect.unit (s := S16x128x128) ![13, 0, 0] ![1, 128, 128] inb_S16x128x128_S1x128x128_13_0_0))) (k0_pay139 (k0_pay5 (View.ld (Val := Elt Ideal) z (Rect.unit (s := S128x4096) ![0, 0] ![128, 2048] inb_S128x4096_S128x2048_0_0))) dg)) (k0_pay152 (k0_pay5 (View.ld (Val := Elt Ideal) z (Rect.unit (s := S128x4096) ![0, 0] ![128, 2048] inb_S128x4096_S128x2048_0_0))) dg (k0_pay145 k0_pay4 (View.ld (Val := Elt Ideal) w (Rect.unit (s := S16x128x128) ![14, 0, 0] ![1, 128, 128] inb_S16x128x128_S1x128x128_14_0_0)))) (k0_pay155 (View.ld (Val := Elt Ideal) w (Rect.unit (s := S16x128x128) ![15, 0, 0] ![1, 128, 128] inb_S16x128x128_S1x128x128_15_0_0))) = dvn z dg w := by
  rw [tile0, tile1, tile2, tile3, tile4, tile5, tile6, tile7, tile8, tile9, tile10, tile11, tile12, tile13, tile14]
  dsimp only [k0_pay162]
  rw [tile15]
  funext j
  refine (side_by_side (fun g => dvnTile z dg w g) _ j).trans ?_
  have hj : (j 1).val < 2048 := (j 1).isLt
  pointwise [dvn, dvnTile]
  have e : 128 * ((j 1).val / 128) + (j 1).val % 128 = (j 1).val := by omega
  simp only [e]
  rfl

end

/-- The reciprocal root mean square of a row of the block's second half. -/
def scale (z : FVec Ideal S128x4096 .f32) (p : Fin 128) : EReal :=
  Ideal.rsqrt (Ideal.div (∑ j : Fin 2048, z (ix2 p ⟨2048 + j.val, by have := j.isLt; omega⟩) * z (ix2 p ⟨2048 + j.val, by have := j.isLt; omega⟩)) (Ideal.ofBits .f32 0x45000000#32) + Ideal.ofBits .f32 0x358637BD#32)

/-- The block's second half, each row divided by its root mean square. -/
def unit (z : FVec Ideal S128x4096 .f32) : FVec Ideal S128x2048 .f32 :=
  fun y => z (ix2 (y 0) ⟨2048 + (y 1).val, by have : (y 1).val < 2048 := (y 1).isLt; omega⟩) * scale z (y 0)

/-- The normalised second half: times the gain. -/
def normed (z : FVec Ideal S128x4096 .f32) (gain : FVec Ideal S1x2048 .f32) : FVec Ideal S128x2048 .f32 :=
  fun y => unit z y * gain (ix2 0 (y 1))

/-- The reciprocal root mean square of each row is `scale`. -/
theorem scale_eq (z : FVec Ideal S128x4096 .f32) (j : S128x1.Idx) :
    k0_pay7 (View.ld (Val := Elt Ideal) z (Rect.unit (s := S128x4096) ![0, 2048] ![128, 2048] inb_S128x4096_S128x2048_0_2048)) j = scale z (j 0) := by
  pointwise [k0_pay7, k0_pay6, scale]

/-- The normalised block is `unit`. -/
theorem unit_eq (z : FVec Ideal S128x4096 .f32) :
    k0_pay8 (View.ld (Val := Elt Ideal) z (Rect.unit (s := S128x4096) ![0, 2048] ![128, 2048] inb_S128x4096_S128x2048_0_2048)) = unit z := by
  funext y
  pointwise [k0_pay8, k0_pay6, unit, scale_eq]

/-- The normalised block times the gain is `normed`. -/
theorem normed_eq (z : FVec Ideal S128x4096 .f32) (gain : FVec Ideal S1x2048 .f32) :
    k0_pay9 (View.ld (Val := Elt Ideal) z (Rect.unit (s := S128x4096) ![0, 2048] ![128, 2048] inb_S128x4096_S128x2048_0_2048)) gain = normed z gain := by
  funext y
  pointwise [k0_pay9, normed, unit_eq]

/-- One block's part of the gradient of the mixing matrices. -/
def dws (z : FVec Ideal S128x4096 .f32) (dg : FVec Ideal S128x2048 .f32) (gain : FVec Ideal S1x2048 .f32) : FVec Ideal S16x128x128 .f32 :=
  fun y => Scalar.select (below (y 1) (y 2)) (∑ l : Fin 128,
    dsv z dg (ix2 (y 1) ⟨128 * (y 0).val + l.val, by have := l.isLt; have : (y 0).val < 16 := (y 0).isLt; omega⟩)
      * normed z gain (ix2 (y 2) ⟨128 * (y 0).val + l.val, by have := l.isLt; have : (y 0).val < 16 := (y 0).isLt; omega⟩)) 0

/-- One block's part of the gradient of the gain. -/
def dgain (z : FVec Ideal S128x4096 .f32) (dg : FVec Ideal S128x2048 .f32) (w : FVec Ideal S16x128x128 .f32) : FVec Ideal S1x2048 .f32 :=
  fun y => ∑ p : Fin 128, dvn z dg w (ix2 p (y 1)) * unit z (ix2 p (y 1))

/-- The step's addition to the gain's gradient: the running array plus the block's part. -/
theorem dgain_eq (z : FVec Ideal S128x4096 .f32) (dg : FVec Ideal S128x2048 .f32) (w : FVec Ideal S16x128x128 .f32) (X : FVec Ideal S1x2048 .f32) (y) :
    k0_pay1 (unit z) (dvn z dg w) X y = X y + dgain z dg w y := by
  pointwise [k0_pay1, dgain]

/-- The mixed values of a block: the masked mixing matrix of each lane's group times the normalised values, plus the bias. -/
def mixed (z : FVec Ideal S128x4096 .f32) (gain : FVec Ideal S1x2048 .f32) (w : FVec Ideal S16x128x128 .f32) (bias : FVec Ideal S128x2048 .f32) : FVec Ideal S128x2048 .f32 :=
  fun y => ∑ q : Fin 128, Scalar.select (below (y 0) q) (w (ix3 ⟨(y 1).val / 128, by have : (y 1).val < 2048 := (y 1).isLt; omega⟩ (y 0) q) * normed z gain (ix2 q (y 1))) 0 + bias y

/-- The gradient of the block's second half through the normalisation. -/
def dvals (z : FVec Ideal S128x4096 .f32) (d : FVec Ideal S128x2048 .f32) (gain : FVec Ideal S1x2048 .f32) : FVec Ideal S128x2048 .f32 :=
  fun y => scale z (y 0) * (d y * gain (ix2 0 (y 1)) - unit z y * Ideal.div (∑ l : Fin 2048, d (ix2 (y 0) l) * gain (ix2 0 l) * unit z (ix2 (y 0) l)) (Ideal.ofBits .f32 0x45000000#32))

/-- Stores that cover the buffer leave what they store, whatever was stored before them. -/
theorem canon_take {S : Shape} {e : EltTy} (n : ℕ) (L : List (View.Piece (Elt Ideal) S e)) (y : S.Idx)
    (hc : ∃ p ∈ L.take n, y ∈ p.1.set) : View.canon L y = View.canon (L.take n) y := by
  induction L generalizing n with
  | nil => simp
  | cons p L ih =>
    cases n with
    | zero => obtain ⟨q, hq, _⟩ := hc; simp at hq
    | succ n =>
      rw [List.take_succ_cons]
      by_cases hm : y ∈ p.1.set
      · obtain ⟨x, rfl⟩ := p.1.exists_idx_of_mem hm
        rw [show p.1.idx x = p.1.emb x from rfl]
        exact (View.canon_cons_emb ..).trans (View.canon_cons_emb ..).symm
      · rw [View.canon_cons_of_not_mem _ _ hm, View.canon_cons_of_not_mem _ _ hm]
        refine ih n ?_
        obtain ⟨q, hq, hyq⟩ := hc
        rcases List.mem_cons.mp (List.take_succ_cons ▸ hq) with rfl | hq'
        · exact absurd hyq hm
        · exact ⟨q, hq', hyq⟩

/-- The bias's gradient starts at zero. -/
theorem zero_bias (j) : k0_pay11 (F := Ideal) j = 0 := by pointwise [k0_pay11]

/-- The block of the gradient of the gate's input. -/
def dz (z : FVec Ideal S128x4096 .f32) (zp : FVec Ideal S128x4096 .bf16) (dg : FVec Ideal S128x2048 .f32) (gain : FVec Ideal S1x2048 .f32)
    (w wt : FVec Ideal S16x128x128 .f32) (bias : FVec Ideal S128x2048 .f32) : FVec Ideal S128x4096 .bf16 :=
  fun y => (if h : (y 1).val < 2048 then dg (ix2 (y 0) ⟨(y 1).val, h⟩) * mixed z gain w bias (ix2 (y 0) ⟨(y 1).val, h⟩)
    else dvals z (dvn z dg wt) gain (ix2 (y 0) ⟨(y 1).val - 2048, by have : (y 1).val < 4096 := (y 1).isLt; omega⟩)) * zp y

/-- The first half of the input's gradient holds the cotangent times the mixed values, times the activation's derivative. -/
theorem dz_low (z : FVec Ideal S128x4096 .f32) (zp : FVec Ideal S128x4096 .bf16) (dg : FVec Ideal S128x2048 .f32) (gain : FVec Ideal S1x2048 .f32)
    (w wt : FVec Ideal S16x128x128 .f32) (bias : FVec Ideal S128x2048 .f32) (y : S128x4096.Idx) (h : (y 1).val < 2048) :
    dz z zp dg gain w wt bias y = dg (ix2 (y 0) ⟨(y 1).val, h⟩) * mixed z gain w bias (ix2 (y 0) ⟨(y 1).val, h⟩) * zp y := by
  unfold dz; rw [dif_pos h]

/-- The second half of the input's gradient holds the gradient through the normalisation, times the activation's derivative. -/
theorem dz_high (z : FVec Ideal S128x4096 .f32) (zp : FVec Ideal S128x4096 .bf16) (dg : FVec Ideal S128x2048 .f32) (gain : FVec Ideal S1x2048 .f32)
    (w wt : FVec Ideal S16x128x128 .f32) (bias : FVec Ideal S128x2048 .f32) (y : S128x4096.Idx) (x : S128x2048.Idx)
    (h0 : (y 0).val = (x 0).val) (h1 : (y 1).val = 2048 + (x 1).val) :
    dz z zp dg gain w wt bias y = dvals z (dvn z dg wt) gain x * zp y := by
  unfold dz; rw [dif_neg (by omega)]
  congr 2
  blk_ext

/-- The gradient through the normalisation, entry by entry. -/
theorem dvals_eq (z : FVec Ideal S128x4096 .f32) (zp : FVec Ideal S128x4096 .bf16) (d : FVec Ideal S128x2048 .f32) (gain : FVec Ideal S1x2048 .f32) (x : S128x2048.Idx) :
    k0_pay2 (k0_pay7 (View.ld (Val := Elt Ideal) z (Rect.unit (s := S128x4096) ![0, 2048] ![128, 2048] inb_S128x4096_S128x2048_0_2048))) (unit z) gain d
      (View.ld (Val := Elt Ideal) zp (Rect.unit (s := S128x4096) ![0, 2048] ![128, 2048] inb_S128x4096_S128x2048_0_2048)) x
      = dvals z d gain x * zp (ix2 (x 0) ⟨2048 + (x 1).val, by have : (x 1).val < 2048 := (x 1).isLt; omega⟩) := by
  pointwise [k0_pay2, dvals, scale_eq]

/-- The stored second half of a block is the block function there. -/
theorem high_eq (z : FVec Ideal S128x4096 .f32) (zp : FVec Ideal S128x4096 .bf16) (dg : FVec Ideal S128x2048 .f32) (gain : FVec Ideal S1x2048 .f32)
    (w wt : FVec Ideal S16x128x128 .f32) (bias : FVec Ideal S128x2048 .f32) (y : S128x4096.Idx) (x : S128x2048.Idx)
    (h0 : (y 0).val = (x 0).val) (h1 : (y 1).val = 2048 + (x 1).val) :
    k0_pay2 (k0_pay7 (View.ld (Val := Elt Ideal) z (Rect.unit (s := S128x4096) ![0, 2048] ![128, 2048] inb_S128x4096_S128x2048_0_2048))) (unit z) gain (dvn z dg wt)
      (View.ld (Val := Elt Ideal) zp (Rect.unit (s := S128x4096) ![0, 2048] ![128, 2048] inb_S128x4096_S128x2048_0_2048)) x
      = dz z zp dg gain w wt bias y := by
  rw [dvals_eq, dz_high z zp dg gain w wt bias y x h0 h1]
  congr 1
  blk_ext

end Cert.GateGrad
end
-- ==== Proof.GateArrays.lean ====
/- The arrays the gate call is given, and the blocks of each. -/
module

public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.GateBlock

@[expose] public section

set_option maxRecDepth 16384

noncomputable section

open Idealize.ShloMosaic Idealize.ShloMosaic.TcCoe Idealize.SL.Sem
open Idealize.ShloMosaic.Pipeline (Dat)

namespace Cert.GateGrad

open Cert.KernelIdeal Cert.KernelIdeal.Gen

variable (m : (ℓ : Loc nD τ sig) → Buf (Elt Ideal) ℓ)

/-- The argument of the hyperbolic tangent in the gelu. -/
def inner (y : EReal) : EReal := Ideal.ofBits .f32 0x3F4C422A#32 * (y + Ideal.ofBits .f32 0x3D372713#32 * (y * y * y))

/-- The factor that multiplies the gelu's argument. -/
def weight (y : EReal) : EReal := Ideal.ofBits .f32 0x3F000000#32 * (Ideal.ofBits .f32 0x3F800000#32 + Ideal.tanh (inner y))

/-- The gelu. -/
def gelu (y : EReal) : EReal := y * weight y

/-- The part of the gelu's gradient that comes through the tangent's argument. -/
def slope (d y : EReal) : EReal := Ideal.ofBits .f32 0x3F4C422A#32 * (Ideal.ofBits .f32 0x3F000000#32 * (y * d)
  * ((Ideal.ofBits .f32 0x3F800000#32 + Ideal.tanh (inner y)) * (Ideal.ofBits .f32 0x3F800000#32 - Ideal.tanh (inner y))))

/-- The gelu's gradient for a cotangent `d`. -/
def geluGrad (d y : EReal) : EReal :=
  d * weight y + slope d y + Ideal.ofBits .f32 0x3D372713#32 * slope d y * (Ideal.ofBits .f32 0x40400000#32 * (y * y))

/-- The gelu of every entry. -/
def act (y : FVec Ideal S4096x4096 .f32) : FVec Ideal S4096x4096 .f32 := fun i => gelu (y i)

/-- The gelu's derivative at every entry. -/
def deriv (y : FVec Ideal S4096x4096 .f32) : FVec Ideal S4096x4096 .bf16 := fun i => geluGrad (Ideal.ofBits .f32 0x3F800000#32) (y i)

/-- The mixing matrices transposed. -/
def flip (w : FVec Ideal S16x128x128 .f32) : FVec Ideal S16x128x128 .f32 := fun i => w (ix3 (i 0) (i 2) (i 1))

/-- The bias spread over the lanes of its group. -/
def spread (b : FVec Ideal S16x128 .f32) : FVec Ideal S128x2048 .f32 :=
  fun i => b (ix2 ⟨(i 1).val / 128, by have : (i 1).val < 2048 := (i 1).isLt; omega⟩ (i 0))

/-- The activations the call is given. -/
theorem entry_act (c : Dev nD) : V m c main_v20 = act (m ((c : Thread nD τ).loc main_arg0)) := by
  funext i
  simp only [V, hostOps0, List.flatten_cons, List.flatten_nil, List.append_nil, List.cons_append, List.nil_append]
  entry_read
  pointwise [act, gelu, weight, inner]
  try rfl

/-- The derivative the call is given. -/
theorem entry_deriv (c : Dev nD) : V m c main_v37 = deriv (m ((c : Thread nD τ).loc main_arg0)) := by
  funext i
  simp only [V, hostOps0, List.flatten_cons, List.flatten_nil, List.append_nil, List.cons_append, List.nil_append]
  entry_read
  pointwise [deriv, geluGrad, slope, weight, inner]
  try rfl

/-- The transposed matrices the call is given. -/
theorem entry_flip (c : Dev nD) : V m c main_v38 = flip (m ((c : Thread nD τ).loc main_arg2)) := by
  funext i
  simp only [V, hostOps0, List.flatten_cons, List.flatten_nil, List.append_nil, List.cons_append, List.nil_append]
  entry_read
  pointwise [flip]
  try rfl

/-- The bias the call is given. -/
theorem entry_spread (c : Dev nD) : V m c main_v36 = spread (m ((c : Thread nD τ).loc main_arg3)) := by
  funext i
  simp only [V, hostOps0, List.flatten_cons, List.flatten_nil, List.append_nil, List.cons_append, List.nil_append]
  entry_read
  pointwise [spread]
  try rfl

/-- A block of 128 rows of an array of 4096 lanes. -/
def rows {e : FTy} (z : FVec Ideal S4096x4096 e) (n : Fin 32) : FVec Ideal S128x4096 e :=
  fun y => z (ix2 ⟨128 * n.val + (y 0).val, by have := n.isLt; have : (y 0).val < 128 := (y 0).isLt; omega⟩ (y 1))

/-- A block of 128 rows of an array of 2048 lanes. -/
def rowsHalf (d : FVec Ideal S4096x2048 .f32) (n : Fin 32) : FVec Ideal S128x2048 .f32 :=
  fun y => d (ix2 ⟨128 * n.val + (y 0).val, by have := n.isLt; have : (y 0).val < 128 := (y 0).isLt; omega⟩ (y 1))

/-- The block of every window at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![0, 0, 0] ∧ win0_6.index t = ![0, 0]
    ∧ win0_7.index t = ![t.val, 0] ∧ win0_8.index t = ![0, 0, 0] ∧ win0_9.index t = ![0, 0] ∧ win0_10.index t = ![0, 0] :=
  (by decide +kernel : ∀ t : Fin grid0.N, _)

/-- The grid point as the number of a block of rows. -/
abbrev num (t : Fin cfg0.N) : Fin 32 := ⟨t.val, t.isLt⟩

/-- The activations' block at a grid point. -/
theorem block_act (c : Dev nD) (t : Fin cfg0.N) : iblk m c 0 t = rows (act (m ((c : Thread nD τ).loc main_arg0))) (num t) := by
  funext y
  rw [← entry_act]; unfold rows
  blk_point [iblk, idx t]

/-- The derivative's block at a grid point. -/
theorem block_deriv (c : Dev nD) (t : Fin cfg0.N) : iblk m c 1 t = rows (deriv (m ((c : Thread nD τ).loc main_arg0))) (num t) := by
  funext y
  rw [← entry_deriv]; unfold rows
  blk_point [iblk, idx t]

/-- The cotangent's block at a grid point. -/
theorem block_cot (c : Dev nD) (t : Fin cfg0.N) : iblk m c 2 t = rowsHalf (m ((c : Thread nD τ).loc main_arg4)) (num t) := by
  funext y
  rw [← V_main_arg4 m c]; unfold rowsHalf
  blk_point [iblk, idx t]

/-- The gain is the same at every grid point. -/
theorem block_gain (c : Dev nD) (t : Fin cfg0.N) : iblk m c 3 t = m ((c : Thread nD τ).loc main_arg1) := by
  funext y
  rw [← V_main_arg1 m c]
  blk_point [iblk, idx t]

/-- The mixing matrices are the same at every grid point. -/
theorem block_mix (c : Dev nD) (t : Fin cfg0.N) : iblk m c 4 t = m ((c : Thread nD τ).loc main_arg2) := by
  funext y
  rw [← V_main_arg2 m c]
  blk_point [iblk, idx t]

/-- The transposed matrices are the same at every grid point. -/
theorem block_flip (c : Dev nD) (t : Fin cfg0.N) : iblk m c 5 t = flip (m ((c : Thread nD τ).loc main_arg2)) := by
  funext y
  rw [← entry_flip]
  blk_point [iblk, idx t]

/-- The bias is the same at every grid point. -/
theorem block_spread (c : Dev nD) (t : Fin cfg0.N) : iblk m c 6 t = spread (m ((c : Thread nD τ).loc main_arg3)) := by
  funext y
  rw [← entry_spread]
  blk_point [iblk, idx t]

end Cert.GateGrad
end
-- ==== Proof.GateProj.lean ====
/- The gated mixer's input projection with its gelu. -/
module

public import proofs.«01_k».proof.Proof.Gen.Kernel22Ideal.Value
public import proofs.«01_k».proof.Proof.Gen.Reference22Ideal.Run
public import Idealize.ShloMosaic.Lib.Pipeline.ValueKit
public import Idealize.ShloMosaic.Lib.Pointwise
public import proofs.«01_k».proof.Proof.GateArrays

@[expose] public section

set_option maxRecDepth 16384

noncomputable section

open Idealize.ShloMosaic Idealize.ShloMosaic.TcCoe Idealize.SL.Sem
open Idealize.ShloMosaic.Pipeline (Dat)

namespace Cert.GateProj

open Cert.Kernel22Ideal Cert.Kernel22Ideal.Gen
open Cert.GateGrad (gelu weight)

variable (m : (ℓ : Loc nD τ sig) → Buf (Elt Ideal) ℓ)

/-- The product of the rows `h` with the weight `w`. -/
def product (h : FVec Ideal S4096x2048 .bf16) (w : FVec Ideal S2048x4096 .bf16) (i : S4096x4096.Idx) : EReal :=
  ∑ k : Fin 2048, h (ix2 (i 0) k) * w (ix2 k (i 1))

/-- The gelu of the product. -/
def active (h : FVec Ideal S4096x2048 .bf16) (w : FVec Ideal S2048x4096 .bf16) : FVec Ideal S4096x4096 .f32 :=
  fun i => gelu (product h w i)

/-- The block of every window at every grid point. -/
theorem idx : ∀ t : Fin cfg0.N, win0_0.index t = ![(grid0.coords t 0).val, 0]
    ∧ win0_1.index t = ![0, (grid0.coords t 1).val]
    ∧ win0_3.index t = ![(grid0.coords t 0).val, (grid0.coords t 1).val] :=
  (by decide +kernel : ∀ t : Fin grid0.N, _)

/-- One grid point's product, at each place of its block. -/
theorem product_point (c : Dev nD) (t : Fin cfg0.N) (y) :
    k0_pay3 (iblk m c 0 t) (iblk m c 1 t) y = product (m ((c : Thread nD τ).loc main_arg0)) (m ((c : Thread nD τ).loc main_arg1)) (((cfg0.win 3).blk t).view.emb y) := by
  pointwise [k0_pay3, product]
  blk_point [iblk, V, idx t]

/-- The order in which the gelu's factors are multiplied makes no difference. -/
theorem gelu_order (x : EReal) : Ideal.ofBits .f32 0x3F000000#32 * x * (Ideal.ofBits .f32 0x3F800000#32 + Ideal.tanh (Cert.GateGrad.inner x)) = gelu x := by
  unfold gelu weight
  rw [mul_comm (Ideal.ofBits .f32 0x3F000000#32) x, mul_assoc]

/-- One grid point stores, at each place of its block, the function at the place of the array the block covers. -/
theorem point (c : Dev nD) (t : Fin cfg0.N) (y) :
    k0_pay1 (k0_pay5 (iblk m c 0 t) (iblk m c 1 t)) (k0_pay6 (iblk m c 0 t) (iblk m c 1 t)) y
      = active (m ((c : Thread nD τ).loc main_arg0)) (m ((c : Thread nD τ).loc main_arg1)) (((cfg0.win 3).blk t).view.emb y) := by
  refine Eq.trans ?_ ((gelu_order (k0_pay3 (iblk m c 0 t) (iblk m c 1 t) y)).trans (congrArg gelu (product_point m c t y)))
  pointwise [k0_pay1, k0_pay5, k0_pay6, Cert.GateGrad.inner]

/-- The blocks tile the array, so after the run it holds the function everywhere. -/
theorem final (c : Dev nD) : (dats m 0 c).arrAt 3 cfg0.N
    = active (m ((c : Thread nD τ).loc main_arg0)) (m ((c : Thread nD τ).loc main_arg1)) := by
  refine (dats m 0 c).arrAt_eq_of_covers 3 _ (by decide +kernel) fun t hf y => ?_
  blk_simp; rw [after0_3]; frame_out
  exact point m c t y

end Cert.GateProj

namespace Cert.GateProj

open Cert.Reference22Ideal Cert.Reference22Ideal.Gen
open Cert.GateGrad (gelu weight)

/-- The reference's gelu of the product is the same function. -/
theorem reference_eq (h : FVec Ideal S4096x2048 .bf16) (w : FVec Ideal S2048x4096 .bf16) :
    mulf (Host.dotGeneral dot_S4096x2048_S2048x4096_S4096x4096_1_0_0_1_n_n none (extf .f32 h bitsLt_bf16_f32) (extf .f32 w bitsLt_bf16_f32)) (mulf (broadcastInDim S4096x4096 ![] bcast_S_S4096x4096 (constant S_ .f32 0x3F000000#32)) (addf (broadcastInDim S4096x4096 ![] bcast_S_S4096x4096 (constant S_ .f32 0x3F800000#32)) (Host.tanh (mulf (broadcastInDim S4096x4096 ![] bcast_S_S4096x4096 (constant S_ .f32 0x3F4C422A#32)) (addf (Host.dotGeneral dot_S4096x2048_S2048x4096_S4096x4096_1_0_0_1_n_n none (extf .f32 h bitsLt_bf16_f32) (extf .f32 w bitsLt_bf16_f32)) (mulf (broadcastInDim S4096x4096 ![] bcast_S_S4096x4096 (constant S_ .f32 0x3D372713#32)) (mulf (mulf (Host.dotGeneral dot_S4096x2048_S2048x4096_S4096x4096_1_0_0_1_n_n none (extf .f32 h bitsLt_bf16_f32) (extf .f32 w bitsLt_bf16_f32)) (Host.dotGeneral dot_S4096x2048_S2048x4096_S4096x4096_1_0_0_1_n_n none (extf .f32 h bitsLt_bf16_f32) (extf .f32 w bitsLt_bf16_f32))) (Host.dotGeneral dot_S4096x2048_S2048x4096_S4096x4096_1_0_0_1_n_n none (extf .f32 h bitsLt_bf16_f32) (extf .f32 w bitsLt_bf16_f32))))))))) = active h w := by
  funext i
  pointwise [active, gelu, weight, Cert.GateGrad.inner, product]

end Cert.GateProj

end
-- ==== Proof.NormRows.lean ====
/- The RMS norm of the rows. -/
module

public import proofs.«01_k».proof.Proof.Gen.Kernel23Ideal.Value
public import proofs.«01_k».proof.Proof.Gen.Reference23Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormRows

open Cert.Kernel23Ideal Cert.Kernel23Ideal.Gen

variable (m : (ℓ : Loc nD τ sig) → Buf (Elt Ideal) ℓ)

/-- The rows over their root mean square, times the gain. -/
def normed (x : FVec Ideal S4096x2048 .f32) (g : FVec Ideal S2048 .f32) : FVec Ideal S4096x2048 .bf16 :=
  fun i => x i * Ideal.rsqrt (Ideal.div (∑ k : Fin 2048, x (ix2 (i 0) k) * x (ix2 (i 0) k)) (Ideal.ofBits .f32 0x45000000#32)
    + Ideal.ofBits .f32 0x358637BD#32) * g (ix1 (i 1))

/-- The block of every window at every grid point. -/
theorem idx : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- The gain the call is given, as one row. -/
theorem entry_gain (c : Dev nD) (j : Fin 2048) : V m c main_v0 (ix2 0 j) = m ((c : Thread nD τ).loc main_arg1) (ix1 j) := by
  entry_read
  pointwise

/-- One grid point stores, at each place of its block, the function at the place of the array the block covers. -/
theorem point (c : Dev nD) (t : Fin cfg0.N) (y) :
    k0_pay1 (iblk m c 0 t) (iblk m c 1 t) y
      = normed (m ((c : Thread nD τ).loc main_arg0)) (m ((c : Thread nD τ).loc main_arg1)) (((cfg0.win 2).blk t).view.emb y) := by
  pointwise [k0_pay1, normed]
  blk_point [iblk, V, idx t]

/-- The blocks tile the array, so after the run it holds the function everywhere. -/
theorem final (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.NormRows

namespace Cert.NormRows

open Cert.Reference23Ideal Cert.Reference23Ideal.Gen

/-- The reference's norm is the same function. -/
theorem reference_eq (x : FVec Ideal S4096x2048 .f32) (g : FVec Ideal S2048 .f32) :
    truncf .bf16 (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 g))) bitsLt_bf16_f32 = normed x g := by
  funext i
  pointwise [normed]

end Cert.NormRows

end
-- ==== Proof.GateWhole.lean ====
/- The gradients of the spatial gate over whole arrays, and their blocks. -/
module

public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.GateArrays

@[expose] public section

set_option maxRecDepth 16384

noncomputable section

open Idealize.ShloMosaic Idealize.ShloMosaic.TcCoe Idealize.SL.Sem
open Idealize.ShloMosaic.Pipeline (Dat)

namespace Cert.GateGrad

open Cert.KernelIdeal Cert.KernelIdeal.Gen

variable (m : (ℓ : Loc nD τ sig) → Buf (Elt Ideal) ℓ)

/-- Row `p` of the `n`-th block of 128 rows. -/
def row (n : Fin 32) (p : Fin 128) : Fin 4096 := ⟨128 * n.val + p.val, by have := n.isLt; have := p.isLt; omega⟩

/-- Lane `l` of the `g`-th group of 128 lanes. -/
def lane (g : Fin 16) (l : Fin 128) : Fin 2048 := ⟨128 * g.val + l.val, by have := g.isLt; have := l.isLt; omega⟩

/-- The block of a row. -/
def blockOf (a : Fin 4096) : Fin 32 := ⟨a.val / 128, by have := a.isLt; omega⟩

/-- The place of a row in its block. -/
def within (a : Fin 4096) : Fin 128 := ⟨a.val % 128, by omega⟩

/-- The group of a lane. -/
def groupOf (j : Fin 2048) : Fin 16 := ⟨j.val / 128, by have := j.isLt; omega⟩

/-- A lane of the first half. -/
def lo (j : Fin 2048) : Fin 4096 := ⟨j.val, by have := j.isLt; omega⟩

/-- A lane of the second half. -/
def hi (j : Fin 2048) : Fin 4096 := ⟨2048 + j.val, by have := j.isLt; omega⟩

/-- A row is the row of its block and place. -/
theorem row_split (a : Fin 4096) : row (blockOf a) (within a) = a := Fin.ext (Nat.div_add_mod _ _)

/-- The block of a row of a block. -/
theorem blockOf_row (n : Fin 32) (p : Fin 128) : blockOf (row n p) = n :=
  Fin.ext (by have := p.isLt; simp only [blockOf, row]; omega)

/-- The place of a row of a block. -/
theorem within_row (n : Fin 32) (p : Fin 128) : within (row n p) = p :=
  Fin.ext (by have := p.isLt; simp only [within, row]; omega)

/-- The cotangent of the mixed values. -/
def sv (z : FVec Ideal S4096x4096 .f32) (d : FVec Ideal S4096x2048 .f32) (a : Fin 4096) (j : Fin 2048) : EReal :=
  d (ix2 a j) * z (ix2 a (lo j))

/-- One over the root mean square of a row's second half. -/
def rms (z : FVec Ideal S4096x4096 .f32) (a : Fin 4096) : EReal :=
  Ideal.rsqrt (Ideal.div (∑ j : Fin 2048, z (ix2 a (hi j)) * z (ix2 a (hi j))) (Ideal.ofBits .f32 0x45000000#32) + Ideal.ofBits .f32 0x358637BD#32)

/-- The second half, each row divided by its root mean square. -/
def hat (z : FVec Ideal S4096x4096 .f32) (a : Fin 4096) (j : Fin 2048) : EReal := z (ix2 a (hi j)) * rms z a

/-- The lower triangle of a mixing matrix. -/
def tri (w : FVec Ideal S16x128x128 .f32) (g : Fin 16) (a b : Fin 128) : EReal := Scalar.select (below a b) (w (ix3 g a b)) 0

/-- The gradient that reaches the normalised values. -/
def normGrad (z : FVec Ideal S4096x4096 .f32) (d : FVec Ideal S4096x2048 .f32) (w : FVec Ideal S16x128x128 .f32) (n : Fin 32)
    (a : Fin 128) (j : Fin 2048) : EReal := ∑ p : Fin 128, tri w (groupOf j) p a * sv z d (row n p) j

/-- The mixed values. -/
def mix (z : FVec Ideal S4096x4096 .f32) (v : FVec Ideal S1x2048 .f32) (w : FVec Ideal S16x128x128 .f32) (b : FVec Ideal S16x128 .f32)
    (n : Fin 32) (a : Fin 128) (j : Fin 2048) : EReal :=
  ∑ q : Fin 128, tri w (groupOf j) a q * (hat z (row n q) j * v (ix2 0 j)) + b (ix2 (groupOf j) a)

/-- The gradient of the bias: summed over the blocks of rows. -/
def biasGrad (z : FVec Ideal S4096x4096 .f32) (d : FVec Ideal S4096x2048 .f32) : FVec Ideal S128x2048 .f32 :=
  fun y => ∑ n : Fin 32, sv z d (row n (y 0)) (y 1)

/-- The gradient of the mixing matrices. -/
def mixGrad (z : FVec Ideal S4096x4096 .f32) (v : FVec Ideal S1x2048 .f32) (d : FVec Ideal S4096x2048 .f32) : FVec Ideal S16x128x128 .f32 :=
  fun y => ∑ n : Fin 32, Scalar.select (below (y 1) (y 2))
    (∑ l : Fin 128, sv z d (row n (y 1)) (lane (y 0) l) * (hat z (row n (y 2)) (lane (y 0) l) * v (ix2 0 (lane (y 0) l)))) 0

/-- The gradient of the gain. -/
def gainGrad (z : FVec Ideal S4096x4096 .f32) (d : FVec Ideal S4096x2048 .f32) (w : FVec Ideal S16x128x128 .f32) : FVec Ideal S1x2048 .f32 :=
  fun y => ∑ n : Fin 32, ∑ p : Fin 128, normGrad z d w n p (y 1) * hat z (row n p) (y 1)

/-- The gradient of the second half through the normalisation. -/
def hiGrad (z : FVec Ideal S4096x4096 .f32) (v : FVec Ideal S1x2048 .f32) (d : FVec Ideal S4096x2048 .f32) (w : FVec Ideal S16x128x128 .f32)
    (n : Fin 32) (a : Fin 128) (j : Fin 2048) : EReal :=
  rms z (row n a) * (normGrad z d w n a j * v (ix2 0 j) - hat z (row n a) j * Ideal.div
    (∑ l : Fin 2048, normGrad z d w n a l * v (ix2 0 l) * hat z (row n a) l) (Ideal.ofBits .f32 0x45000000#32))

/-- The gradient of the gate's input, the activation's derivative multiplied in last. -/
def inputGrad (z : FVec Ideal S4096x4096 .f32) (zp : FVec Ideal S4096x4096 .bf16) (v : FVec Ideal S1x2048 .f32) (d : FVec Ideal S4096x2048 .f32)
    (w : FVec Ideal S16x128x128 .f32) (b : FVec Ideal S16x128 .f32) : FVec Ideal S4096x4096 .bf16 :=
  fun i => (if h : (i 1).val < 2048 then
      d (ix2 (i 0) ⟨(i 1).val, h⟩) * mix z v w b (blockOf (i 0)) (within (i 0)) ⟨(i 1).val, h⟩
    else hiGrad z v d w (blockOf (i 0)) (within (i 0)) ⟨(i 1).val - 2048, by have : (i 1).val < 4096 := (i 1).isLt; omega⟩) * zp i

/-- Masking by the transposed triangle is masking by the triangle, indices exchanged. -/
theorem above_below : ∀ a b : Fin 128, above a b = below b a := by decide +kernel

/-- A factor moves into a masked value. -/
theorem select_mul (k : BitVec 1) (x y : EReal) : Scalar.select k (x * y) 0 = Scalar.select k x 0 * y := by
  unfold Scalar.select
  split
  · rfl
  · exact (zero_mul y).symm

section
variable (z : FVec Ideal S4096x4096 .f32) (zp : FVec Ideal S4096x4096 .bf16) (v : FVec Ideal S1x2048 .f32) (d : FVec Ideal S4096x2048 .f32)
    (w : FVec Ideal S16x128x128 .f32) (b : FVec Ideal S16x128 .f32) (n : Fin 32)

/-- A block's cotangent of the mixed values. -/
theorem sv_block (y) : dsv (rows z n) (rowsHalf d n) y = sv z d (row n (y 0)) (y 1) := rfl

/-- A block's scale. -/
theorem rms_block (p : Fin 128) : scale (rows z n) p = rms z (row n p) := rfl

/-- A block's normalised values. -/
theorem hat_block (y) : unit (rows z n) y = hat z (row n (y 0)) (y 1) := rfl

/-- A block's values times the gain. -/
theorem normed_block (y) : normed (rows z n) v y = hat z (row n (y 0)) (y 1) * v (ix2 0 (y 1)) := rfl

/-- A block's gradient of the normalised values. -/
theorem normGrad_block (y) : dvn (rows z n) (rowsHalf d n) (flip w) y = normGrad z d w n (y 0) (y 1) := by
  refine Finset.sum_congr rfl fun p _ => ?_
  exact (congrArg (fun k => Scalar.select k _ _) (above_below (y 0) p)).trans (select_mul _ _ _)

/-- A block's mixed values. -/
theorem mix_block (y) : mixed (rows z n) v w (spread b) y = mix z v w b n (y 0) (y 1) := by
  refine congrArg₂ (· + ·) (Finset.sum_congr rfl fun q _ => ?_) rfl
  rw [select_mul]
  rfl

/-- A block's part of the gradient of the mixing matrices. -/
theorem mixGrad_block (y) : dws (rows z n) (rowsHalf d n) v y = Scalar.select (below (y 1) (y 2))
    (∑ l : Fin 128, sv z d (row n (y 1)) (lane (y 0) l) * (hat z (row n (y 2)) (lane (y 0) l) * v (ix2 0 (lane (y 0) l)))) 0 := rfl

/-- A block's part of the gradient of the gain. -/
theorem gainGrad_block (y) : dgain (rows z n) (rowsHalf d n) (flip w) y = ∑ p : Fin 128, normGrad z d w n p (y 1) * hat z (row n p) (y 1) := by
  refine Finset.sum_congr rfl fun p _ => ?_
  rw [normGrad_block, hat_block]
  rfl

/-- A block's gradient of the second half. -/
theorem hiGrad_block (y) : dvals (rows z n) (dvn (rows z n) (rowsHalf d n) (flip w)) v y = hiGrad z v d w n (y 0) (y 1) := by
  unfold dvals hiGrad
  simp only [normGrad_block, hat_block, rms_block]
  rfl

/-- A block of the gradient of the input. -/
theorem inputGrad_block (y) : dz (rows z n) (rows zp n) (rowsHalf d n) v w (flip w) (spread b) y
    = inputGrad z zp v d w b (ix2 (row n (y 0)) (y 1)) := by
  unfold dz inputGrad
  simp only [hiGrad_block, mix_block]
  have e0 : blockOf ((ix2 (row n (y 0)) (y 1) : S4096x4096.Idx) 0) = n := blockOf_row n (y 0)
  have e1 : within ((ix2 (row n (y 0)) (y 1) : S4096x4096.Idx) 0) = y 0 := within_row n (y 0)
  rw [e0, e1]
  rfl

end

end Cert.GateGrad
end
-- ==== Proof.GateForward.lean ====
/- The forward call of the spatial gate. -/
module

public import proofs.«01_k».proof.Proof.Gen.Kernel24Ideal.Value
public import proofs.«01_k».proof.Proof.Gen.Reference24Ideal.Run
public import Idealize.ShloMosaic.Lib.Pipeline.ValueKit
public import Idealize.ShloMosaic.Lib.Pointwise
public import proofs.«01_k».proof.Proof.GateWhole

@[expose] public section

set_option maxRecDepth 16384

noncomputable section

open Idealize.ShloMosaic Idealize.ShloMosaic.TcCoe Idealize.SL.Sem
open Idealize.ShloMosaic.Pipeline (Dat)

namespace Cert.GateForward

open Cert.Kernel24Ideal Cert.Kernel24Ideal.Gen
open Cert.GateGrad (row blockOf within groupOf lo hi rms hat tri mix below spread select_mul)

/-- The gate's forward value: the first half times the mixed values. -/
def forward (z : FVec Ideal S4096x4096 .f32) (v : FVec Ideal S1x2048 .f32) (w : FVec Ideal S16x128x128 .f32) (b : FVec Ideal S16x128 .f32) :
    FVec Ideal S4096x2048 .bf16 :=
  fun i => z (ix2 (i 0) (lo (i 1))) * mix z v w b (blockOf (i 0)) (within (i 0)) (i 1)

/-- A block's second half: each row divided by its root mean square, times the gain. -/
def normed (x : FVec Ideal S128x2048 .f32) (v : FVec Ideal S1x2048 .f32) : FVec Ideal S128x2048 .bf16 :=
  fun y => x y * Ideal.rsqrt (Ideal.div (∑ j : Fin 2048, x (ix2 (y 0) j) * x (ix2 (y 0) j)) (Ideal.ofBits .f32 0x45000000#32)
    + Ideal.ofBits .f32 0x358637BD#32) * v (ix2 0 (y 1))

/-- A block's gated values. -/
def gated (u x : FVec Ideal S128x2048 .f32) (v : FVec Ideal S1x2048 .f32) (w : FVec Ideal S16x128x128 .f32) (b : FVec Ideal S128x2048 .f32) :
    FVec Ideal S128x2048 .bf16 :=
  fun y => u y * (∑ q : Fin 128, Scalar.select (below (y 0) q) (w (ix3 ⟨(y 1).val / 128, by have : (y 1).val < 2048 := (y 1).isLt; omega⟩ (y 0) q) * normed x v (ix2 q (y 1))) 0 + b y)

/-- The normalised block is `normed`. -/
theorem normed_eq (x : FVec Ideal S128x2048 .f32) (v : FVec Ideal S1x2048 .f32) :
    k0_pay3 (View.ld (Val := Elt Ideal) x r0_0) (View.ld (Val := Elt Ideal) v r0_1) = normed x v := by
  funext y
  pointwise [k0_pay3, normed]

set_option maxHeartbeats 1600000 in
/-- The sixteen products side by side are the block's gated values. -/
theorem block (u x : FVec Ideal S128x2048 .f32) (v : FVec Ideal S1x2048 .f32) (w : FVec Ideal S16x128x128 .f32) (b : FVec Ideal S128x2048 .f32)
    (y : S128x2048.Idx) : out0_5 (F := Ideal) u x v w b y = gated u x v w b y := by
  unfold_out out0_5
  unfold k0_pay4
  simp only [normed_eq]
  canon_tiles x h using View.cover_of_tiledBy _ ![128, 128] (by sl_kernel_rfl) y
  all_goals
    open_payloads
    pointwise [gated, below]
    blk_point []
    all_goals omega

/-- The block of every window at every grid point. -/
theorem idx : ∀ t : Fin cfg0.N, win0_0.index t = ![t.val, 0] ∧ win0_1.index t = ![t.val, 1] ∧ win0_2.index t = ![0, 0]
    ∧ win0_3.index t = ![0, 0, 0] ∧ win0_4.index t = ![0, 0] ∧ win0_5.index t = ![t.val, 0] :=
  (by decide +kernel : ∀ t : Fin grid0.N, _)

section
variable (m : (ℓ : Loc nD τ sig) → Buf (Elt Ideal) ℓ)

/-- The grid point as the number of a block of rows. -/
abbrev num (t : Fin cfg0.N) : Fin 32 := ⟨t.val, t.isLt⟩

/-- The bias the call is given. -/
theorem entry_bias (c : Dev nD) : V m c main_v2 = spread (m ((c : Thread nD τ).loc main_arg3)) := by
  funext i
  simp only [V, hostOps0, List.flatten_cons, List.flatten_nil, List.append_nil, List.cons_append, List.nil_append]
  entry_read
  pointwise [spread]
  try rfl

/-- The first half's block at a grid point. -/
theorem block_first (c : Dev nD) (t : Fin cfg0.N) :
    iblk m c 0 t = fun y : S128x2048.Idx => m ((c : Thread nD τ).loc main_arg0) (ix2 (row (num t) (y 0)) (lo (y 1))) := by
  funext y
  rw [← V_main_arg0 m c]; unfold row lo
  blk_point [iblk, idx t]

/-- The second half's block at a grid point. -/
theorem block_second (c : Dev nD) (t : Fin cfg0.N) :
    iblk m c 1 t = fun y : S128x2048.Idx => m ((c : Thread nD τ).loc main_arg0) (ix2 (row (num t) (y 0)) (hi (y 1))) := by
  funext y
  rw [← V_main_arg0 m c]; unfold row hi
  blk_point [iblk, idx t]

/-- The gain is the same at every grid point. -/
theorem block_gain (c : Dev nD) (t : Fin cfg0.N) : iblk m c 2 t = m ((c : Thread nD τ).loc main_arg1) := by
  funext y
  rw [← V_main_arg1 m c]
  blk_point [iblk, idx t]

/-- The mixing matrices are the same at every grid point. -/
theorem block_mix (c : Dev nD) (t : Fin cfg0.N) : iblk m c 3 t = m ((c : Thread nD τ).loc main_arg2) := by
  funext y
  rw [← V_main_arg2 m c]
  blk_point [iblk, idx t]

/-- The bias is the same at every grid point. -/
theorem block_bias (c : Dev nD) (t : Fin cfg0.N) : iblk m c 4 t = spread (m ((c : Thread nD τ).loc main_arg3)) := by
  funext y
  rw [← entry_bias]
  blk_point [iblk, idx t]

end

/-- A block's gated values are the block of the gate's value. -/
theorem gated_block (z : FVec Ideal S4096x4096 .f32) (v : FVec Ideal S1x2048 .f32) (w : FVec Ideal S16x128x128 .f32) (b : FVec Ideal S16x128 .f32)
    (n : Fin 32) (y : S128x2048.Idx) :
    gated (fun y => z (ix2 (row n (y 0)) (lo (y 1)))) (fun y => z (ix2 (row n (y 0)) (hi (y 1)))) v w (spread b) y
      = z (ix2 (row n (y 0)) (lo (y 1))) * mix z v w b n (y 0) (y 1) := by
  refine congrArg (z (ix2 (row n (y 0)) (lo (y 1))) * ·) (congrArg₂ (· + ·) (Finset.sum_congr rfl fun q _ => ?_) rfl)
  rw [select_mul]
  rfl

/-- The blocks of rows tile the array, so after the run it holds the gate's value everywhere. -/
theorem final (m : (ℓ : Loc nD τ sig) → Buf (Elt Ideal) ℓ) (c : Dev nD) : (dats m 0 c).arrAt 5 cfg0.N
    = forward (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5, block, block_first, block_second, block_gain, block_mix, block_bias, gated_block]
  have e : ((cfg0.win 5).blk t).view.emb y = ix2 (row (num t) (y 0)) (y 1) := by
    unfold row
    blk_point [idx t]
  rw [e]
  unfold forward
  exact congrArg₂ (fun n a => _ * mix _ _ _ _ n a _) (Cert.GateGrad.blockOf_row _ _).symm (Cert.GateGrad.within_row _ _).symm

end Cert.GateForward

namespace Cert.GateForward

open Cert.Reference24Ideal Cert.Reference24Ideal.Gen
open Cert.GateGrad (row blockOf within groupOf lo hi rms hat tri mix below)

/-- One over the root mean square, as the reference writes it. -/
theorem rms_eq (z : FVec Ideal S4096x4096 .f32) : Host.rsqrt (addf (Host.divf (broadcastInDim S4096x1 ![0] bcast_S4096_S4096x1_0 (Host.reduceAdd (mulf (extractStridedSlice S4096x2048 ![0, 2048] z slices_S4096x4096_S4096x2048_0_2048) (extractStridedSlice S4096x2048 ![0, 2048] z slices_S4096x4096_S4096x2048_0_2048)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))) = fun i : S4096x1.Idx => rms z (i 0) := by
  funext i
  pointwise [rms, hi]

/-- The normalised second half times the gain, as the reference writes it. -/
theorem hat_eq (z : FVec Ideal S4096x4096 .f32) (v : FVec Ideal S1x2048 .f32) :
    mulf (mulf (extractStridedSlice S4096x2048 ![0, 2048] z slices_S4096x4096_S4096x2048_0_2048) (broadcastInDim S4096x2048 ![0, 1] bcast_S4096x1_S4096x2048_0_1 (Host.rsqrt (addf (Host.divf (broadcastInDim S4096x1 ![0] bcast_S4096_S4096x1_0 (Host.reduceAdd (mulf (extractStridedSlice S4096x2048 ![0, 2048] z slices_S4096x4096_S4096x2048_0_2048) (extractStridedSlice S4096x2048 ![0, 2048] z slices_S4096x4096_S4096x2048_0_2048)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 v)
    = fun i : S4096x2048.Idx => hat z (i 0) (i 1) * v (ix2 0 (i 1)) := by
  rw [rms_eq]
  funext i
  pointwise [hat, hi]

/-- The mask multiplies every entry of a matrix by one or by zero. -/
theorem tri_eq (w : FVec Ideal S16x128x128 .f32) :
    mulf w (broadcastInDim S16x128x128 ![0, 1, 2] bcast_S1x128x128_S16x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))
    = fun i : S16x128x128.Idx => Scalar.select (below (i 1) (i 2)) (w i) 0 := by
  funext i
  pointwise [below]
  simp only [IntOp.addi, BitVec.add_zero]

/-- The mixed values, as the reference writes them. -/
theorem mix_eq (s : FVec Ideal S4096x2048 .f32) (t : FVec Ideal S16x128x128 .f32) (b : FVec Ideal S16x128 .f32) :
    shapeCast _ (addf (transpose S1x32x128x16x128 [1, 2, 4, 0, 3] (Host.dotGeneral dot_S1x32x128x16x128_S16x128x128_S16x1x32x128x128_2_2_014_1_3_0 none (shapeCast _ s shapeCasts_S4096x2048_S1x32x128x16x128) t) transposes_S16x1x32x128x128_S1x32x128x16x128_1_2_4_0_3) (broadcastInDim S1x32x128x16x128 ![0, 1, 2, 3, 4] bcast_S1x1x128x16x1_S1x32x128x16x128_0_1_2_3_4 (broadcastInDim S1x1x128x16x1 ![2, 3] bcast_S128x16_S1x1x128x16x1_2_3 (transpose S128x16 [1, 0] b transposes_S16x128_S128x16_1_0)))) shapeCasts_S1x32x128x16x128_S4096x2048
    = fun i : S4096x2048.Idx => ∑ q : Fin 128, s (ix2 (row (blockOf (i 0)) q) (i 1)) * t (ix3 (groupOf (i 1)) (within (i 0)) q) + b (ix2 (groupOf (i 1)) (within (i 0))) := by
  funext i
  pointwise [row, blockOf, within, groupOf]
  simp only [Nat.mul_comm _ 128]

/-- The first half times the mixed values, as the reference writes it. -/
theorem gate_eq (z : FVec Ideal S4096x4096 .f32) (s : FVec Ideal S4096x2048 .f32) :
    truncf .bf16 (mulf (extractStridedSlice S4096x2048 ![0, 0] z slices_S4096x4096_S4096x2048_0_0) s) bitsLt_bf16_f32
    = fun i : S4096x2048.Idx => z (ix2 (i 0) (lo (i 1))) * s i := by
  funext i
  pointwise [lo]

/-- The reference's result is the gate's value. -/
theorem reference_eq (z : FVec Ideal S4096x4096 .f32) (v : FVec Ideal S1x2048 .f32) (w : FVec Ideal S16x128x128 .f32) (b : FVec Ideal S16x128 .f32) :
    truncf .bf16 (mulf (extractStridedSlice S4096x2048 ![0, 0] z slices_S4096x4096_S4096x2048_0_0) (shapeCast _ (addf (transpose S1x32x128x16x128 [1, 2, 4, 0, 3] (Host.dotGeneral dot_S1x32x128x16x128_S16x128x128_S16x1x32x128x128_2_2_014_1_3_0 none (shapeCast _ (mulf (mulf (extractStridedSlice S4096x2048 ![0, 2048] z slices_S4096x4096_S4096x2048_0_2048) (broadcastInDim S4096x2048 ![0, 1] bcast_S4096x1_S4096x2048_0_1 (Host.rsqrt (addf (Host.divf (broadcastInDim S4096x1 ![0] bcast_S4096_S4096x1_0 (Host.reduceAdd (mulf (extractStridedSlice S4096x2048 ![0, 2048] z slices_S4096x4096_S4096x2048_0_2048) (extractStridedSlice S4096x2048 ![0, 2048] z slices_S4096x4096_S4096x2048_0_2048)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 v)) shapeCasts_S4096x2048_S1x32x128x16x128) (mulf w (broadcastInDim S16x128x128 ![0, 1, 2] bcast_S1x128x128_S16x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))) transposes_S16x1x32x128x128_S1x32x128x16x128_1_2_4_0_3) (broadcastInDim S1x32x128x16x128 ![0, 1, 2, 3, 4] bcast_S1x1x128x16x1_S1x32x128x16x128_0_1_2_3_4 (broadcastInDim S1x1x128x16x1 ![2, 3] bcast_S128x16_S1x1x128x16x1_2_3 (transpose S128x16 [1, 0] b transposes_S16x128_S128x16_1_0)))) shapeCasts_S1x32x128x16x128_S4096x2048)) bitsLt_bf16_f32
    = forward z v w b := by
  rw [hat_eq, tri_eq, mix_eq, gate_eq]
  funext i
  exact congrArg (z (ix2 (i 0) (lo (i 1))) * ·) (congrArg₂ (· + ·) (Finset.sum_congr rfl fun q _ => mul_comm _ _) rfl)

end Cert.GateForward
end
-- ==== Proof.FiniteGate.lean ====
/- What the printed finiteness test of the gate's backward call says. -/
module

public import proofs.«01_k».proof.Proof.Gen.Pre_finite_gate
public import proofs.«01_k».proof.Proof.Finite
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Finite

/-- The precondition of the gate's backward call: every entry of its arguments is real. -/
theorem gate {y : FVec Ideal Cert.Pre_finite_gate.S4096x4096 .f32} {v : FVec Ideal Cert.Pre_finite_gate.S1x2048 .f32}
    {w : FVec Ideal Cert.Pre_finite_gate.S16x128x128 .f32} {b : FVec Ideal Cert.Pre_finite_gate.S16x128 .f32}
    {d : FVec Ideal Cert.Pre_finite_gate.S4096x2048 .f32} (h : Cert.Pre_finite_gate.fn y v w b d = fun _ => 1#1) :
    (∀ i, IsReal (y i)) ∧ (∀ i, IsReal (v i)) ∧ (∀ i, IsReal (w i)) ∧ (∀ i, IsReal (b i)) ∧ ∀ i, IsReal (d i) := by
  have h := fun j => congrFun h j
  dsimp only [Cert.Pre_finite_gate.fn, Cert.Pre_finite_gate.fn_part1] at h
  simp only [andi, IntOp.andi_eq_one, forall_and] at h
  obtain ⟨⟨⟨⟨h1, h2⟩, h3⟩, h4⟩, h5⟩ := h
  exact ⟨isReal_of_test _ _ (fun _ => Cert.Literals.infinity) _ _ h1, isReal_of_test _ _ (fun _ => Cert.Literals.infinity) _ _ h2,
    isReal_of_test _ _ (fun _ => Cert.Literals.infinity) _ _ h3, isReal_of_test _ _ (fun _ => Cert.Literals.infinity) _ _ h4,
    isReal_of_test _ _ (fun _ => Cert.Literals.infinity) _ _ h5⟩

end Cert.Finite

end
-- ==== Proof.FiniteAttn.lean ====
/- What the printed finiteness test of the attention calls says. -/
module

public import proofs.«01_k».proof.Proof.Gen.Pre_finite_attn
public import proofs.«01_k».proof.Proof.Finite
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Finite

/-- The precondition of the attention calls: every entry of the queries, keys and values is real. -/
theorem attn {q k v : FVec Ideal Cert.Pre_finite_attn.S4096x6144 .bf16} (h : Cert.Pre_finite_attn.fn q k v = fun _ => 1#1) :
    (∀ i, IsReal (q i)) ∧ (∀ i, IsReal (k i)) ∧ ∀ i, IsReal (v i) := by
  have h := fun j => congrFun h j
  dsimp only [Cert.Pre_finite_attn.fn] at h
  simp only [andi, IntOp.andi_eq_one, forall_and] at h
  obtain ⟨⟨h1, h2⟩, h3⟩ := h
  exact ⟨isReal_of_test _ _ (fun _ => Cert.Literals.infinity) _ _ h1, isReal_of_test _ _ (fun _ => Cert.Literals.infinity) _ _ h2,
    isReal_of_test _ _ (fun _ => Cert.Literals.infinity) _ _ h3⟩

end Cert.Finite

end
-- ==== Proof.Attend.lean ====
/- Attention of one query over a window of two blocks of keys. -/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Attend

/-- The distance from the query at place `i` of its block to the key at place `j` of the previous and the current block. -/
def gap (i : Fin 128) (j : Fin 256) : BitVec 32 := IntOp.subi (IntOp.addi (BitVec.ofNat 32 i.val) 128#32) (BitVec.ofNat 32 j.val)

/-- Whether the query at place `i` attends to the key at place `j`: the key is not later, at most 128 places earlier, and, unless there is a previous block (`past`), in the current block. -/
def keep (past : BitVec 1) (i : Fin 128) (j : Fin 256) : BitVec 1 :=
  IntOp.andi (IntOp.andi (IntOp.cmpi .sge (gap i j) 0#32) (IntOp.cmpi .sle (gap i j) 128#32)) (IntOp.ori (IntOp.cmpi .sge (BitVec.ofNat 32 j.val) 128#32) past)

/-- The first 128 places from one block, the last 128 from another. -/
def pick {α : Type} (p c : Fin 128 → α) (j : Fin 256) : α :=
  if h : j.val < 128 then p ⟨j.val, h⟩ else c ⟨j.val - 128, by have := j.isLt; omega⟩

/-- A query's score for a key: their product less the slope times the distance, or minus infinity where the key is masked. -/
def score (past : BitVec 1) (slope dist : EReal) (q k : Fin 128 → EReal) (i : Fin 128) (j : Fin 256) : EReal :=
  Scalar.select (keep past i j) (∑ x, q x * k x - slope * dist) (Ideal.ofBits .f32 0xFF800000#32)

/-- The largest score. -/
def top (S : Fin 256 → EReal) : EReal := Finset.fold max (Ideal.ofBits .f32 0xFF800000#32) S Finset.univ

/-- The values averaged with the exponentials of the scores as weights. -/
def attend (S V : Fin 256 → EReal) : EReal := Ideal.div (∑ j, Ideal.exp (S j - top S) * V j) (∑ j, Ideal.exp (S j - top S))

/-- The logarithm of the sum of the exponentials of the scores. -/
def logSum (S : Fin 256 → EReal) : EReal := top S + Ideal.log (∑ j, Ideal.exp (S j - top S))

/-- Lane `x` of head `h`. -/
def lane (h : Fin 16) (x : Fin 128) : Fin 2048 := ⟨128 * h.val + x.val, by have := h.isLt; have := x.isLt; omega⟩

/-- The head of a lane. -/
def headOf (l : Fin 2048) : Fin 16 := ⟨l.val / 128, by have := l.isLt; omega⟩

/-- The place of a lane in its head. -/
def placeOf (l : Fin 2048) : Fin 128 := ⟨l.val % 128, by omega⟩

/-- A lane is the lane of its head and place. -/
theorem lane_split (l : Fin 2048) : lane (headOf l) (placeOf l) = l := Fin.ext (Nat.div_add_mod _ _)

/-- The head of a head's lane. -/
theorem headOf_lane (h : Fin 16) (x : Fin 128) : headOf (lane h x) = h := Fin.ext (by have := x.isLt; simp only [headOf, lane]; omega)

/-- The place of a head's lane. -/
theorem placeOf_lane (h : Fin 16) (x : Fin 128) : placeOf (lane h x) = x := Fin.ext (by have := x.isLt; simp only [placeOf, lane]; omega)

/-- The slopes of the sixteen heads. -/
def headSlope (h : Fin 16) : EReal := Ideal.ofBits .f32 ((![0x3F3504F3#32, 0x3F000000#32, 0x3EB504F3#32, 0x3E800000#32, 0x3E3504F3#32, 0x3E000000#32, 0x3DB504F3#32, 0x3D800000#32, 0x3D3504F3#32, 0x3D000000#32, 0x3CB504F3#32, 0x3C800000#32, 0x3C3504F3#32, 0x3C000000#32, 0x3BB504F3#32, 0x3B800000#32] : Fin 16 → BitVec 32) h)

/-- Sixteen numbers laid out one per lane, zero in the lanes after them. -/
theorem pack_lanes (c : Fin 16 → EReal) (l : ℕ) (hl : l < 128) :
    Scalar.select (IntOp.cmpi .eq (BitVec.ofNat 32 l) 15#32) (c 15) (Scalar.select (IntOp.cmpi .eq (BitVec.ofNat 32 l) 14#32) (c 14) (Scalar.select (IntOp.cmpi .eq (BitVec.ofNat 32 l) 13#32) (c 13) (Scalar.select (IntOp.cmpi .eq (BitVec.ofNat 32 l) 12#32) (c 12) (Scalar.select (IntOp.cmpi .eq (BitVec.ofNat 32 l) 11#32) (c 11) (Scalar.select (IntOp.cmpi .eq (BitVec.ofNat 32 l) 10#32) (c 10) (Scalar.select (IntOp.cmpi .eq (BitVec.ofNat 32 l) 9#32) (c 9) (Scalar.select (IntOp.cmpi .eq (BitVec.ofNat 32 l) 8#32) (c 8) (Scalar.select (IntOp.cmpi .eq (BitVec.ofNat 32 l) 7#32) (c 7) (Scalar.select (IntOp.cmpi .eq (BitVec.ofNat 32 l) 6#32) (c 6) (Scalar.select (IntOp.cmpi .eq (BitVec.ofNat 32 l) 5#32) (c 5) (Scalar.select (IntOp.cmpi .eq (BitVec.ofNat 32 l) 4#32) (c 4) (Scalar.select (IntOp.cmpi .eq (BitVec.ofNat 32 l) 3#32) (c 3) (Scalar.select (IntOp.cmpi .eq (BitVec.ofNat 32 l) 2#32) (c 2) (Scalar.select (IntOp.cmpi .eq (BitVec.ofNat 32 l) 1#32) (c 1) (Scalar.select (IntOp.cmpi .eq (BitVec.ofNat 32 l) 0#32) (c 0) 0)))))))))))))))
      = if h : l < 16 then c ⟨l, h⟩ else 0 := by
  interval_cases l <;> rfl

end Cert.Attend
end
-- ==== Proof.AttnBlockD1.lean ====
/- What one block of the attention with dilation 1 computes. -/
module

public import proofs.«01_k».proof.Proof.Gen.Kernel19Ideal.Value
public import proofs.«01_k».proof.Proof.Attend
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnD1

open Cert.Kernel19Ideal Cert.Kernel19Ideal.Gen
open Cert.Attend

/-- The distance in tokens. -/
def dist (i : Fin 128) (j : Fin 256) : EReal := FloatOps.sitofp (F := Ideal) .f32 (gap i j)

/-- The scores of head `h` in a block: queries `q`, current keys `kc`, previous keys `kp`. -/
def scoreAt (past : BitVec 1) (q kc kp : Vec Ideal S128x2048 .bf16) (h : Fin 16) (i : Fin 128) : Fin 256 → EReal := fun j =>
  score past (headSlope h) (dist i j) (fun x => q (ix2 i (lane h x))) (pick (fun a x => kp (ix2 a (lane h x))) (fun a x => kc (ix2 a (lane h x))) j) i j

/-- The attention of head `h` in a block. -/
def headOut (past : BitVec 1) (q kc kp vc vp : Vec Ideal S128x2048 .bf16) (h : Fin 16) (x : S128x128.Idx) : EReal :=
  attend (scoreAt past q kc kp h (x 0)) (pick (fun a => vp (ix2 a (lane h (x 1)))) (fun a => vc (ix2 a (lane h (x 1)))))

/-- The attention of a block, all heads side by side. -/
def blockOut (past : BitVec 1) (q kc kp vc vp : Vec Ideal S128x2048 .bf16) : Vec Ideal S128x2048 .f32 :=
  fun y => headOut past q kc kp vc vp (headOf (y 1)) (ix2 (y 0) (placeOf (y 1)))

/-- A lane of head `h` holds that head's attention. -/
theorem blockOut_head (past : BitVec 1) (q kc kp vc vp : Vec Ideal S128x2048 .bf16) (h : Fin 16) (y : S128x2048.Idx) (x : S128x128.Idx)
    (h0 : (y 0).val = (x 0).val) (h1 : (y 1).val = 128 * h.val + (x 1).val) :
    blockOut past q kc kp vc vp y = headOut past q kc kp vc vp h x := by
  have hx : (x 1).val < 128 := (x 1).isLt
  have e1 : headOf (y 1) = h := Fin.ext (by simp only [headOf]; omega)
  have e2 : (ix2 (y 0) (placeOf (y 1)) : S128x128.Idx) = x := by
    blk_ext
    all_goals first | exact h0 | (simp only [placeOf]; omega)
  unfold blockOut
  rw [e1, e2]

/-- The logarithms of the sums of a block: head `h` in lane `h`, zero in the other lanes. -/
def blockLog (past : BitVec 1) (q kc kp : Vec Ideal S128x2048 .bf16) : Vec Ideal S128x128 .f32 :=
  fun y => if h : (y 1).val < 16 then logSum (scoreAt past q kc kp ⟨(y 1).val, h⟩ (y 0)) else 0

/-- Masked scores, as the kernel writes them. -/
theorem tile_eq (M : IVec S128x256 1) (D : FVec Ideal S128x256 .f32) (w : BitVec 32) (q kp kc : FVec Ideal S128x128 .bf16) :
    select M (subf (matmul dot_S128x128_S256x128_S128x256_1_1_0_0_n_n none q (concatenate S256x128 0 [⟨S128x128, kp⟩, ⟨S128x128, kc⟩] concatenates_S128x128_S128x128_S256x128_d0) (constant S128x256 .f32 0x00000000#32)) (mulf (broadcast S128x256 (Scalar.ofBits .f32 w)) D)) (broadcast S128x256 (Scalar.ofBits .f32 0xFF800000#32))
      = fun j => Scalar.select (M j) (∑ x, q (ix2 (j 0) x) * pick (fun a x => kp (ix2 a x)) (fun a x => kc (ix2 a x)) (j 1) x - Ideal.ofBits .f32 w * D j) (Ideal.ofBits .f32 0xFF800000#32) := by
  funext j
  pointwise [pick]
  congr 2
  refine Finset.sum_congr rfl fun x _ => ?_
  split <;> rfl

/-- The exponentials of the scores less the row's largest, as the kernel writes them. -/
theorem prob_eq (S : FVec Ideal S128x256 .f32) :
    exp (subf S (broadcastTo S128x256 (shapeCast S128x1 (multiReduction .maximumf [1] S128 S 0xFF800000#32 reduces_S128x256_S128 (.inl rfl) rfl) shapeCasts_S128_S128x1) broadcasts_S128x1_S128x256))
      = fun j => Ideal.exp (S j - top fun x => S (ix2 (j 0) x)) := by
  funext j
  pointwise [top]

/-- The largest score of each row, as the kernel writes it. -/
theorem top_eq (S : FVec Ideal S128x256 .f32) :
    shapeCast S128x1 (multiReduction .maximumf [1] S128 S 0xFF800000#32 reduces_S128x256_S128 (.inl rfl) rfl) shapeCasts_S128_S128x1
      = fun j => top fun x => S (ix2 (j 0) x) := by
  funext j
  pointwise [top]

/-- A head's weighted average, as the kernel writes it. -/
theorem average_eq (P : FVec Ideal S128x256 .f32) (vp vc : FVec Ideal S128x128 .bf16) (x : S128x128.Idx) :
    divf (matmul dot_S128x256_S256x128_S128x128_1_0_0_1_n_n none (truncf .bf16 P bitsLt_bf16_f32) (concatenate S256x128 0 [⟨S128x128, vp⟩, ⟨S128x128, vc⟩] concatenates_S128x128_S128x128_S256x128_d0) (constant S128x128 .f32 0x00000000#32))
      (broadcastTo S128x128 (shapeCast S128x1 (multiReduction .add [1] S128 P 0x00000000#32 reduces_S128x256_S128 (.inl rfl) rfl) shapeCasts_S128_S128x1) broadcasts_S128x1_S128x128) x
      = Ideal.div (∑ j, P (ix2 (x 0) j) * pick (fun a => vp (ix2 a (x 1))) (fun a => vc (ix2 a (x 1))) j) (∑ j, P (ix2 (x 0) j)) := by
  pointwise [pick]

/-- A head's logarithm of the sum, as the kernel writes it. -/
theorem log_eq (S : FVec Ideal S128x256 .f32) :
    addf (shapeCast S128x1 (multiReduction .maximumf [1] S128 S 0xFF800000#32 reduces_S128x256_S128 (.inl rfl) rfl) shapeCasts_S128_S128x1)
      (log (shapeCast S128x1 (multiReduction .add [1] S128 (exp (subf S (broadcastTo S128x256 (shapeCast S128x1 (multiReduction .maximumf [1] S128 S 0xFF800000#32 reduces_S128x256_S128 (.inl rfl) rfl) shapeCasts_S128_S128x1) broadcasts_S128x1_S128x256))) 0x00000000#32 reduces_S128x256_S128 (.inl rfl) rfl) shapeCasts_S128_S128x1))
      = fun j => logSum fun x => S (ix2 (j 0) x) := by
  rw [prob_eq, top_eq]
  funext j
  pointwise [logSum, top]

/-- The stored attention block. -/
theorem out_eq (i : grid0.Coords) (q kc kp vc vp : Vec Ideal S128x2048 .bf16) :
    out0_5 i q kc kp vc vp = blockOut (Scalar.cmpi .sgt (BitVec.ofNat 32 (i 1).val) 0#32) q kc kp vc vp := by
  funext y
  unfold_out out0_5
  canon_tiles x h
  · rw [blockOut_head _ q kc kp vc vp 15 y x h0 (by simp only [Fin.isValue]; omega)]
    open_payloads
    rw [tile_eq, prob_eq, average_eq]
    pointwise [headOut, attend, top, scoreAt, score, keep, gap, dist, lane]
    rfl
  · rw [blockOut_head _ q kc kp vc vp 14 y x h0 (by simp only [Fin.isValue]; omega)]
    open_payloads
    rw [tile_eq, prob_eq, average_eq]
    pointwise [headOut, attend, top, scoreAt, score, keep, gap, dist, lane]
    rfl
  · rw [blockOut_head _ q kc kp vc vp 13 y x h0 (by simp only [Fin.isValue]; omega)]
    open_payloads
    rw [tile_eq, prob_eq, average_eq]
    pointwise [headOut, attend, top, scoreAt, score, keep, gap, dist, lane]
    rfl
  · rw [blockOut_head _ q kc kp vc vp 12 y x h0 (by simp only [Fin.isValue]; omega)]
    open_payloads
    rw [tile_eq, prob_eq, average_eq]
    pointwise [headOut, attend, top, scoreAt, score, keep, gap, dist, lane]
    rfl
  · rw [blockOut_head _ q kc kp vc vp 11 y x h0 (by simp only [Fin.isValue]; omega)]
    open_payloads
    rw [tile_eq, prob_eq, average_eq]
    pointwise [headOut, attend, top, scoreAt, score, keep, gap, dist, lane]
    rfl
  · rw [blockOut_head _ q kc kp vc vp 10 y x h0 (by simp only [Fin.isValue]; omega)]
    open_payloads
    rw [tile_eq, prob_eq, average_eq]
    pointwise [headOut, attend, top, scoreAt, score, keep, gap, dist, lane]
    rfl
  · rw [blockOut_head _ q kc kp vc vp 9 y x h0 (by simp only [Fin.isValue]; omega)]
    open_payloads
    rw [tile_eq, prob_eq, average_eq]
    pointwise [headOut, attend, top, scoreAt, score, keep, gap, dist, lane]
    rfl
  · rw [blockOut_head _ q kc kp vc vp 8 y x h0 (by simp only [Fin.isValue]; omega)]
    open_payloads
    rw [tile_eq, prob_eq, average_eq]
    pointwise [headOut, attend, top, scoreAt, score, keep, gap, dist, lane]
    rfl
  · rw [blockOut_head _ q kc kp vc vp 7 y x h0 (by simp only [Fin.isValue]; omega)]
    open_payloads
    rw [tile_eq, prob_eq, average_eq]
    pointwise [headOut, attend, top, scoreAt, score, keep, gap, dist, lane]
    rfl
  · rw [blockOut_head _ q kc kp vc vp 6 y x h0 (by simp only [Fin.isValue]; omega)]
    open_payloads
    rw [tile_eq, prob_eq, average_eq]
    pointwise [headOut, attend, top, scoreAt, score, keep, gap, dist, lane]
    rfl
  · rw [blockOut_head _ q kc kp vc vp 5 y x h0 (by simp only [Fin.isValue]; omega)]
    open_payloads
    rw [tile_eq, prob_eq, average_eq]
    pointwise [headOut, attend, top, scoreAt, score, keep, gap, dist, lane]
    rfl
  · rw [blockOut_head _ q kc kp vc vp 4 y x h0 (by simp only [Fin.isValue]; omega)]
    open_payloads
    rw [tile_eq, prob_eq, average_eq]
    pointwise [headOut, attend, top, scoreAt, score, keep, gap, dist, lane]
    rfl
  · rw [blockOut_head _ q kc kp vc vp 3 y x h0 (by simp only [Fin.isValue]; omega)]
    open_payloads
    rw [tile_eq, prob_eq, average_eq]
    pointwise [headOut, attend, top, scoreAt, score, keep, gap, dist, lane]
    rfl
  · rw [blockOut_head _ q kc kp vc vp 2 y x h0 (by simp only [Fin.isValue]; omega)]
    open_payloads
    rw [tile_eq, prob_eq, average_eq]
    pointwise [headOut, attend, top, scoreAt, score, keep, gap, dist, lane]
    rfl
  · rw [blockOut_head _ q kc kp vc vp 1 y x h0 (by simp only [Fin.isValue]; omega)]
    open_payloads
    rw [tile_eq, prob_eq, average_eq]
    pointwise [headOut, attend, top, scoreAt, score, keep, gap, dist, lane]
    rfl
  · rw [blockOut_head _ q kc kp vc vp 0 y x h0 (by simp only [Fin.isValue]; omega)]
    open_payloads
    rw [tile_eq, prob_eq, average_eq]
    pointwise [headOut, attend, top, scoreAt, score, keep, gap, dist, lane]
    rfl

/-- The stored logarithms of the sums. -/
theorem logs_eq (i : grid0.Coords) (q kc kp vc vp : Vec Ideal S128x2048 .bf16) :
    out0_6 i q kc kp vc vp = blockLog (Scalar.cmpi .sgt (BitVec.ofNat 32 (i 1).val) 0#32) q kc kp := by
  funext y
  unfold_out out0_6
  canon_tiles x h
  open_payloads
  rw [tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq]
  have e : x = y := by
    blk_ext
    all_goals first | exact h0.symm | exact h1.symm | omega
  subst e
  refine Eq.trans ?_ (pack_lanes (fun h => logSum (scoreAt (Scalar.cmpi .sgt (BitVec.ofNat 32 (i 1).val) 0#32) q kc kp h (x 0))) (x 1).val (x 1).isLt)
  pointwise
  refine congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ rfl)))))))))))))))
  all_goals
    refine congrArg logSum (funext fun j => ?_)
    pointwise [scoreAt, score, keep, gap, dist, lane]
    rfl

end Cert.AttnD1
end
-- ==== Proof.AttnArrayD1.lean ====
/- The arrays of the attention with dilation 1, token by token. -/
module

public import proofs.«01_k».proof.Proof.AttnBlockD1
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnD1

open Cert.Kernel19Ideal Cert.Kernel19Ideal.Gen
open Cert.Attend

/-- The entry of the token at place `i` of block `b` of residue `r`, in a lane of this group's heads. -/
def tok (a : FVec Ideal S4096x6144 .bf16) (r : Fin 1) (b : Fin 32) (i : Fin 128) (l : Fin 2048) : EReal :=
  a (ix2 ⟨128 * b.val + i.val, by have := r.isLt; have := b.isLt; have := i.isLt; omega⟩ ⟨l.val, by have := l.isLt; omega⟩)

/-- The block before, the first for the first. -/
def before (b : Fin 32) : Fin 32 := ⟨b.val - 1, by have := b.isLt; omega⟩

/-- Whether there is a block before. -/
def past (b : Fin 32) : BitVec 1 := Scalar.cmpi .sgt (BitVec.ofNat 32 b.val) 0#32

/-- The rows of a block. -/
def block (a : FVec Ideal S4096x6144 .bf16) (r : Fin 1) (b : Fin 32) : Vec Ideal S128x2048 .bf16 := fun y => tok a r b (y 0) (y 1)

/-- The residue of a lane of the result. -/
def resOf (l : Fin 2048) : Fin 1 := 0

/-- The lane of a lane of the result among its residue's. -/
def colOf (l : Fin 2048) : Fin 2048 := l

/-- The block of a row of the result. -/
def blockOf (p : Fin 4096) : Fin 32 := ⟨p.val / 128, by have := p.isLt; omega⟩

/-- The place of a row of the result in its block. -/
def within (p : Fin 4096) : Fin 128 := ⟨p.val % 128, by omega⟩

/-- The residue of a lane of the logarithms. -/
def resOfLog (l : Fin 128) : Fin 1 := 0

/-- The lane of a lane of the logarithms among its residue's. -/
def logOf (l : Fin 128) : Fin 128 := l

/-- The attention, every token of a residue in one row after another and the residues side by side. -/
def whole (q k v : FVec Ideal S4096x6144 .bf16) : FVec Ideal S4096x2048 .f32 := fun x =>
  blockOut (past (blockOf (x 0))) (block q (resOf (x 1)) (blockOf (x 0))) (block k (resOf (x 1)) (blockOf (x 0))) (block k (resOf (x 1)) (before (blockOf (x 0))))
    (block v (resOf (x 1)) (blockOf (x 0))) (block v (resOf (x 1)) (before (blockOf (x 0))))
    (ix2 (within (x 0)) (colOf (x 1)))

/-- The logarithms of the sums, laid out likewise. -/
def wholeLog (q k : FVec Ideal S4096x6144 .bf16) : FVec Ideal S4096x128 .f32 := fun x =>
  blockLog (past (blockOf (x 0))) (block q (resOfLog (x 1)) (blockOf (x 0))) (block k (resOfLog (x 1)) (blockOf (x 0))) (block k (resOfLog (x 1)) (before (blockOf (x 0))))
    (ix2 (within (x 0)) (logOf (x 1)))

/-- A place of the result read in its block. -/
theorem whole_at (q k v : FVec Ideal S4096x6144 .bf16) (x : S4096x2048.Idx) (r : Fin 1) (b : Fin 32) (y : S128x2048.Idx)
    (h0 : (x 0).val = 128 * b.val + (y 0).val) (h1 : (x 1).val = 2048 * r.val + (y 1).val) :
    whole q k v x = blockOut (past b) (block q r b) (block k r b) (block k r (before b)) (block v r b) (block v r (before b)) y := by
  have l0 : (y 0).val < 128 := (y 0).isLt
  have l1 : (y 1).val < 2048 := (y 1).isLt
  have hb : blockOf (x 0) = b := Fin.ext (by simp only [blockOf]; omega)
  have hr : resOf (x 1) = r := Subsingleton.elim _ _
  have hy : (ix2 (within (x 0)) (colOf (x 1)) : S128x2048.Idx) = y := by
    blk_ext
    all_goals simp only [within, colOf]; omega
  unfold whole
  rw [hb, hr, hy]

/-- A place of the logarithms read in its block. -/
theorem wholeLog_at (q k : FVec Ideal S4096x6144 .bf16) (x : S4096x128.Idx) (r : Fin 1) (b : Fin 32) (y : S128x128.Idx)
    (h0 : (x 0).val = 128 * b.val + (y 0).val) (h1 : (x 1).val = 128 * r.val + (y 1).val) :
    wholeLog q k x = blockLog (past b) (block q r b) (block k r b) (block k r (before b)) y := by
  have l0 : (y 0).val < 128 := (y 0).isLt
  have l1 : (y 1).val < 128 := (y 1).isLt
  have hb : blockOf (x 0) = b := Fin.ext (by simp only [blockOf]; omega)
  have hr : resOfLog (x 1) = r := Subsingleton.elim _ _
  have hy : (ix2 (within (x 0)) (logOf (x 1)) : S128x128.Idx) = y := by
    blk_ext
    all_goals simp only [within, logOf]; omega
  unfold wholeLog
  rw [hb, hr, hy]

variable (m : (ℓ : Loc nD τ sig) → Buf (Elt Ideal) ℓ)

/-- The block of every window at every grid point. -/
theorem idx : ∀ t : Fin cfg0.N, win0_0.index t = ![(grid0.coords t 1).val, (grid0.coords t 0).val] ∧ win0_1.index t = ![(grid0.coords t 1).val, (grid0.coords t 0).val]
    ∧ win0_2.index t = ![(grid0.coords t 1).val - 1, (grid0.coords t 0).val] ∧ win0_3.index t = ![(grid0.coords t 1).val, (grid0.coords t 0).val]
    ∧ win0_4.index t = ![(grid0.coords t 1).val - 1, (grid0.coords t 0).val] ∧ win0_5.index t = ![(grid0.coords t 1).val, (grid0.coords t 0).val]
    ∧ win0_6.index t = ![(grid0.coords t 1).val, (grid0.coords t 0).val] :=
  (by decide +kernel : ∀ t : Fin grid0.N, _)

/-- The residue of a grid point. -/
abbrev res (t : Fin cfg0.N) : Fin 1 := ⟨(grid0.coords t 0).val, (grid0.coords t 0).isLt⟩

/-- The block of a grid point. -/
abbrev num (t : Fin cfg0.N) : Fin 32 := ⟨(grid0.coords t 1).val, (grid0.coords t 1).isLt⟩

/-- Window 0's block at a grid point. -/
theorem block_q (c : Dev nD) (t : Fin cfg0.N) : iblk m c 0 t = block (m ((c : Thread nD τ).loc main_arg0)) (res t) (num t) := by
  have hr : (grid0.coords t 0).val < 1 := (grid0.coords t 0).isLt
  have hb : (grid0.coords t 1).val < 32 := (grid0.coords t 1).isLt
  funext y
  have h0 : (y 0).val < 128 := (y 0).isLt
  have h1 : (y 1).val < 2048 := (y 1).isLt
  rw [← V_main_arg0 m c]
  unfold block tok
  blk_point [iblk, idx t]
  all_goals omega

/-- Window 1's block at a grid point. -/
theorem block_k (c : Dev nD) (t : Fin cfg0.N) : iblk m c 1 t = block (m ((c : Thread nD τ).loc main_arg1)) (res t) (num t) := by
  have hr : (grid0.coords t 0).val < 1 := (grid0.coords t 0).isLt
  have hb : (grid0.coords t 1).val < 32 := (grid0.coords t 1).isLt
  funext y
  have h0 : (y 0).val < 128 := (y 0).isLt
  have h1 : (y 1).val < 2048 := (y 1).isLt
  rw [← V_main_arg1 m c]
  unfold block tok
  blk_point [iblk, idx t]
  all_goals omega

/-- Window 2's block at a grid point. -/
theorem block_k_before (c : Dev nD) (t : Fin cfg0.N) : iblk m c 2 t = block (m ((c : Thread nD τ).loc main_arg1)) (res t) (before (num t)) := by
  have hr : (grid0.coords t 0).val < 1 := (grid0.coords t 0).isLt
  have hb : (grid0.coords t 1).val < 32 := (grid0.coords t 1).isLt
  funext y
  have h0 : (y 0).val < 128 := (y 0).isLt
  have h1 : (y 1).val < 2048 := (y 1).isLt
  rw [← V_main_arg1 m c]
  unfold block tok before
  blk_point [iblk, idx t]
  all_goals omega

/-- Window 3's block at a grid point. -/
theorem block_v (c : Dev nD) (t : Fin cfg0.N) : iblk m c 3 t = block (m ((c : Thread nD τ).loc main_arg2)) (res t) (num t) := by
  have hr : (grid0.coords t 0).val < 1 := (grid0.coords t 0).isLt
  have hb : (grid0.coords t 1).val < 32 := (grid0.coords t 1).isLt
  funext y
  have h0 : (y 0).val < 128 := (y 0).isLt
  have h1 : (y 1).val < 2048 := (y 1).isLt
  rw [← V_main_arg2 m c]
  unfold block tok
  blk_point [iblk, idx t]
  all_goals omega

/-- Window 4's block at a grid point. -/
theorem block_v_before (c : Dev nD) (t : Fin cfg0.N) : iblk m c 4 t = block (m ((c : Thread nD τ).loc main_arg2)) (res t) (before (num t)) := by
  have hr : (grid0.coords t 0).val < 1 := (grid0.coords t 0).isLt
  have hb : (grid0.coords t 1).val < 32 := (grid0.coords t 1).isLt
  funext y
  have h0 : (y 0).val < 128 := (y 0).isLt
  have h1 : (y 1).val < 2048 := (y 1).isLt
  rw [← V_main_arg2 m c]
  unfold block tok before
  blk_point [iblk, idx t]
  all_goals omega

/-- After the run the first result holds the attention. -/
theorem final_out (c : Dev nD) : (dats m 0 c).arrAt 5 cfg0.N = whole (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, out_eq, block_q, block_k, block_k_before, block_v, block_v_before]
  have hr : (grid0.coords t 0).val < 1 := (grid0.coords t 0).isLt
  have hb : (grid0.coords t 1).val < 32 := (grid0.coords t 1).isLt
  have h0 : (y 0).val < 128 := (y 0).isLt
  have h1 : (y 1).val < 2048 := (y 1).isLt
  refine (whole_at _ _ _ (ix2 ⟨128 * (grid0.coords t 1).val + (y 0).val, by omega⟩ ⟨2048 * (grid0.coords t 0).val + (y 1).val, by omega⟩ : S4096x2048.Idx) (res t) (num t) y rfl rfl).symm.trans ?_
  congr 1
  blk_point [idx t]
  all_goals omega

/-- After the run the second result holds the logarithms of the sums. -/
theorem final_log (c : Dev nD) : (dats m 0 c).arrAt 6 cfg0.N = wholeLog (m ((c : Thread nD τ).loc main_arg0)) (m ((c : Thread nD τ).loc main_arg1)) := by
  refine (dats m 0 c).arrAt_eq_of_covers 6 _ (by decide +kernel) fun t hf y => ?_
  blk_simp
  rw [after0_6, logs_eq, block_q, block_k, block_k_before]
  have hr : (grid0.coords t 0).val < 1 := (grid0.coords t 0).isLt
  have hb : (grid0.coords t 1).val < 32 := (grid0.coords t 1).isLt
  have h0 : (y 0).val < 128 := (y 0).isLt
  have h1 : (y 1).val < 128 := (y 1).isLt
  refine (wholeLog_at _ _ (ix2 ⟨128 * (grid0.coords t 1).val + (y 0).val, by omega⟩ ⟨128 * (grid0.coords t 0).val + (y 1).val, by omega⟩ : S4096x128.Idx) (res t) (num t) y rfl rfl).symm.trans ?_
  congr 1
  blk_point [idx t]
  all_goals omega

end Cert.AttnD1
end
-- ==== Proof.AttnReferenceD1.lean ====
/- What the reference of the attention with dilation 1 computes. -/
module

public import proofs.«01_k».proof.Proof.Gen.Reference19Ideal.Run
public import proofs.«01_k».proof.Proof.AttnArrayD1
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnD1Reference

open Cert.Reference19Ideal Cert.Reference19Ideal.Gen
open Cert.Attend
open Cert.AttnD1 (tok before resOf colOf logOf blockOf within resOfLog)

/-- The rows of the block before and of a block, the rows before the first block zero. -/
def band (a : FVec Ideal S4096x6144 .bf16) (r : Fin 1) (b : Fin 32) (j : Fin 256) (l : Fin 2048) : EReal :=
  pick (fun p => if b.val = 0 then 0 else tok a r (before b) p l) (fun p => tok a r b p l) j

/-- Whether the query at place `i` of block `b` attends to the key at place `j`. -/
def refKeep (b : Fin 32) (i : Fin 128) (j : Fin 256) : BitVec 1 :=
  IntOp.andi (IntOp.andi (IntOp.cmpi .sge (gap i j) 0#32) (IntOp.cmpi .sle (gap i j) 128#32))
    (IntOp.cmpi .sge (IntOp.addi (IntOp.subi (IntOp.muli (BitVec.ofNat 32 b.val) 128#32) 128#32) (BitVec.ofNat 32 j.val)) 0#32)

/-- The distance in tokens. -/
def refDist (i : Fin 128) (j : Fin 256) : EReal := FloatOps.sitofp (F := Ideal) .f32 (IntOp.muli (gap i j) 1#32)

/-- The slopes as one array. -/
def slopeArr : FVec Ideal S16 .f32 := fun i => headSlope (i 0)

/-- The queries by residue, block and head. -/
def queryArr (a : FVec Ideal S4096x6144 .bf16) : FVec Ideal S1x32x128x16x128 .bf16 := fun i => tok a (i 0) (i 1) (i 2) (lane (i 3) (i 4))

/-- The rows of the block before and of a block, by head. -/
def bandArr (a : FVec Ideal S4096x6144 .bf16) : FVec Ideal S1x32x256x16x128 .bf16 := fun i => band a (i 0) (i 1) (i 2) (lane (i 3) (i 4))

/-- The mask of every query. -/
def maskArr : IVec S1x32x16x128x256 1 := fun i => refKeep (i 1) (i 3) (i 4)

/-- The masked scores of every query. -/
def scoreArr (M : IVec S1x32x16x128x256 1) (Q : FVec Ideal S1x32x128x16x128 .bf16) (K : FVec Ideal S1x32x256x16x128 .bf16) : FVec Ideal S1x32x16x128x256 .f32 := fun i =>
  Scalar.select (M i) (∑ x, Q (ix5 (i 0) (i 1) (i 3) (i 2) x) * K (ix5 (i 0) (i 1) (i 4) (i 2) x) + -headSlope (i 2) * refDist (i 3) (i 4)) (Ideal.ofBits .f32 0xFF800000#32)

/-- The exponentials of the scores less the largest. -/
def weightArr (S : FVec Ideal S1x32x16x128x256 .f32) : FVec Ideal S1x32x16x128x256 .f32 := fun i => Ideal.exp (S i - top fun x => S (ix5 0 (i 1) (i 2) (i 3) x))

/-- The largest scores with the logarithms of the sums. -/
def lseArr (S P : FVec Ideal S1x32x16x128x256 .f32) : FVec Ideal S1x32x16x128x1 .f32 := fun i =>
  (top fun x => S (ix5 0 (i 1) (i 2) (i 3) x)) + Ideal.log (∑ x, P (ix5 0 (i 1) (i 2) (i 3) x))

/-- The slopes, as the reference writes them. -/
theorem slopes_eq : (fun i => FloatOps.ofBits .f32 (lit0 (S16.rowMajor i)) : FVec Ideal S16 .f32) = slopeArr := by
  funext i
  have h : ∀ k : Fin 16, lit0 (S16.rowMajor (ix1 k)) = (![0x3F3504F3#32, 0x3F000000#32, 0x3EB504F3#32, 0x3E800000#32, 0x3E3504F3#32, 0x3E000000#32, 0x3DB504F3#32, 0x3D800000#32, 0x3D3504F3#32, 0x3D000000#32, 0x3CB504F3#32, 0x3C800000#32, 0x3C3504F3#32, 0x3C000000#32, 0x3BB504F3#32, 0x3B800000#32] : Fin 16 → BitVec 32) k := by decide +kernel
  have e : i = ix1 (n0 := 16) (i 0) := by
    funext k
    rw [Subsingleton.elim k 0]
    rfl
  rw [e]
  exact congrArg (Ideal.ofBits .f32) (h (i 0))

/-- The padding is zero. -/
theorem pad_zero : FloatOps.sitofp (F := Ideal) .bf16 0#32 = 0 := by
  show (((0#32 : BitVec 32).toInt : ℝ) : EReal) = 0
  simp

/-- The queries by residue, block and head, as the reference writes them. -/
theorem queries_eq (a : FVec Ideal S4096x6144 .bf16) :
    (shapeCast _ (pad S1x4096x16x128 ![0, 0, 0, 0] ![0, 0, 0, 0] ![0, 0, 0, 0] (shapeCast _ (transpose S1x1x4096x16x128 [0, 2, 1, 3, 4] (shapeCast _ (shapeCast _ (extractStridedSlice S1x4096x1x16x128 ![0, 0, 0, 0, 0] (shapeCast _ a shapeCasts_S4096x6144_S1x4096x3x16x128) slices_S1x4096x3x16x128_S1x4096x1x16x128_0_0_0_0_0) shapeCasts_S1x4096x1x16x128_S1x4096x16x128) shapeCasts_S1x4096x16x128_S1x4096x1x16x128) transposes_S1x4096x1x16x128_S1x1x4096x16x128_0_2_1_3_4) shapeCasts_S1x1x4096x16x128_S1x4096x16x128) (sitofp .bf16 (constantI S_ 32 0#32)) pads_S1x4096x16x128_S1x4096x16x128_000_000_000_000 h_S_) shapeCasts_S1x4096x16x128_S1x32x128x16x128 : FVec Ideal S1x32x128x16x128 .bf16)
      = queryArr a := by
  funext i
  show _ = tok a (i 0) (i 1) (i 2) (lane (i 3) (i 4))
  have h1 : (i 1).val < 32 := (i 1).isLt
  have h2 : (i 2).val < 128 := (i 2).isLt
  pointwise [tok, lane]
  all_goals
    split_ifs
    all_goals first | omega | (blk_point []; all_goals omega)

/-- The rows of the block before and of a block, as the reference writes them. -/
theorem band_eq (a : FVec Ideal S4096x6144 .bf16) :
    (concatenate S1x32x256x16x128 2 [⟨S1x32x128x16x128, (shapeCast _ (extractStridedSlice S1x4096x16x128 ![0, 0, 0, 0] (pad S1x4224x16x128 ![0, 128, 0, 0] ![0, 0, 0, 0] ![0, 0, 0, 0] (shapeCast _ (transpose S1x1x4096x16x128 [0, 2, 1, 3, 4] (shapeCast _ (shapeCast _ (extractStridedSlice S1x4096x1x16x128 ![0, 0, 0, 0, 0] (shapeCast _ a shapeCasts_S4096x6144_S1x4096x3x16x128) slices_S1x4096x3x16x128_S1x4096x1x16x128_0_0_0_0_0) shapeCasts_S1x4096x1x16x128_S1x4096x16x128) shapeCasts_S1x4096x16x128_S1x4096x1x16x128) transposes_S1x4096x1x16x128_S1x1x4096x16x128_0_2_1_3_4) shapeCasts_S1x1x4096x16x128_S1x4096x16x128) (sitofp .bf16 (constantI S_ 32 0#32)) pads_S1x4096x16x128_S1x4224x16x128_000_12800_000_000 h_S_) slices_S1x4224x16x128_S1x4096x16x128_0_0_0_0) shapeCasts_S1x4096x16x128_S1x32x128x16x128)⟩, ⟨S1x32x128x16x128, (shapeCast _ (extractStridedSlice S1x4096x16x128 ![0, 128, 0, 0] (pad S1x4224x16x128 ![0, 128, 0, 0] ![0, 0, 0, 0] ![0, 0, 0, 0] (shapeCast _ (transpose S1x1x4096x16x128 [0, 2, 1, 3, 4] (shapeCast _ (shapeCast _ (extractStridedSlice S1x4096x1x16x128 ![0, 0, 0, 0, 0] (shapeCast _ a shapeCasts_S4096x6144_S1x4096x3x16x128) slices_S1x4096x3x16x128_S1x4096x1x16x128_0_0_0_0_0) shapeCasts_S1x4096x1x16x128_S1x4096x16x128) shapeCasts_S1x4096x16x128_S1x4096x1x16x128) transposes_S1x4096x1x16x128_S1x1x4096x16x128_0_2_1_3_4) shapeCasts_S1x1x4096x16x128_S1x4096x16x128) (sitofp .bf16 (constantI S_ 32 0#32)) pads_S1x4096x16x128_S1x4224x16x128_000_12800_000_000 h_S_) slices_S1x4224x16x128_S1x4096x16x128_0_128_0_0) shapeCasts_S1x4096x16x128_S1x32x128x16x128)⟩] concatenates_S1x32x128x16x128_S1x32x128x16x128_S1x32x256x16x128_d2 : FVec Ideal S1x32x256x16x128 .bf16)
      = bandArr a := by
  funext i
  show _ = band a (i 0) (i 1) (i 2) (lane (i 3) (i 4))
  have h0 : (i 0).val < 1 := (i 0).isLt
  have h1 : (i 1).val < 32 := (i 1).isLt
  have h2 : (i 2).val < 256 := (i 2).isLt
  pointwise [band, pick, before, tok, lane]
  all_goals
    split_ifs
    all_goals first | omega | exact pad_zero | (blk_point []; all_goals omega)

/-- The mask, as the reference writes it. -/
theorem mask_eq : (broadcastInDim S1x32x16x128x256 ![0, 1, 2, 3, 4] bcast_S1x32x1x128x256_S1x32x16x128x256_0_1_2_3_4 (broadcastInDim S1x32x1x128x256 ![1, 3, 4] bcast_S32x128x256_S1x32x1x128x256_1_3_4 (andi (broadcastInDim S32x128x256 ![0, 1, 2] bcast_S1x128x256_S32x128x256_0_1_2 (andi (broadcastInDim S1x128x256 ![1, 2] bcast_S128x256_S1x128x256_1_2 (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32)))) (broadcastInDim S1x128x256 ![1, 2] bcast_S128x256_S1x128x256_1_2 (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S32x128x256 ![0, 1, 2] bcast_S32x1x256_S32x128x256_0_1_2 (cmpi .sge (addi (broadcastInDim S32x1x256 ![0, 1, 2] bcast_S32x1x1_S32x1x256_0_1_2 (subi (muli (broadcastInDim S32x1x1 ![0] bcast_S32_S32x1x1_0 (iotaInDim S32 32 0)) (broadcastInDim S32x1x1 ![] bcast_S_S32x1x1 (constantI S_ 32 128#32))) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 (broadcastInDim S1x256 ![1] bcast_S256_S1x256_1 (iotaInDim S256 32 0))))) (broadcastInDim S32x1x256 ![] bcast_S_S32x1x256 (constantI S_ 32 0#32))))))) = maskArr := by
  funext i
  show _ = refKeep (i 1) (i 3) (i 4)
  pointwise [refKeep, gap]

/-- The masked scores, as the reference writes them. -/
theorem score_eq (M : IVec S1x32x16x128x256 1) (Q : FVec Ideal S1x32x128x16x128 .bf16) (K : FVec Ideal S1x32x256x16x128 .bf16) :
    select M (addf (Host.dotGeneral dot_S1x32x128x16x128_S1x32x256x16x128_S1x32x16x128x256_4_4_2_2_013_013 none Q K) (broadcastInDim S1x32x16x128x256 ![0, 1, 2, 3, 4] bcast_S1x1x16x128x256_S1x32x16x128x256_0_1_2_3_4 (broadcastInDim S1x1x16x128x256 ![2, 3, 4] bcast_S16x128x256_S1x1x16x128x256_2_3_4 (mulf (broadcastInDim S16x128x256 ![0, 1, 2] bcast_S16x1x1_S16x128x256_0_1_2 (Host.negf (broadcastInDim S16x1x1 ![0] bcast_S16_S16x1x1_0 slopeArr))) (broadcastInDim S16x128x256 ![0, 1, 2] bcast_S1x128x256_S16x128x256_0_1_2 (broadcastInDim S1x128x256 ![1, 2] bcast_S128x256_S1x128x256_1_2 (sitofp .f32 (muli (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 1#32)))))))))) (broadcastInDim S1x32x16x128x256 ![] bcast_S_S1x32x16x128x256 (id (constant S_ .f32 0xFF800000#32)))
      = scoreArr M Q K := by
  funext i
  show _ = Scalar.select (M i) (∑ x, Q (ix5 (i 0) (i 1) (i 3) (i 2) x) * K (ix5 (i 0) (i 1) (i 4) (i 2) x) + -headSlope (i 2) * refDist (i 3) (i 4)) (Ideal.ofBits .f32 0xFF800000#32)
  pointwise [refDist, gap, slopeArr]
  rfl

/-- The exponentials of the scores less the largest, as the reference writes them. -/
theorem prob_eq (S : FVec Ideal S1x32x16x128x256 .f32) :
    Host.exp (subf S (broadcastInDim S1x32x16x128x256 ![0, 1, 2, 3, 4] bcast_S1x32x16x128x1_S1x32x16x128x256_0_1_2_3_4 (broadcastInDim S1x32x16x128x1 ![0, 1, 2, 3] bcast_S1x32x16x128_S1x32x16x128x1_0_1_2_3 (Host.reduce FloatOps.maximumf S (constant S_ .f32 0xFF800000#32) reducesTo_S1x32x16x128x256_S1x32x16x128_d4 h_S_)))) = weightArr S := by
  funext i
  show _ = Ideal.exp (S i - top fun x => S (ix5 0 (i 1) (i 2) (i 3) x))
  pointwise [top]

/-- The values averaged, as the reference writes it. -/
theorem average_eq (V : FVec Ideal S1x32x256x16x128 .bf16) (P : FVec Ideal S1x32x16x128x256 .f32) :
    (shapeCast _ (shapeCast _ (transpose S1x4096x1x16x128 [0, 2, 1, 3, 4] (shapeCast _ (shapeCast _ (transpose S1x32x128x16x128 [0, 1, 4, 2, 3] (Host.dotGeneral dot_S1x32x256x16x128_S1x32x16x128x256_S1x32x16x128x128_2_4_4_3_013_012 none (extf .f32 V bitsLt_bf16_f32) (Host.divf P (broadcastInDim S1x32x16x128x256 ![0, 1, 2, 3, 4] bcast_S1x32x16x128x1_S1x32x16x128x256_0_1_2_3_4 (broadcastInDim S1x32x16x128x1 ![0, 1, 2, 3] bcast_S1x32x16x128_S1x32x16x128x1_0_1_2_3 (Host.reduceAdd P (constant S_ .f32 0x00000000#32) reducesTo_S1x32x16x128x256_S1x32x16x128_d4 h_S_))))) transposes_S1x32x16x128x128_S1x32x128x16x128_0_1_4_2_3) shapeCasts_S1x32x128x16x128_S1x4096x16x128) shapeCasts_S1x4096x16x128_S1x1x4096x16x128) transposes_S1x1x4096x16x128_S1x4096x1x16x128_0_2_1_3_4) shapeCasts_S1x4096x1x16x128_S1x4096x16x128) shapeCasts_S1x4096x16x128_S4096x2048 : FVec Ideal S4096x2048 .f32) = fun i => ∑ j, V (ix5 (resOf (i 1)) (blockOf (i 0)) j (headOf (colOf (i 1))) (placeOf (colOf (i 1))))
      * Ideal.div (P (ix5 (resOf (i 1)) (blockOf (i 0)) (headOf (colOf (i 1))) (within (i 0)) j)) (∑ x, P (ix5 (resOf (i 1)) (blockOf (i 0)) (headOf (colOf (i 1))) (within (i 0)) x)) := by
  funext i
  pointwise [resOf, colOf, blockOf, headOf, placeOf, within]

/-- The largest scores, as the reference writes them. -/
theorem max_eq (S : FVec Ideal S1x32x16x128x256 .f32) :
    broadcastInDim S1x32x16x128x1 ![0, 1, 2, 3] bcast_S1x32x16x128_S1x32x16x128x1_0_1_2_3 (Host.reduce FloatOps.maximumf S (constant S_ .f32 0xFF800000#32) reducesTo_S1x32x16x128x256_S1x32x16x128_d4 h_S_) = fun i => top fun x => S (ix5 0 (i 1) (i 2) (i 3) x) := by
  funext i
  pointwise [top]

/-- The sums, as the reference writes them. -/
theorem sum_eq (P : FVec Ideal S1x32x16x128x256 .f32) :
    broadcastInDim S1x32x16x128x1 ![0, 1, 2, 3] bcast_S1x32x16x128_S1x32x16x128x1_0_1_2_3 (Host.reduceAdd P (constant S_ .f32 0x00000000#32) reducesTo_S1x32x16x128x256_S1x32x16x128_d4 h_S_) = fun i => ∑ x, P (ix5 0 (i 1) (i 2) (i 3) x) := by
  funext i
  pointwise

/-- The largest scores with the logarithms of the sums, as the reference writes them. -/
theorem lse_eq (S P : FVec Ideal S1x32x16x128x256 .f32) :
    addf (broadcastInDim S1x32x16x128x1 ![0, 1, 2, 3] bcast_S1x32x16x128_S1x32x16x128x1_0_1_2_3 (Host.reduce FloatOps.maximumf S (constant S_ .f32 0xFF800000#32) reducesTo_S1x32x16x128x256_S1x32x16x128_d4 h_S_)) (Host.log (broadcastInDim S1x32x16x128x1 ![0, 1, 2, 3] bcast_S1x32x16x128_S1x32x16x128x1_0_1_2_3 (Host.reduceAdd P (constant S_ .f32 0x00000000#32) reducesTo_S1x32x16x128x256_S1x32x16x128_d4 h_S_))) = lseArr S P := by
  rw [max_eq, sum_eq]
  rfl

/-- The padding of the logarithms is zero. -/
theorem pad_log_zero : FloatOps.sitofp (F := Ideal) .f32 0#32 = 0 := by
  show (((0#32 : BitVec 32).toInt : ℝ) : EReal) = 0
  simp

/-- The logarithms by token and head, padded to a whole tile. -/
theorem logs_eq (Z : FVec Ideal S1x32x16x128x1 .f32) :
    (pad S4096x128 ![0, 0] ![0, 112] ![0, 0] (shapeCast _ (shapeCast _ (transpose S1x4096x1x16 [0, 2, 1, 3] (shapeCast _ (shapeCast _ (transpose S1x32x128x16 [0, 1, 3, 2] (shapeCast _ Z shapeCasts_S1x32x16x128x1_S1x32x16x128) transposes_S1x32x16x128_S1x32x128x16_0_1_3_2) shapeCasts_S1x32x128x16_S1x4096x16) shapeCasts_S1x4096x16_S1x1x4096x16) transposes_S1x1x4096x16_S1x4096x1x16_0_2_1_3) shapeCasts_S1x4096x1x16_S1x4096x16) shapeCasts_S1x4096x16_S4096x16) (sitofp .f32 (constantI S_ 32 0#32)) pads_S4096x16_S4096x128_000_01120 h_S_ : FVec Ideal S4096x128 .f32) = fun i => if h : (logOf (i 1)).val < 16 then
        Z (ix5 (resOfLog (i 1)) (blockOf (i 0)) ⟨(logOf (i 1)).val, h⟩ (within (i 0)) 0) else 0 := by
  funext i
  have h0 : (i 0).val < 4096 := (i 0).isLt
  have h1 : (i 1).val < 128 := (i 1).isLt
  pointwise [resOfLog, logOf, blockOf, within]
  all_goals
    split_ifs
    all_goals first | omega | rfl | exact pad_log_zero | (blk_point []; all_goals omega)

/-- The reference's scores. -/
def scores (q k : FVec Ideal S4096x6144 .bf16) (r : Fin 1) (b : Fin 32) (h : Fin 16) (i : Fin 128) (j : Fin 256) : EReal :=
  Scalar.select (refKeep b i j) (∑ x, tok q r b i (lane h x) * band k r b j (lane h x) + -headSlope h * refDist i j) (Ideal.ofBits .f32 0xFF800000#32)

/-- The attention the reference computes. -/
def outRef (q k v : FVec Ideal S4096x6144 .bf16) : FVec Ideal S4096x2048 .f32 := fun i =>
  ∑ j, band v (resOf (i 1)) (blockOf (i 0)) j (lane (headOf (colOf (i 1))) (placeOf (colOf (i 1))))
    * Ideal.div (Ideal.exp (scores q k (resOf (i 1)) (blockOf (i 0)) (headOf (colOf (i 1))) (within (i 0)) j - top (scores q k (resOf (i 1)) (blockOf (i 0)) (headOf (colOf (i 1))) (within (i 0)))))
        (∑ x, Ideal.exp (scores q k (resOf (i 1)) (blockOf (i 0)) (headOf (colOf (i 1))) (within (i 0)) x - top (scores q k (resOf (i 1)) (blockOf (i 0)) (headOf (colOf (i 1))) (within (i 0)))))

/-- The logarithms of the sums the reference computes. -/
def logRef (q k : FVec Ideal S4096x6144 .bf16) : FVec Ideal S4096x128 .f32 := fun i =>
  if h : (logOf (i 1)).val < 16 then logSum (scores q k (resOfLog (i 1)) (blockOf (i 0)) ⟨(logOf (i 1)).val, h⟩ (within (i 0))) else 0

variable (m : (ℓ : Loc nD τ sig) → Buf (Elt Ideal) ℓ)

/-- The reference's first result. -/
theorem out_eq (c : Dev nD) : Cert.Reference19Ideal.Value.res_main_v104 m c = outRef (m ((c.tc : Thread nD τ).loc main_arg0)) (m ((c.tc : Thread nD τ).loc main_arg1)) (m ((c.tc : Thread nD τ).loc main_arg2)) := by
  unfold Cert.Reference19Ideal.Value.res_main_v104
  rw [slopes_eq, queries_eq, band_eq, band_eq, mask_eq, score_eq, prob_eq]
  exact (average_eq _ _).trans rfl

/-- The reference's second result. -/
theorem log_eq (c : Dev nD) : Cert.Reference19Ideal.Value.res_main_v103 m c = logRef (m ((c.tc : Thread nD τ).loc main_arg0)) (m ((c.tc : Thread nD τ).loc main_arg1)) := by
  unfold Cert.Reference19Ideal.Value.res_main_v103
  rw [slopes_eq, queries_eq, band_eq, mask_eq, score_eq, prob_eq, lse_eq]
  exact (logs_eq _).trans rfl

end Cert.AttnD1Reference
end
-- ==== Proof.AttendReal.lean ====
/- Dividing the weights before the values are averaged, or the average afterwards: the same for real numbers. -/
module

public import proofs.«01_k».proof.Proof.Attend
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Attend

/-- A real number. -/
def Real' (x : EReal) : Prop := ∃ r : ℝ, x = (r : EReal)

/-- The word of minus infinity. -/
theorem ninf : Ideal.ofBits .f32 0xFF800000#32 = ⊥ := by
  simp [Ideal.ofBits, Ideal.ieee]

/-- If every score is a real number or minus infinity, and one is a real number, the largest is a real number. -/
theorem top_real {S : Fin 256 → EReal} (hS : ∀ j, S j = ⊥ ∨ Real' (S j)) {k : Fin 256} (hk : Real' (S k)) : Real' (top S) := by
  have h1 : top S ≠ ⊤ := by
    refine ne_of_lt ?_
    unfold top
    rw [Finset.fold_max_lt]
    refine ⟨by rw [ninf]; exact bot_lt_top, fun j _ => ?_⟩
    rcases hS j with h | ⟨r, h⟩
    · rw [h]; exact bot_lt_top
    · rw [h]; exact EReal.coe_lt_top r
  have h2 : top S ≠ ⊥ := by
    obtain ⟨r, h⟩ := hk
    refine ne_of_gt (lt_of_lt_of_le (EReal.bot_lt_coe r) ?_)
    unfold top
    rw [Finset.le_fold_max]
    exact Or.inr ⟨k, Finset.mem_univ k, le_of_eq h.symm⟩
  exact ⟨(top S).toReal, (EReal.coe_toReal h1 h2).symm⟩

/-- Each exponential is a real number not below zero, zero where the score is minus infinity. -/
theorem exp_real {S : Fin 256 → EReal} (hS : ∀ j, S j = ⊥ ∨ Real' (S j)) {k : Fin 256} (hk : Real' (S k)) :
    ∃ e : Fin 256 → ℝ, (∀ j, Ideal.exp (S j - top S) = (e j : EReal)) ∧ (∀ j, 0 ≤ e j) ∧ 0 < e k ∧ ∀ j, S j = ⊥ → e j = 0 := by
  obtain ⟨M, hM⟩ := top_real hS hk
  have h : ∀ j, ∃ e : ℝ, Ideal.exp (S j - top S) = (e : EReal) ∧ 0 ≤ e ∧ (Real' (S j) → 0 < e) ∧ (S j = ⊥ → e = 0) := by
    intro j
    rcases hS j with h | ⟨r, h⟩
    · refine ⟨0, ?_, le_refl _, ?_, fun _ => rfl⟩
      · rw [h, EReal.bot_sub, Ideal.exp_bot]; rfl
      · rintro ⟨r, hr⟩
        rw [h] at hr
        exact absurd hr.symm (EReal.coe_ne_bot r)
    · refine ⟨Real.exp (r - M), ?_, (Real.exp_pos _).le, fun _ => Real.exp_pos _, fun hb => ?_⟩
      · rw [h, hM, ← EReal.coe_sub, Ideal.exp_coe]
      · rw [h] at hb
        exact absurd hb (EReal.coe_ne_bot r)
  choose e he using h
  exact ⟨e, fun j => (he j).1, fun j => (he j).2.1, (he k).2.2.1 hk, fun j => (he j).2.2.2⟩

/-- A sum of real numbers is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The values averaged with weights divided beforehand; the values of masked keys do not count. -/
theorem attend_eq {S V V' : Fin 256 → EReal} (hS : ∀ j, S j = ⊥ ∨ Real' (S j)) {k : Fin 256} (hk : Real' (S k))
    (hV : ∀ j, Real' (V j)) (hV' : ∀ j, V' j = V j ∨ (S j = ⊥ ∧ V' j = 0)) :
    ∑ j, V' j * Ideal.div (Ideal.exp (S j - top S)) (∑ j, Ideal.exp (S j - top S)) = attend S V := by
  obtain ⟨e, he, h0, hpos, hz⟩ := exp_real hS hk
  choose v hv using hV
  have hL : ∑ j, Ideal.exp (S j - top S) = ((∑ j, e j : ℝ) : EReal) := by
    rw [coe_sum]
    exact Finset.sum_congr rfl fun j _ => he j
  have hne : (∑ j, e j : ℝ) ≠ 0 := ne_of_gt (lt_of_lt_of_le hpos (Finset.single_le_sum (f := e) (fun j _ => h0 j) (Finset.mem_univ k)))
  have hN : ∑ j, Ideal.exp (S j - top S) * V j = ((∑ j, e j * v j : ℝ) : EReal) := by
    rw [coe_sum]
    exact Finset.sum_congr rfl fun j _ => by rw [he j, hv j, EReal.coe_mul]
  unfold attend
  rw [hL, hN, Ideal.div_coe hne, ← EReal.coe_mul, Finset.sum_mul]
  refine Eq.trans ?_ (coe_sum _ _).symm
  refine Finset.sum_congr rfl fun j _ => ?_
  rw [Ideal.div_coe hne, he j, ← EReal.coe_mul]
  rcases hV' j with h | ⟨h, h'⟩
  · rw [h, hv j, ← EReal.coe_mul]
    congr 1
    ring
  · rw [h', hz j h]
    simp

/-- A sum of two real numbers is real. -/
theorem Real'.add {x y : EReal} (hx : Real' x) (hy : Real' y) : Real' (x + y) := by
  obtain ⟨a, rfl⟩ := hx
  obtain ⟨b, rfl⟩ := hy
  exact ⟨a + b, by norm_cast⟩

/-- A difference of real numbers is real. -/
theorem Real'.sub {x y : EReal} (hx : Real' x) (hy : Real' y) : Real' (x - y) := by
  obtain ⟨a, rfl⟩ := hx
  obtain ⟨b, rfl⟩ := hy
  exact ⟨a - b, by norm_cast⟩

/-- A product of real numbers is real. -/
theorem Real'.mul {x y : EReal} (hx : Real' x) (hy : Real' y) : Real' (x * y) := by
  obtain ⟨a, rfl⟩ := hx
  obtain ⟨b, rfl⟩ := hy
  exact ⟨a * b, by norm_cast⟩

/-- A finite sum of real numbers is real. -/
theorem Real'.sum {f : Fin 128 → EReal} (h : ∀ i, Real' (f i)) : Real' (∑ i, f i) := by
  choose r hr using h
  exact ⟨∑ i, r i, by rw [coe_sum]; exact Finset.sum_congr rfl fun i _ => hr i⟩

/-- A float word whose exponent is not all ones is a real number. -/
theorem ofBits_real (w : BitVec 32) (h : (w.extractLsb' 23 8).toNat ≠ 2 ^ 8 - 1) : Real' (Ideal.ofBits .f32 w) := by
  show Real' (Ideal.ieee 8 23 w)
  unfold Ideal.ieee
  simp only []
  rw [if_neg h]
  split <;> exact ⟨_, rfl⟩

/-- The slopes are real numbers. -/
theorem headSlope_real (h : Fin 16) : Real' (headSlope h) :=
  ofBits_real _ ((by decide +kernel : ∀ h : Fin 16, (((![0x3F3504F3#32, 0x3F000000#32, 0x3EB504F3#32, 0x3E800000#32, 0x3E3504F3#32, 0x3E000000#32, 0x3DB504F3#32, 0x3D800000#32, 0x3D3504F3#32, 0x3D000000#32, 0x3CB504F3#32, 0x3C800000#32, 0x3C3504F3#32, 0x3C000000#32, 0x3BB504F3#32, 0x3B800000#32] : Fin 16 → BitVec 32) h).extractLsb' 23 8).toNat ≠ 2 ^ 8 - 1) h)

/-- The kernel's score is minus infinity or a real number. -/
theorem score_real {past : BitVec 1} {slope dist : EReal} {q k : Fin 128 → EReal} {i : Fin 128} {j : Fin 256}
    (hw : Real' slope) (hd : Real' dist) (hq : ∀ x, Real' (q x)) (hk : ∀ x, Real' (k x)) :
    score past slope dist q k i j = ⊥ ∨ Real' (score past slope dist q k i j) := by
  unfold score
  rcases (by decide +kernel : ∀ c : BitVec 1, c = 0#1 ∨ c = 1#1) (keep past i j) with h | h
  · rw [h]
    exact Or.inl ninf
  · rw [h]
    exact Or.inr ((Real'.sum fun x => (hq x).mul (hk x)).sub (hw.mul hd))

/-- The score of a kept key is a real number. -/
theorem score_kept {past : BitVec 1} {slope dist : EReal} {q k : Fin 128 → EReal} {i : Fin 128} {j : Fin 256} (h : keep past i j = 1#1)
    (hw : Real' slope) (hd : Real' dist) (hq : ∀ x, Real' (q x)) (hk : ∀ x, Real' (k x)) : Real' (score past slope dist q k i j) := by
  unfold score
  rw [h]
  exact (Real'.sum fun x => (hq x).mul (hk x)).sub (hw.mul hd)

/-- The score of a masked key is minus infinity. -/
theorem score_masked {past : BitVec 1} {slope dist : EReal} {q k : Fin 128 → EReal} {i : Fin 128} {j : Fin 256} (h : keep past i j = 0#1) :
    score past slope dist q k i j = ⊥ := by
  unfold score
  rw [h]
  exact ninf

/-- A distance in the window is a real number. -/
theorem sitofp_real (x : BitVec 32) : Real' (FloatOps.sitofp (F := Ideal) .f32 x) := ⟨_, rfl⟩

end Cert.Attend
end
-- ==== Proof.AttnEqualD1.lean ====
/- With dilation 1 the kernel and the reference compute the same attention. -/
module

public import proofs.«01_k».proof.Proof.AttnReferenceD1
public import proofs.«01_k».proof.Proof.AttendReal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnD1Equal

open Cert.Kernel19Ideal Cert.Kernel19Ideal.Gen
open Cert.Attend Cert.AttnD1 Cert.AttnD1Reference

/-- The masks agree. -/
theorem keep_eq (b : Fin 32) (i : Fin 128) (j : Fin 256) : refKeep b i j = keep (past b) i j := by
  have h : IntOp.cmpi .sge (IntOp.addi (IntOp.subi (IntOp.muli (BitVec.ofNat 32 b.val) 128#32) 128#32) (BitVec.ofNat 32 j.val)) 0#32
      = IntOp.ori (IntOp.cmpi .sge (BitVec.ofNat 32 j.val) 128#32) (past b) :=
    (by decide +kernel : ∀ (b : Fin 32) (j : Fin 256),
      IntOp.cmpi .sge (IntOp.addi (IntOp.subi (IntOp.muli (BitVec.ofNat 32 b.val) 128#32) 128#32) (BitVec.ofNat 32 j.val)) 0#32
        = IntOp.ori (IntOp.cmpi .sge (BitVec.ofNat 32 j.val) 128#32) (past b)) b j
  unfold refKeep keep
  rw [h]

/-- Before the first block every key is masked. -/
theorem first_masked (b : Fin 32) (i : Fin 128) (j : Fin 256) (hb : b.val = 0) (hj : j.val < 128) : keep (past b) i j = 0#1 := by
  have h : IntOp.ori (IntOp.cmpi .sge (BitVec.ofNat 32 j.val) 128#32) (past b) = 0#1 :=
    (by decide +kernel : ∀ (b : Fin 32) (j : Fin 256), b.val = 0 → j.val < 128 →
      IntOp.ori (IntOp.cmpi .sge (BitVec.ofNat 32 j.val) 128#32) (past b) = 0#1) b j hb hj
  unfold keep
  rw [h]
  exact BitVec.and_zero

/-- A query attends to its own key. -/
theorem own_kept (b : Fin 32) (i : Fin 128) : keep (past b) i ⟨i.val + 128, by have := i.isLt; omega⟩ = 1#1 :=
  (by decide +kernel : ∀ (b : Fin 32) (i : Fin 128), keep (past b) i ⟨i.val + 128, by have := i.isLt; omega⟩ = 1#1) b i

/-- The distances agree. -/
theorem dist_eq (i : Fin 128) (j : Fin 256) : refDist i j = dist i j := by
  have h : ∀ x : BitVec 32, IntOp.muli x 1#32 = x := fun x => BitVec.mul_one x
  unfold refDist AttnD1.dist
  rw [h]

/-- The distance is a real number. -/
theorem dist_real (i : Fin 128) (j : Fin 256) : Real' (dist i j) := sitofp_real _

/-- Where there is a block before, the reference's rows are the kernel's two blocks. -/
theorem band_pick (a : FVec Ideal S4096x6144 .bf16) (r : Fin 1) (b : Fin 32) (j : Fin 256) (l : Fin 2048) (h : ¬(b.val = 0 ∧ j.val < 128)) :
    band a r b j l = pick (fun p => tok a r (before b) p l) (fun p => tok a r b p l) j := by
  unfold band pick
  by_cases hj : j.val < 128
  · rw [dif_pos hj, dif_pos hj]
    exact if_neg fun hb => h ⟨hb, hj⟩
  · rw [dif_neg hj, dif_neg hj]

/-- The scores agree. -/
theorem scores_eq (q k : FVec Ideal S4096x6144 .bf16) (r : Fin 1) (b : Fin 32) (h : Fin 16) (i : Fin 128) :
    scores q k r b h i = scoreAt (past b) (block q r b) (block k r b) (block k r (before b)) h i := by
  funext j
  unfold scores scoreAt score
  rw [keep_eq, dist_eq]
  by_cases hm : b.val = 0 ∧ j.val < 128
  · rw [first_masked b i j hm.1 hm.2]
    rfl
  · congr 1
    rw [sub_eq_add_neg, EReal.neg_mul]
    congr 1
    refine Finset.sum_congr rfl fun x _ => congrArg (tok q r b i (lane h x) * ·) ?_
    rw [band_pick k r b j (lane h x) hm]
    unfold pick
    by_cases hj : j.val < 128
    · rw [dif_pos hj, dif_pos hj]; rfl
    · rw [dif_neg hj, dif_neg hj]; rfl

/-- The logarithms of the sums agree. -/
theorem log_eq (q k : FVec Ideal S4096x6144 .bf16) : wholeLog q k = logRef q k := by
  funext x
  show _ = if h : (logOf (x 1)).val < 16 then logSum (scores q k (resOfLog (x 1)) (blockOf (x 0)) ⟨(logOf (x 1)).val, h⟩ (within (x 0))) else 0
  simp only [scores_eq]
  rfl

/-- A row of two blocks of real numbers is real. -/
theorem pick_real {p c : Fin 128 → EReal} (hp : ∀ i, Real' (p i)) (hc : ∀ i, Real' (c i)) (j : Fin 256) : Real' (pick p c j) := by
  unfold pick
  split
  · exact hp _
  · exact hc _

/-- For real arguments the attention agrees. -/
theorem out_eq (q k v : FVec Ideal S4096x6144 .bf16) (hq : ∀ i, Real' (q i)) (hk : ∀ i, Real' (k i)) (hv : ∀ i, Real' (v i)) :
    whole q k v = outRef q k v := by
  funext x
  refine Eq.symm ?_
  have key : ∀ (r : Fin 1) (b : Fin 32) (h : Fin 16) (p i : Fin 128),
      ∑ j, band v r b j (lane h p) * Ideal.div (Ideal.exp (scores q k r b h i j - top (scores q k r b h i))) (∑ x, Ideal.exp (scores q k r b h i x - top (scores q k r b h i)))
        = attend (scoreAt (past b) (block q r b) (block k r b) (block k r (before b)) h i) (pick (fun a => tok v r (before b) a (lane h p)) (fun a => tok v r b a (lane h p))) := by
    intro r b h p i
    rw [scores_eq]
    have hkr : ∀ j x, Real' (pick (fun a x => block k r (before b) (ix2 a (lane h x))) (fun a x => block k r b (ix2 a (lane h x))) j x) := by
      intro j x
      unfold pick
      split
      · exact hk _
      · exact hk _
    refine attend_eq (k := ⟨i.val + 128, by have := i.isLt; omega⟩) (fun j => ?_) ?_ (fun j => ?_) (fun j => ?_)
    · exact score_real (headSlope_real h) (dist_real i j) (fun x => hq _) (hkr j)
    · exact score_kept (own_kept b i) (headSlope_real h) (dist_real i _) (fun x => hq _) (hkr _)
    · exact pick_real (fun a => hv _) (fun a => hv _) j
    · by_cases hm : b.val = 0 ∧ j.val < 128
      · refine Or.inr ⟨score_masked (first_masked b i j hm.1 hm.2), ?_⟩
        unfold band pick
        rw [dif_pos hm.2]
        exact if_pos hm.1
      · exact Or.inl (band_pick v r b j (lane h p) hm)
  exact key _ _ _ _ _

end Cert.AttnD1Equal
end
-- ==== Proof.AttnBlockD4.lean ====
/- What one block of the attention with dilation 4 computes. -/
module

public import proofs.«01_k».proof.Proof.Gen.Kernel20Ideal.Value
public import proofs.«01_k».proof.Proof.Attend
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnD4

open Cert.Kernel20Ideal Cert.Kernel20Ideal.Gen
open Cert.Attend

/-- The distance in tokens. -/
def dist (i : Fin 128) (j : Fin 256) : EReal := FloatOps.sitofp (F := Ideal) .f32 (gap i j) * Ideal.ofBits .f32 0x40800000#32

/-- The scores of head `h` in a block: queries `q`, current keys `kc`, previous keys `kp`. -/
def scoreAt (past : BitVec 1) (q kc kp : Vec Ideal S128x2048 .bf16) (h : Fin 16) (i : Fin 128) : Fin 256 → EReal := fun j =>
  score past (headSlope h) (dist i j) (fun x => q (ix2 i (lane h x))) (pick (fun a x => kp (ix2 a (lane h x))) (fun a x => kc (ix2 a (lane h x))) j) i j

/-- The attention of head `h` in a block. -/
def headOut (past : BitVec 1) (q kc kp vc vp : Vec Ideal S128x2048 .bf16) (h : Fin 16) (x : S128x128.Idx) : EReal :=
  attend (scoreAt past q kc kp h (x 0)) (pick (fun a => vp (ix2 a (lane h (x 1)))) (fun a => vc (ix2 a (lane h (x 1)))))

/-- The attention of a block, all heads side by side. -/
def blockOut (past : BitVec 1) (q kc kp vc vp : Vec Ideal S128x2048 .bf16) : Vec Ideal S128x2048 .f32 :=
  fun y => headOut past q kc kp vc vp (headOf (y 1)) (ix2 (y 0) (placeOf (y 1)))

/-- A lane of head `h` holds that head's attention. -/
theorem blockOut_head (past : BitVec 1) (q kc kp vc vp : Vec Ideal S128x2048 .bf16) (h : Fin 16) (y : S128x2048.Idx) (x : S128x128.Idx)
    (h0 : (y 0).val = (x 0).val) (h1 : (y 1).val = 128 * h.val + (x 1).val) :
    blockOut past q kc kp vc vp y = headOut past q kc kp vc vp h x := by
  have hx : (x 1).val < 128 := (x 1).isLt
  have e1 : headOf (y 1) = h := Fin.ext (by simp only [headOf]; omega)
  have e2 : (ix2 (y 0) (placeOf (y 1)) : S128x128.Idx) = x := by
    blk_ext
    all_goals first | exact h0 | (simp only [placeOf]; omega)
  unfold blockOut
  rw [e1, e2]

/-- The logarithms of the sums of a block: head `h` in lane `h`, zero in the other lanes. -/
def blockLog (past : BitVec 1) (q kc kp : Vec Ideal S128x2048 .bf16) : Vec Ideal S128x128 .f32 :=
  fun y => if h : (y 1).val < 16 then logSum (scoreAt past q kc kp ⟨(y 1).val, h⟩ (y 0)) else 0

/-- Masked scores, as the kernel writes them. -/
theorem tile_eq (M : IVec S128x256 1) (D : FVec Ideal S128x256 .f32) (w : BitVec 32) (q kp kc : FVec Ideal S128x128 .bf16) :
    select M (subf (matmul dot_S128x128_S256x128_S128x256_1_1_0_0_n_n none q (concatenate S256x128 0 [⟨S128x128, kp⟩, ⟨S128x128, kc⟩] concatenates_S128x128_S128x128_S256x128_d0) (constant S128x256 .f32 0x00000000#32)) (mulf (broadcast S128x256 (Scalar.ofBits .f32 w)) D)) (broadcast S128x256 (Scalar.ofBits .f32 0xFF800000#32))
      = fun j => Scalar.select (M j) (∑ x, q (ix2 (j 0) x) * pick (fun a x => kp (ix2 a x)) (fun a x => kc (ix2 a x)) (j 1) x - Ideal.ofBits .f32 w * D j) (Ideal.ofBits .f32 0xFF800000#32) := by
  funext j
  pointwise [pick]
  congr 2
  refine Finset.sum_congr rfl fun x _ => ?_
  split <;> rfl

/-- The exponentials of the scores less the row's largest, as the kernel writes them. -/
theorem prob_eq (S : FVec Ideal S128x256 .f32) :
    exp (subf S (broadcastTo S128x256 (shapeCast S128x1 (multiReduction .maximumf [1] S128 S 0xFF800000#32 reduces_S128x256_S128 (.inl rfl) rfl) shapeCasts_S128_S128x1) broadcasts_S128x1_S128x256))
      = fun j => Ideal.exp (S j - top fun x => S (ix2 (j 0) x)) := by
  funext j
  pointwise [top]

/-- The largest score of each row, as the kernel writes it. -/
theorem top_eq (S : FVec Ideal S128x256 .f32) :
    shapeCast S128x1 (multiReduction .maximumf [1] S128 S 0xFF800000#32 reduces_S128x256_S128 (.inl rfl) rfl) shapeCasts_S128_S128x1
      = fun j => top fun x => S (ix2 (j 0) x) := by
  funext j
  pointwise [top]

/-- A head's weighted average, as the kernel writes it. -/
theorem average_eq (P : FVec Ideal S128x256 .f32) (vp vc : FVec Ideal S128x128 .bf16) (x : S128x128.Idx) :
    divf (matmul dot_S128x256_S256x128_S128x128_1_0_0_1_n_n none (truncf .bf16 P bitsLt_bf16_f32) (concatenate S256x128 0 [⟨S128x128, vp⟩, ⟨S128x128, vc⟩] concatenates_S128x128_S128x128_S256x128_d0) (constant S128x128 .f32 0x00000000#32))
      (broadcastTo S128x128 (shapeCast S128x1 (multiReduction .add [1] S128 P 0x00000000#32 reduces_S128x256_S128 (.inl rfl) rfl) shapeCasts_S128_S128x1) broadcasts_S128x1_S128x128) x
      = Ideal.div (∑ j, P (ix2 (x 0) j) * pick (fun a => vp (ix2 a (x 1))) (fun a => vc (ix2 a (x 1))) j) (∑ j, P (ix2 (x 0) j)) := by
  pointwise [pick]

/-- A head's logarithm of the sum, as the kernel writes it. -/
theorem log_eq (S : FVec Ideal S128x256 .f32) :
    addf (shapeCast S128x1 (multiReduction .maximumf [1] S128 S 0xFF800000#32 reduces_S128x256_S128 (.inl rfl) rfl) shapeCasts_S128_S128x1)
      (log (shapeCast S128x1 (multiReduction .add [1] S128 (exp (subf S (broadcastTo S128x256 (shapeCast S128x1 (multiReduction .maximumf [1] S128 S 0xFF800000#32 reduces_S128x256_S128 (.inl rfl) rfl) shapeCasts_S128_S128x1) broadcasts_S128x1_S128x256))) 0x00000000#32 reduces_S128x256_S128 (.inl rfl) rfl) shapeCasts_S128_S128x1))
      = fun j => logSum fun x => S (ix2 (j 0) x) := by
  rw [prob_eq, top_eq]
  funext j
  pointwise [logSum, top]

/-- The stored attention block. -/
theorem out_eq (i : grid0.Coords) (q kc kp vc vp : Vec Ideal S128x2048 .bf16) :
    out0_5 i q kc kp vc vp = blockOut (Scalar.cmpi .sgt (BitVec.ofNat 32 (i 1).val) 0#32) q kc kp vc vp := by
  funext y
  unfold_out out0_5
  canon_tiles x h
  · rw [blockOut_head _ q kc kp vc vp 15 y x h0 (by simp only [Fin.isValue]; omega)]
    open_payloads
    rw [tile_eq, prob_eq, average_eq]
    pointwise [headOut, attend, top, scoreAt, score, keep, gap, dist, lane]
    rfl
  · rw [blockOut_head _ q kc kp vc vp 14 y x h0 (by simp only [Fin.isValue]; omega)]
    open_payloads
    rw [tile_eq, prob_eq, average_eq]
    pointwise [headOut, attend, top, scoreAt, score, keep, gap, dist, lane]
    rfl
  · rw [blockOut_head _ q kc kp vc vp 13 y x h0 (by simp only [Fin.isValue]; omega)]
    open_payloads
    rw [tile_eq, prob_eq, average_eq]
    pointwise [headOut, attend, top, scoreAt, score, keep, gap, dist, lane]
    rfl
  · rw [blockOut_head _ q kc kp vc vp 12 y x h0 (by simp only [Fin.isValue]; omega)]
    open_payloads
    rw [tile_eq, prob_eq, average_eq]
    pointwise [headOut, attend, top, scoreAt, score, keep, gap, dist, lane]
    rfl
  · rw [blockOut_head _ q kc kp vc vp 11 y x h0 (by simp only [Fin.isValue]; omega)]
    open_payloads
    rw [tile_eq, prob_eq, average_eq]
    pointwise [headOut, attend, top, scoreAt, score, keep, gap, dist, lane]
    rfl
  · rw [blockOut_head _ q kc kp vc vp 10 y x h0 (by simp only [Fin.isValue]; omega)]
    open_payloads
    rw [tile_eq, prob_eq, average_eq]
    pointwise [headOut, attend, top, scoreAt, score, keep, gap, dist, lane]
    rfl
  · rw [blockOut_head _ q kc kp vc vp 9 y x h0 (by simp only [Fin.isValue]; omega)]
    open_payloads
    rw [tile_eq, prob_eq, average_eq]
    pointwise [headOut, attend, top, scoreAt, score, keep, gap, dist, lane]
    rfl
  · rw [blockOut_head _ q kc kp vc vp 8 y x h0 (by simp only [Fin.isValue]; omega)]
    open_payloads
    rw [tile_eq, prob_eq, average_eq]
    pointwise [headOut, attend, top, scoreAt, score, keep, gap, dist, lane]
    rfl
  · rw [blockOut_head _ q kc kp vc vp 7 y x h0 (by simp only [Fin.isValue]; omega)]
    open_payloads
    rw [tile_eq, prob_eq, average_eq]
    pointwise [headOut, attend, top, scoreAt, score, keep, gap, dist, lane]
    rfl
  · rw [blockOut_head _ q kc kp vc vp 6 y x h0 (by simp only [Fin.isValue]; omega)]
    open_payloads
    rw [tile_eq, prob_eq, average_eq]
    pointwise [headOut, attend, top, scoreAt, score, keep, gap, dist, lane]
    rfl
  · rw [blockOut_head _ q kc kp vc vp 5 y x h0 (by simp only [Fin.isValue]; omega)]
    open_payloads
    rw [tile_eq, prob_eq, average_eq]
    pointwise [headOut, attend, top, scoreAt, score, keep, gap, dist, lane]
    rfl
  · rw [blockOut_head _ q kc kp vc vp 4 y x h0 (by simp only [Fin.isValue]; omega)]
    open_payloads
    rw [tile_eq, prob_eq, average_eq]
    pointwise [headOut, attend, top, scoreAt, score, keep, gap, dist, lane]
    rfl
  · rw [blockOut_head _ q kc kp vc vp 3 y x h0 (by simp only [Fin.isValue]; omega)]
    open_payloads
    rw [tile_eq, prob_eq, average_eq]
    pointwise [headOut, attend, top, scoreAt, score, keep, gap, dist, lane]
    rfl
  · rw [blockOut_head _ q kc kp vc vp 2 y x h0 (by simp only [Fin.isValue]; omega)]
    open_payloads
    rw [tile_eq, prob_eq, average_eq]
    pointwise [headOut, attend, top, scoreAt, score, keep, gap, dist, lane]
    rfl
  · rw [blockOut_head _ q kc kp vc vp 1 y x h0 (by simp only [Fin.isValue]; omega)]
    open_payloads
    rw [tile_eq, prob_eq, average_eq]
    pointwise [headOut, attend, top, scoreAt, score, keep, gap, dist, lane]
    rfl
  · rw [blockOut_head _ q kc kp vc vp 0 y x h0 (by simp only [Fin.isValue]; omega)]
    open_payloads
    rw [tile_eq, prob_eq, average_eq]
    pointwise [headOut, attend, top, scoreAt, score, keep, gap, dist, lane]
    rfl

/-- The stored logarithms of the sums. -/
theorem logs_eq (i : grid0.Coords) (q kc kp vc vp : Vec Ideal S128x2048 .bf16) :
    out0_6 i q kc kp vc vp = blockLog (Scalar.cmpi .sgt (BitVec.ofNat 32 (i 1).val) 0#32) q kc kp := by
  funext y
  unfold_out out0_6
  canon_tiles x h
  open_payloads
  rw [tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq]
  have e : x = y := by
    blk_ext
    all_goals first | exact h0.symm | exact h1.symm | omega
  subst e
  refine Eq.trans ?_ (pack_lanes (fun h => logSum (scoreAt (Scalar.cmpi .sgt (BitVec.ofNat 32 (i 1).val) 0#32) q kc kp h (x 0))) (x 1).val (x 1).isLt)
  pointwise
  refine congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ rfl)))))))))))))))
  all_goals
    refine congrArg logSum (funext fun j => ?_)
    pointwise [scoreAt, score, keep, gap, dist, lane]
    rfl

end Cert.AttnD4
end
-- ==== Proof.AttnArrayD4.lean ====
/- The arrays of the attention with dilation 4, token by token. -/
module

public import proofs.«01_k».proof.Proof.AttnBlockD4
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnD4

open Cert.Kernel20Ideal Cert.Kernel20Ideal.Gen
open Cert.Attend

/-- The entry of the token at place `i` of block `b` of residue `r`, in a lane of this group's heads. -/
def tok (a : FVec Ideal S4096x6144 .bf16) (r : Fin 4) (b : Fin 8) (i : Fin 128) (l : Fin 2048) : EReal :=
  a (ix2 ⟨(128 * b.val + i.val) * 4 + r.val, by have := r.isLt; have := b.isLt; have := i.isLt; omega⟩ ⟨2048 + l.val, by have := l.isLt; omega⟩)

/-- The block before, the first for the first. -/
def before (b : Fin 8) : Fin 8 := ⟨b.val - 1, by have := b.isLt; omega⟩

/-- Whether there is a block before. -/
def past (b : Fin 8) : BitVec 1 := Scalar.cmpi .sgt (BitVec.ofNat 32 b.val) 0#32

/-- The rows of a block. -/
def block (a : FVec Ideal S4096x6144 .bf16) (r : Fin 4) (b : Fin 8) : Vec Ideal S128x2048 .bf16 := fun y => tok a r b (y 0) (y 1)

/-- The residue of a lane of the result. -/
def resOf (l : Fin 8192) : Fin 4 := ⟨l.val / 2048, by have := l.isLt; omega⟩

/-- The lane of a lane of the result among its residue's. -/
def colOf (l : Fin 8192) : Fin 2048 := ⟨l.val % 2048, by omega⟩

/-- The block of a row of the result. -/
def blockOf (p : Fin 1024) : Fin 8 := ⟨p.val / 128, by have := p.isLt; omega⟩

/-- The place of a row of the result in its block. -/
def within (p : Fin 1024) : Fin 128 := ⟨p.val % 128, by omega⟩

/-- The residue of a lane of the logarithms. -/
def resOfLog (l : Fin 512) : Fin 4 := ⟨l.val / 128, by have := l.isLt; omega⟩

/-- The lane of a lane of the logarithms among its residue's. -/
def logOf (l : Fin 512) : Fin 128 := ⟨l.val % 128, by omega⟩

/-- The attention, every token of a residue in one row after another and the residues side by side. -/
def whole (q k v : FVec Ideal S4096x6144 .bf16) : FVec Ideal S1024x8192 .f32 := fun x =>
  blockOut (past (blockOf (x 0))) (block q (resOf (x 1)) (blockOf (x 0))) (block k (resOf (x 1)) (blockOf (x 0))) (block k (resOf (x 1)) (before (blockOf (x 0))))
    (block v (resOf (x 1)) (blockOf (x 0))) (block v (resOf (x 1)) (before (blockOf (x 0))))
    (ix2 (within (x 0)) (colOf (x 1)))

/-- The logarithms of the sums, laid out likewise. -/
def wholeLog (q k : FVec Ideal S4096x6144 .bf16) : FVec Ideal S1024x512 .f32 := fun x =>
  blockLog (past (blockOf (x 0))) (block q (resOfLog (x 1)) (blockOf (x 0))) (block k (resOfLog (x 1)) (blockOf (x 0))) (block k (resOfLog (x 1)) (before (blockOf (x 0))))
    (ix2 (within (x 0)) (logOf (x 1)))

/-- A place of the result read in its block. -/
theorem whole_at (q k v : FVec Ideal S4096x6144 .bf16) (x : S1024x8192.Idx) (r : Fin 4) (b : Fin 8) (y : S128x2048.Idx)
    (h0 : (x 0).val = 128 * b.val + (y 0).val) (h1 : (x 1).val = 2048 * r.val + (y 1).val) :
    whole q k v x = blockOut (past b) (block q r b) (block k r b) (block k r (before b)) (block v r b) (block v r (before b)) y := by
  have l0 : (y 0).val < 128 := (y 0).isLt
  have l1 : (y 1).val < 2048 := (y 1).isLt
  have hb : blockOf (x 0) = b := Fin.ext (by simp only [blockOf]; omega)
  have hr : resOf (x 1) = r := Fin.ext (by simp only [resOf]; omega)
  have hy : (ix2 (within (x 0)) (colOf (x 1)) : S128x2048.Idx) = y := by
    blk_ext
    all_goals simp only [within, colOf]; omega
  unfold whole
  rw [hb, hr, hy]

/-- A place of the logarithms read in its block. -/
theorem wholeLog_at (q k : FVec Ideal S4096x6144 .bf16) (x : S1024x512.Idx) (r : Fin 4) (b : Fin 8) (y : S128x128.Idx)
    (h0 : (x 0).val = 128 * b.val + (y 0).val) (h1 : (x 1).val = 128 * r.val + (y 1).val) :
    wholeLog q k x = blockLog (past b) (block q r b) (block k r b) (block k r (before b)) y := by
  have l0 : (y 0).val < 128 := (y 0).isLt
  have l1 : (y 1).val < 128 := (y 1).isLt
  have hb : blockOf (x 0) = b := Fin.ext (by simp only [blockOf]; omega)
  have hr : resOfLog (x 1) = r := Fin.ext (by simp only [resOfLog]; omega)
  have hy : (ix2 (within (x 0)) (logOf (x 1)) : S128x128.Idx) = y := by
    blk_ext
    all_goals simp only [within, logOf]; omega
  unfold wholeLog
  rw [hb, hr, hy]

variable (m : (ℓ : Loc nD τ sig) → Buf (Elt Ideal) ℓ)

/-- An argument's lanes of this group, the residues side by side. -/
def view (a : FVec Ideal S4096x6144 .bf16) : FVec Ideal S1024x8192 .bf16 :=
  fun x => a (ix2 ⟨(x 0).val * 4 + (x 1).val / 2048, by have : (x 0).val < 1024 := (x 0).isLt; have : (x 1).val < 8192 := (x 1).isLt; omega⟩ ⟨2048 + (x 1).val % 2048, by omega⟩)

/-- The array `q` the call is given. -/
theorem entry_q (c : Dev nD) : V m c main_v1 = view (m ((c : Thread nD τ).loc main_arg0)) := by
  funext i
  simp only [V, hostOps0, List.flatten_cons, List.flatten_nil, List.append_nil, List.cons_append, List.nil_append]
  entry_read
  pointwise [view]
  try rfl

/-- The array `k` the call is given. -/
theorem entry_k (c : Dev nD) : V m c main_v3 = view (m ((c : Thread nD τ).loc main_arg1)) := by
  funext i
  simp only [V, hostOps0, List.flatten_cons, List.flatten_nil, List.append_nil, List.cons_append, List.nil_append]
  entry_read
  pointwise [view]
  try rfl

/-- The array `v` the call is given. -/
theorem entry_v (c : Dev nD) : V m c main_v5 = view (m ((c : Thread nD τ).loc main_arg2)) := by
  funext i
  simp only [V, hostOps0, List.flatten_cons, List.flatten_nil, List.append_nil, List.cons_append, List.nil_append]
  entry_read
  pointwise [view]
  try rfl

/-- The block of every window at every grid point. -/
theorem idx : ∀ t : Fin cfg0.N, win0_0.index t = ![(grid0.coords t 1).val, (grid0.coords t 0).val] ∧ win0_1.index t = ![(grid0.coords t 1).val, (grid0.coords t 0).val]
    ∧ win0_2.index t = ![(grid0.coords t 1).val - 1, (grid0.coords t 0).val] ∧ win0_3.index t = ![(grid0.coords t 1).val, (grid0.coords t 0).val]
    ∧ win0_4.index t = ![(grid0.coords t 1).val - 1, (grid0.coords t 0).val] ∧ win0_5.index t = ![(grid0.coords t 1).val, (grid0.coords t 0).val]
    ∧ win0_6.index t = ![(grid0.coords t 1).val, (grid0.coords t 0).val] :=
  (by decide +kernel : ∀ t : Fin grid0.N, _)

/-- The residue of a grid point. -/
abbrev res (t : Fin cfg0.N) : Fin 4 := ⟨(grid0.coords t 0).val, (grid0.coords t 0).isLt⟩

/-- The block of a grid point. -/
abbrev num (t : Fin cfg0.N) : Fin 8 := ⟨(grid0.coords t 1).val, (grid0.coords t 1).isLt⟩

/-- Window 0's block at a grid point. -/
theorem block_q (c : Dev nD) (t : Fin cfg0.N) : iblk m c 0 t = block (m ((c : Thread nD τ).loc main_arg0)) (res t) (num t) := by
  have hr : (grid0.coords t 0).val < 4 := (grid0.coords t 0).isLt
  have hb : (grid0.coords t 1).val < 8 := (grid0.coords t 1).isLt
  funext y
  have h0 : (y 0).val < 128 := (y 0).isLt
  have h1 : (y 1).val < 2048 := (y 1).isLt
  refine Eq.trans (b := view (m ((c : Thread nD τ).loc main_arg0)) (ix2 ⟨128 * (num t).val + (y 0).val, by simp only [before]; omega⟩ ⟨2048 * (grid0.coords t 0).val + (y 1).val, by omega⟩)) ?_ ?_
  · rw [← entry_q]
    blk_point [iblk, idx t]
    all_goals omega
  · unfold view block tok
    blk_point []
    all_goals omega

/-- Window 1's block at a grid point. -/
theorem block_k (c : Dev nD) (t : Fin cfg0.N) : iblk m c 1 t = block (m ((c : Thread nD τ).loc main_arg1)) (res t) (num t) := by
  have hr : (grid0.coords t 0).val < 4 := (grid0.coords t 0).isLt
  have hb : (grid0.coords t 1).val < 8 := (grid0.coords t 1).isLt
  funext y
  have h0 : (y 0).val < 128 := (y 0).isLt
  have h1 : (y 1).val < 2048 := (y 1).isLt
  refine Eq.trans (b := view (m ((c : Thread nD τ).loc main_arg1)) (ix2 ⟨128 * (num t).val + (y 0).val, by simp only [before]; omega⟩ ⟨2048 * (grid0.coords t 0).val + (y 1).val, by omega⟩)) ?_ ?_
  · rw [← entry_k]
    blk_point [iblk, idx t]
    all_goals omega
  · unfold view block tok
    blk_point []
    all_goals omega

/-- Window 2's block at a grid point. -/
theorem block_k_before (c : Dev nD) (t : Fin cfg0.N) : iblk m c 2 t = block (m ((c : Thread nD τ).loc main_arg1)) (res t) (before (num t)) := by
  have hr : (grid0.coords t 0).val < 4 := (grid0.coords t 0).isLt
  have hb : (grid0.coords t 1).val < 8 := (grid0.coords t 1).isLt
  funext y
  have h0 : (y 0).val < 128 := (y 0).isLt
  have h1 : (y 1).val < 2048 := (y 1).isLt
  refine Eq.trans (b := view (m ((c : Thread nD τ).loc main_arg1)) (ix2 ⟨128 * (before (num t)).val + (y 0).val, by simp only [before]; omega⟩ ⟨2048 * (grid0.coords t 0).val + (y 1).val, by omega⟩)) ?_ ?_
  · rw [← entry_k]
    unfold before
    blk_point [iblk, idx t]
    all_goals omega
  · unfold view block tok before
    blk_point []
    all_goals omega

/-- Window 3's block at a grid point. -/
theorem block_v (c : Dev nD) (t : Fin cfg0.N) : iblk m c 3 t = block (m ((c : Thread nD τ).loc main_arg2)) (res t) (num t) := by
  have hr : (grid0.coords t 0).val < 4 := (grid0.coords t 0).isLt
  have hb : (grid0.coords t 1).val < 8 := (grid0.coords t 1).isLt
  funext y
  have h0 : (y 0).val < 128 := (y 0).isLt
  have h1 : (y 1).val < 2048 := (y 1).isLt
  refine Eq.trans (b := view (m ((c : Thread nD τ).loc main_arg2)) (ix2 ⟨128 * (num t).val + (y 0).val, by simp only [before]; omega⟩ ⟨2048 * (grid0.coords t 0).val + (y 1).val, by omega⟩)) ?_ ?_
  · rw [← entry_v]
    blk_point [iblk, idx t]
    all_goals omega
  · unfold view block tok
    blk_point []
    all_goals omega

/-- Window 4's block at a grid point. -/
theorem block_v_before (c : Dev nD) (t : Fin cfg0.N) : iblk m c 4 t = block (m ((c : Thread nD τ).loc main_arg2)) (res t) (before (num t)) := by
  have hr : (grid0.coords t 0).val < 4 := (grid0.coords t 0).isLt
  have hb : (grid0.coords t 1).val < 8 := (grid0.coords t 1).isLt
  funext y
  have h0 : (y 0).val < 128 := (y 0).isLt
  have h1 : (y 1).val < 2048 := (y 1).isLt
  refine Eq.trans (b := view (m ((c : Thread nD τ).loc main_arg2)) (ix2 ⟨128 * (before (num t)).val + (y 0).val, by simp only [before]; omega⟩ ⟨2048 * (grid0.coords t 0).val + (y 1).val, by omega⟩)) ?_ ?_
  · rw [← entry_v]
    unfold before
    blk_point [iblk, idx t]
    all_goals omega
  · unfold view block tok before
    blk_point []
    all_goals omega

/-- After the run the first result holds the attention. -/
theorem final_out (c : Dev nD) : (dats m 0 c).arrAt 5 cfg0.N = whole (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, out_eq, block_q, block_k, block_k_before, block_v, block_v_before]
  have hr : (grid0.coords t 0).val < 4 := (grid0.coords t 0).isLt
  have hb : (grid0.coords t 1).val < 8 := (grid0.coords t 1).isLt
  have h0 : (y 0).val < 128 := (y 0).isLt
  have h1 : (y 1).val < 2048 := (y 1).isLt
  refine (whole_at _ _ _ (ix2 ⟨128 * (grid0.coords t 1).val + (y 0).val, by omega⟩ ⟨2048 * (grid0.coords t 0).val + (y 1).val, by omega⟩ : S1024x8192.Idx) (res t) (num t) y rfl rfl).symm.trans ?_
  congr 1
  blk_point [idx t]
  all_goals omega

/-- After the run the second result holds the logarithms of the sums. -/
theorem final_log (c : Dev nD) : (dats m 0 c).arrAt 6 cfg0.N = wholeLog (m ((c : Thread nD τ).loc main_arg0)) (m ((c : Thread nD τ).loc main_arg1)) := by
  refine (dats m 0 c).arrAt_eq_of_covers 6 _ (by decide +kernel) fun t hf y => ?_
  blk_simp
  rw [after0_6, logs_eq, block_q, block_k, block_k_before]
  have hr : (grid0.coords t 0).val < 4 := (grid0.coords t 0).isLt
  have hb : (grid0.coords t 1).val < 8 := (grid0.coords t 1).isLt
  have h0 : (y 0).val < 128 := (y 0).isLt
  have h1 : (y 1).val < 128 := (y 1).isLt
  refine (wholeLog_at _ _ (ix2 ⟨128 * (grid0.coords t 1).val + (y 0).val, by omega⟩ ⟨128 * (grid0.coords t 0).val + (y 1).val, by omega⟩ : S1024x512.Idx) (res t) (num t) y rfl rfl).symm.trans ?_
  congr 1
  blk_point [idx t]
  all_goals omega

end Cert.AttnD4
end
-- ==== Proof.AttnReferenceD4.lean ====
/- What the reference of the attention with dilation 4 computes. -/
module

public import proofs.«01_k».proof.Proof.Gen.Reference20Ideal.Run
public import proofs.«01_k».proof.Proof.AttnArrayD4
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnD4Reference

open Cert.Reference20Ideal Cert.Reference20Ideal.Gen
open Cert.Attend
open Cert.AttnD4 (tok before resOf colOf logOf blockOf within resOfLog)

/-- The rows of the block before and of a block, the rows before the first block zero. -/
def band (a : FVec Ideal S4096x6144 .bf16) (r : Fin 4) (b : Fin 8) (j : Fin 256) (l : Fin 2048) : EReal :=
  pick (fun p => if b.val = 0 then 0 else tok a r (before b) p l) (fun p => tok a r b p l) j

/-- Whether the query at place `i` of block `b` attends to the key at place `j`. -/
def refKeep (b : Fin 8) (i : Fin 128) (j : Fin 256) : BitVec 1 :=
  IntOp.andi (IntOp.andi (IntOp.cmpi .sge (gap i j) 0#32) (IntOp.cmpi .sle (gap i j) 128#32))
    (IntOp.cmpi .sge (IntOp.addi (IntOp.subi (IntOp.muli (BitVec.ofNat 32 b.val) 128#32) 128#32) (BitVec.ofNat 32 j.val)) 0#32)

/-- The distance in tokens. -/
def refDist (i : Fin 128) (j : Fin 256) : EReal := FloatOps.sitofp (F := Ideal) .f32 (IntOp.muli (gap i j) 4#32)

/-- The slopes as one array. -/
def slopeArr : FVec Ideal S16 .f32 := fun i => headSlope (i 0)

/-- The queries by residue, block and head. -/
def queryArr (a : FVec Ideal S4096x6144 .bf16) : FVec Ideal S4x8x128x16x128 .bf16 := fun i => tok a (i 0) (i 1) (i 2) (lane (i 3) (i 4))

/-- The rows of the block before and of a block, by head. -/
def bandArr (a : FVec Ideal S4096x6144 .bf16) : FVec Ideal S4x8x256x16x128 .bf16 := fun i => band a (i 0) (i 1) (i 2) (lane (i 3) (i 4))

/-- The mask of every query. -/
def maskArr : IVec S4x8x16x128x256 1 := fun i => refKeep (i 1) (i 3) (i 4)

/-- The masked scores of every query. -/
def scoreArr (M : IVec S4x8x16x128x256 1) (Q : FVec Ideal S4x8x128x16x128 .bf16) (K : FVec Ideal S4x8x256x16x128 .bf16) : FVec Ideal S4x8x16x128x256 .f32 := fun i =>
  Scalar.select (M i) (∑ x, Q (ix5 (i 0) (i 1) (i 3) (i 2) x) * K (ix5 (i 0) (i 1) (i 4) (i 2) x) + -headSlope (i 2) * refDist (i 3) (i 4)) (Ideal.ofBits .f32 0xFF800000#32)

/-- The exponentials of the scores less the largest. -/
def weightArr (S : FVec Ideal S4x8x16x128x256 .f32) : FVec Ideal S4x8x16x128x256 .f32 := fun i => Ideal.exp (S i - top fun x => S (ix5 (i 0) (i 1) (i 2) (i 3) x))

/-- The largest scores with the logarithms of the sums. -/
def lseArr (S P : FVec Ideal S4x8x16x128x256 .f32) : FVec Ideal S4x8x16x128x1 .f32 := fun i =>
  (top fun x => S (ix5 (i 0) (i 1) (i 2) (i 3) x)) + Ideal.log (∑ x, P (ix5 (i 0) (i 1) (i 2) (i 3) x))

/-- The slopes, as the reference writes them. -/
theorem slopes_eq : (fun i => FloatOps.ofBits .f32 (lit0 (S16.rowMajor i)) : FVec Ideal S16 .f32) = slopeArr := by
  funext i
  have h : ∀ k : Fin 16, lit0 (S16.rowMajor (ix1 k)) = (![0x3F3504F3#32, 0x3F000000#32, 0x3EB504F3#32, 0x3E800000#32, 0x3E3504F3#32, 0x3E000000#32, 0x3DB504F3#32, 0x3D800000#32, 0x3D3504F3#32, 0x3D000000#32, 0x3CB504F3#32, 0x3C800000#32, 0x3C3504F3#32, 0x3C000000#32, 0x3BB504F3#32, 0x3B800000#32] : Fin 16 → BitVec 32) k := by decide +kernel
  have e : i = ix1 (n0 := 16) (i 0) := by
    funext k
    rw [Subsingleton.elim k 0]
    rfl
  rw [e]
  exact congrArg (Ideal.ofBits .f32) (h (i 0))

/-- The padding is zero. -/
theorem pad_zero : FloatOps.sitofp (F := Ideal) .bf16 0#32 = 0 := by
  show (((0#32 : BitVec 32).toInt : ℝ) : EReal) = 0
  simp

/-- The queries by residue, block and head, as the reference writes them. -/
theorem queries_eq (a : FVec Ideal S4096x6144 .bf16) :
    (shapeCast _ (pad S4x1024x16x128 ![0, 0, 0, 0] ![0, 0, 0, 0] ![0, 0, 0, 0] (shapeCast _ (transpose S1x4x1024x16x128 [0, 2, 1, 3, 4] (shapeCast _ (shapeCast _ (extractStridedSlice S1x4096x1x16x128 ![0, 0, 1, 0, 0] (shapeCast _ a shapeCasts_S4096x6144_S1x4096x3x16x128) slices_S1x4096x3x16x128_S1x4096x1x16x128_0_0_1_0_0) shapeCasts_S1x4096x1x16x128_S1x4096x16x128) shapeCasts_S1x4096x16x128_S1x1024x4x16x128) transposes_S1x1024x4x16x128_S1x4x1024x16x128_0_2_1_3_4) shapeCasts_S1x4x1024x16x128_S4x1024x16x128) (sitofp .bf16 (constantI S_ 32 0#32)) pads_S4x1024x16x128_S4x1024x16x128_000_000_000_000 h_S_) shapeCasts_S4x1024x16x128_S4x8x128x16x128 : FVec Ideal S4x8x128x16x128 .bf16)
      = queryArr a := by
  funext i
  show _ = tok a (i 0) (i 1) (i 2) (lane (i 3) (i 4))
  have h1 : (i 1).val < 8 := (i 1).isLt
  have h2 : (i 2).val < 128 := (i 2).isLt
  pointwise [tok, lane]
  all_goals
    split_ifs
    all_goals first | omega | (blk_point []; all_goals omega)

/-- The rows of the block before and of a block, as the reference writes them. -/
theorem band_eq (a : FVec Ideal S4096x6144 .bf16) :
    (concatenate S4x8x256x16x128 2 [⟨S4x8x128x16x128, (shapeCast _ (extractStridedSlice S4x1024x16x128 ![0, 0, 0, 0] (pad S4x1152x16x128 ![0, 128, 0, 0] ![0, 0, 0, 0] ![0, 0, 0, 0] (shapeCast _ (transpose S1x4x1024x16x128 [0, 2, 1, 3, 4] (shapeCast _ (shapeCast _ (extractStridedSlice S1x4096x1x16x128 ![0, 0, 1, 0, 0] (shapeCast _ a shapeCasts_S4096x6144_S1x4096x3x16x128) slices_S1x4096x3x16x128_S1x4096x1x16x128_0_0_1_0_0) shapeCasts_S1x4096x1x16x128_S1x4096x16x128) shapeCasts_S1x4096x16x128_S1x1024x4x16x128) transposes_S1x1024x4x16x128_S1x4x1024x16x128_0_2_1_3_4) shapeCasts_S1x4x1024x16x128_S4x1024x16x128) (sitofp .bf16 (constantI S_ 32 0#32)) pads_S4x1024x16x128_S4x1152x16x128_000_12800_000_000 h_S_) slices_S4x1152x16x128_S4x1024x16x128_0_0_0_0) shapeCasts_S4x1024x16x128_S4x8x128x16x128)⟩, ⟨S4x8x128x16x128, (shapeCast _ (extractStridedSlice S4x1024x16x128 ![0, 128, 0, 0] (pad S4x1152x16x128 ![0, 128, 0, 0] ![0, 0, 0, 0] ![0, 0, 0, 0] (shapeCast _ (transpose S1x4x1024x16x128 [0, 2, 1, 3, 4] (shapeCast _ (shapeCast _ (extractStridedSlice S1x4096x1x16x128 ![0, 0, 1, 0, 0] (shapeCast _ a shapeCasts_S4096x6144_S1x4096x3x16x128) slices_S1x4096x3x16x128_S1x4096x1x16x128_0_0_1_0_0) shapeCasts_S1x4096x1x16x128_S1x4096x16x128) shapeCasts_S1x4096x16x128_S1x1024x4x16x128) transposes_S1x1024x4x16x128_S1x4x1024x16x128_0_2_1_3_4) shapeCasts_S1x4x1024x16x128_S4x1024x16x128) (sitofp .bf16 (constantI S_ 32 0#32)) pads_S4x1024x16x128_S4x1152x16x128_000_12800_000_000 h_S_) slices_S4x1152x16x128_S4x1024x16x128_0_128_0_0) shapeCasts_S4x1024x16x128_S4x8x128x16x128)⟩] concatenates_S4x8x128x16x128_S4x8x128x16x128_S4x8x256x16x128_d2 : FVec Ideal S4x8x256x16x128 .bf16)
      = bandArr a := by
  funext i
  show _ = band a (i 0) (i 1) (i 2) (lane (i 3) (i 4))
  have h0 : (i 0).val < 4 := (i 0).isLt
  have h1 : (i 1).val < 8 := (i 1).isLt
  have h2 : (i 2).val < 256 := (i 2).isLt
  pointwise [band, pick, before, tok, lane]
  all_goals
    split_ifs
    all_goals first | omega | exact pad_zero | (blk_point []; all_goals omega)

/-- The mask, as the reference writes it. -/
theorem mask_eq : (broadcastInDim S4x8x16x128x256 ![0, 1, 2, 3, 4] bcast_S1x8x1x128x256_S4x8x16x128x256_0_1_2_3_4 (broadcastInDim S1x8x1x128x256 ![1, 3, 4] bcast_S8x128x256_S1x8x1x128x256_1_3_4 (andi (broadcastInDim S8x128x256 ![0, 1, 2] bcast_S1x128x256_S8x128x256_0_1_2 (andi (broadcastInDim S1x128x256 ![1, 2] bcast_S128x256_S1x128x256_1_2 (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32)))) (broadcastInDim S1x128x256 ![1, 2] bcast_S128x256_S1x128x256_1_2 (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S8x128x256 ![0, 1, 2] bcast_S8x1x256_S8x128x256_0_1_2 (cmpi .sge (addi (broadcastInDim S8x1x256 ![0, 1, 2] bcast_S8x1x1_S8x1x256_0_1_2 (subi (muli (broadcastInDim S8x1x1 ![0] bcast_S8_S8x1x1_0 (iotaInDim S8 32 0)) (broadcastInDim S8x1x1 ![] bcast_S_S8x1x1 (constantI S_ 32 128#32))) (broadcastInDim S8x1x1 ![] bcast_S_S8x1x1 (constantI S_ 32 128#32)))) (broadcastInDim S8x1x256 ![0, 1, 2] bcast_S1x1x256_S8x1x256_0_1_2 (broadcastInDim S1x1x256 ![1, 2] bcast_S1x256_S1x1x256_1_2 (broadcastInDim S1x256 ![1] bcast_S256_S1x256_1 (iotaInDim S256 32 0))))) (broadcastInDim S8x1x256 ![] bcast_S_S8x1x256 (constantI S_ 32 0#32))))))) = maskArr := by
  funext i
  show _ = refKeep (i 1) (i 3) (i 4)
  pointwise [refKeep, gap]

/-- The masked scores, as the reference writes them. -/
theorem score_eq (M : IVec S4x8x16x128x256 1) (Q : FVec Ideal S4x8x128x16x128 .bf16) (K : FVec Ideal S4x8x256x16x128 .bf16) :
    select M (addf (Host.dotGeneral dot_S4x8x128x16x128_S4x8x256x16x128_S4x8x16x128x256_4_4_2_2_013_013 none Q K) (broadcastInDim S4x8x16x128x256 ![0, 1, 2, 3, 4] bcast_S1x1x16x128x256_S4x8x16x128x256_0_1_2_3_4 (broadcastInDim S1x1x16x128x256 ![2, 3, 4] bcast_S16x128x256_S1x1x16x128x256_2_3_4 (mulf (broadcastInDim S16x128x256 ![0, 1, 2] bcast_S16x1x1_S16x128x256_0_1_2 (Host.negf (broadcastInDim S16x1x1 ![0] bcast_S16_S16x1x1_0 slopeArr))) (broadcastInDim S16x128x256 ![0, 1, 2] bcast_S1x128x256_S16x128x256_0_1_2 (broadcastInDim S1x128x256 ![1, 2] bcast_S128x256_S1x128x256_1_2 (sitofp .f32 (muli (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 4#32)))))))))) (broadcastInDim S4x8x16x128x256 ![] bcast_S_S4x8x16x128x256 (id (constant S_ .f32 0xFF800000#32)))
      = scoreArr M Q K := by
  funext i
  show _ = Scalar.select (M i) (∑ x, Q (ix5 (i 0) (i 1) (i 3) (i 2) x) * K (ix5 (i 0) (i 1) (i 4) (i 2) x) + -headSlope (i 2) * refDist (i 3) (i 4)) (Ideal.ofBits .f32 0xFF800000#32)
  pointwise [refDist, gap, slopeArr]
  rfl

/-- The exponentials of the scores less the largest, as the reference writes them. -/
theorem prob_eq (S : FVec Ideal S4x8x16x128x256 .f32) :
    Host.exp (subf S (broadcastInDim S4x8x16x128x256 ![0, 1, 2, 3, 4] bcast_S4x8x16x128x1_S4x8x16x128x256_0_1_2_3_4 (broadcastInDim S4x8x16x128x1 ![0, 1, 2, 3] bcast_S4x8x16x128_S4x8x16x128x1_0_1_2_3 (Host.reduce FloatOps.maximumf S (constant S_ .f32 0xFF800000#32) reducesTo_S4x8x16x128x256_S4x8x16x128_d4 h_S_)))) = weightArr S := by
  funext i
  show _ = Ideal.exp (S i - top fun x => S (ix5 (i 0) (i 1) (i 2) (i 3) x))
  pointwise [top]

/-- The values averaged, as the reference writes it. -/
theorem average_eq (V : FVec Ideal S4x8x256x16x128 .bf16) (P : FVec Ideal S4x8x16x128x256 .f32) :
    (shapeCast _ (shapeCast _ (transpose S1x1024x4x16x128 [0, 2, 1, 3, 4] (shapeCast _ (shapeCast _ (transpose S4x8x128x16x128 [0, 1, 4, 2, 3] (Host.dotGeneral dot_S4x8x256x16x128_S4x8x16x128x256_S4x8x16x128x128_2_4_4_3_013_012 none (extf .f32 V bitsLt_bf16_f32) (Host.divf P (broadcastInDim S4x8x16x128x256 ![0, 1, 2, 3, 4] bcast_S4x8x16x128x1_S4x8x16x128x256_0_1_2_3_4 (broadcastInDim S4x8x16x128x1 ![0, 1, 2, 3] bcast_S4x8x16x128_S4x8x16x128x1_0_1_2_3 (Host.reduceAdd P (constant S_ .f32 0x00000000#32) reducesTo_S4x8x16x128x256_S4x8x16x128_d4 h_S_))))) transposes_S4x8x16x128x128_S4x8x128x16x128_0_1_4_2_3) shapeCasts_S4x8x128x16x128_S4x1024x16x128) shapeCasts_S4x1024x16x128_S1x4x1024x16x128) transposes_S1x4x1024x16x128_S1x1024x4x16x128_0_2_1_3_4) shapeCasts_S1x1024x4x16x128_S1x4096x16x128) shapeCasts_S1x4096x16x128_S1024x8192 : FVec Ideal S1024x8192 .f32) = fun i => ∑ j, V (ix5 (resOf (i 1)) (blockOf (i 0)) j (headOf (colOf (i 1))) (placeOf (colOf (i 1))))
      * Ideal.div (P (ix5 (resOf (i 1)) (blockOf (i 0)) (headOf (colOf (i 1))) (within (i 0)) j)) (∑ x, P (ix5 (resOf (i 1)) (blockOf (i 0)) (headOf (colOf (i 1))) (within (i 0)) x)) := by
  funext i
  pointwise [resOf, colOf, blockOf, headOf, placeOf, within]
  simp only [show (i 1).val % 2048 / 128 = (i 1).val / 128 % 16 by omega, show (i 1).val % 2048 % 128 = (i 1).val % 128 by omega]

/-- The largest scores, as the reference writes them. -/
theorem max_eq (S : FVec Ideal S4x8x16x128x256 .f32) :
    broadcastInDim S4x8x16x128x1 ![0, 1, 2, 3] bcast_S4x8x16x128_S4x8x16x128x1_0_1_2_3 (Host.reduce FloatOps.maximumf S (constant S_ .f32 0xFF800000#32) reducesTo_S4x8x16x128x256_S4x8x16x128_d4 h_S_) = fun i => top fun x => S (ix5 (i 0) (i 1) (i 2) (i 3) x) := by
  funext i
  pointwise [top]

/-- The sums, as the reference writes them. -/
theorem sum_eq (P : FVec Ideal S4x8x16x128x256 .f32) :
    broadcastInDim S4x8x16x128x1 ![0, 1, 2, 3] bcast_S4x8x16x128_S4x8x16x128x1_0_1_2_3 (Host.reduceAdd P (constant S_ .f32 0x00000000#32) reducesTo_S4x8x16x128x256_S4x8x16x128_d4 h_S_) = fun i => ∑ x, P (ix5 (i 0) (i 1) (i 2) (i 3) x) := by
  funext i
  pointwise

/-- The largest scores with the logarithms of the sums, as the reference writes them. -/
theorem lse_eq (S P : FVec Ideal S4x8x16x128x256 .f32) :
    addf (broadcastInDim S4x8x16x128x1 ![0, 1, 2, 3] bcast_S4x8x16x128_S4x8x16x128x1_0_1_2_3 (Host.reduce FloatOps.maximumf S (constant S_ .f32 0xFF800000#32) reducesTo_S4x8x16x128x256_S4x8x16x128_d4 h_S_)) (Host.log (broadcastInDim S4x8x16x128x1 ![0, 1, 2, 3] bcast_S4x8x16x128_S4x8x16x128x1_0_1_2_3 (Host.reduceAdd P (constant S_ .f32 0x00000000#32) reducesTo_S4x8x16x128x256_S4x8x16x128_d4 h_S_))) = lseArr S P := by
  rw [max_eq, sum_eq]
  rfl

/-- The padding of the logarithms is zero. -/
theorem pad_log_zero : FloatOps.sitofp (F := Ideal) .f32 0#32 = 0 := by
  show (((0#32 : BitVec 32).toInt : ℝ) : EReal) = 0
  simp

/-- The logarithms by token and head, padded to a whole tile. -/
theorem logs_eq (Z : FVec Ideal S4x8x16x128x1 .f32) :
    (shapeCast _ (pad S4096x128 ![0, 0] ![0, 112] ![0, 0] (shapeCast _ (shapeCast _ (transpose S1x1024x4x16 [0, 2, 1, 3] (shapeCast _ (shapeCast _ (transpose S4x8x128x16 [0, 1, 3, 2] (shapeCast _ Z shapeCasts_S4x8x16x128x1_S4x8x16x128) transposes_S4x8x16x128_S4x8x128x16_0_1_3_2) shapeCasts_S4x8x128x16_S4x1024x16) shapeCasts_S4x1024x16_S1x4x1024x16) transposes_S1x4x1024x16_S1x1024x4x16_0_2_1_3) shapeCasts_S1x1024x4x16_S1x4096x16) shapeCasts_S1x4096x16_S4096x16) (sitofp .f32 (constantI S_ 32 0#32)) pads_S4096x16_S4096x128_000_01120 h_S_) shapeCasts_S4096x128_S1024x512 : FVec Ideal S1024x512 .f32) = fun i => if h : (logOf (i 1)).val < 16 then
        Z (ix5 (resOfLog (i 1)) (blockOf (i 0)) ⟨(logOf (i 1)).val, h⟩ (within (i 0)) 0) else 0 := by
  funext i
  have h0 : (i 0).val < 1024 := (i 0).isLt
  have h1 : (i 1).val < 512 := (i 1).isLt
  pointwise [resOfLog, logOf, blockOf, within]
  all_goals
    split_ifs
    all_goals first | omega | rfl | exact pad_log_zero | (blk_point []; all_goals omega)

/-- The reference's scores. -/
def scores (q k : FVec Ideal S4096x6144 .bf16) (r : Fin 4) (b : Fin 8) (h : Fin 16) (i : Fin 128) (j : Fin 256) : EReal :=
  Scalar.select (refKeep b i j) (∑ x, tok q r b i (lane h x) * band k r b j (lane h x) + -headSlope h * refDist i j) (Ideal.ofBits .f32 0xFF800000#32)

/-- The attention the reference computes. -/
def outRef (q k v : FVec Ideal S4096x6144 .bf16) : FVec Ideal S1024x8192 .f32 := fun i =>
  ∑ j, band v (resOf (i 1)) (blockOf (i 0)) j (lane (headOf (colOf (i 1))) (placeOf (colOf (i 1))))
    * Ideal.div (Ideal.exp (scores q k (resOf (i 1)) (blockOf (i 0)) (headOf (colOf (i 1))) (within (i 0)) j - top (scores q k (resOf (i 1)) (blockOf (i 0)) (headOf (colOf (i 1))) (within (i 0)))))
        (∑ x, Ideal.exp (scores q k (resOf (i 1)) (blockOf (i 0)) (headOf (colOf (i 1))) (within (i 0)) x - top (scores q k (resOf (i 1)) (blockOf (i 0)) (headOf (colOf (i 1))) (within (i 0)))))

/-- The logarithms of the sums the reference computes. -/
def logRef (q k : FVec Ideal S4096x6144 .bf16) : FVec Ideal S1024x512 .f32 := fun i =>
  if h : (logOf (i 1)).val < 16 then logSum (scores q k (resOfLog (i 1)) (blockOf (i 0)) ⟨(logOf (i 1)).val, h⟩ (within (i 0))) else 0

variable (m : (ℓ : Loc nD τ sig) → Buf (Elt Ideal) ℓ)

/-- The reference's first result. -/
theorem out_eq (c : Dev nD) : Cert.Reference20Ideal.Value.res_main_v104 m c = outRef (m ((c.tc : Thread nD τ).loc main_arg0)) (m ((c.tc : Thread nD τ).loc main_arg1)) (m ((c.tc : Thread nD τ).loc main_arg2)) := by
  unfold Cert.Reference20Ideal.Value.res_main_v104
  rw [slopes_eq, queries_eq, band_eq, band_eq, mask_eq, score_eq, prob_eq]
  exact (average_eq _ _).trans rfl

/-- The reference's second result. -/
theorem log_eq (c : Dev nD) : Cert.Reference20Ideal.Value.res_main_v105 m c = logRef (m ((c.tc : Thread nD τ).loc main_arg0)) (m ((c.tc : Thread nD τ).loc main_arg1)) := by
  unfold Cert.Reference20Ideal.Value.res_main_v105
  rw [slopes_eq, queries_eq, band_eq, mask_eq, score_eq, prob_eq, lse_eq]
  exact (logs_eq _).trans rfl

end Cert.AttnD4Reference
end
-- ==== Proof.AttnEqualD4.lean ====
/- With dilation 4 the kernel and the reference compute the same attention. -/
module

public import proofs.«01_k».proof.Proof.AttnReferenceD4
public import proofs.«01_k».proof.Proof.AttendReal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnD4Equal

open Cert.Kernel20Ideal Cert.Kernel20Ideal.Gen
open Cert.Attend Cert.AttnD4 Cert.AttnD4Reference

/-- The masks agree. -/
theorem keep_eq (b : Fin 8) (i : Fin 128) (j : Fin 256) : refKeep b i j = keep (past b) i j := by
  have h : IntOp.cmpi .sge (IntOp.addi (IntOp.subi (IntOp.muli (BitVec.ofNat 32 b.val) 128#32) 128#32) (BitVec.ofNat 32 j.val)) 0#32
      = IntOp.ori (IntOp.cmpi .sge (BitVec.ofNat 32 j.val) 128#32) (past b) :=
    (by decide +kernel : ∀ (b : Fin 8) (j : Fin 256),
      IntOp.cmpi .sge (IntOp.addi (IntOp.subi (IntOp.muli (BitVec.ofNat 32 b.val) 128#32) 128#32) (BitVec.ofNat 32 j.val)) 0#32
        = IntOp.ori (IntOp.cmpi .sge (BitVec.ofNat 32 j.val) 128#32) (past b)) b j
  unfold refKeep keep
  rw [h]

/-- Before the first block every key is masked. -/
theorem first_masked (b : Fin 8) (i : Fin 128) (j : Fin 256) (hb : b.val = 0) (hj : j.val < 128) : keep (past b) i j = 0#1 := by
  have h : IntOp.ori (IntOp.cmpi .sge (BitVec.ofNat 32 j.val) 128#32) (past b) = 0#1 :=
    (by decide +kernel : ∀ (b : Fin 8) (j : Fin 256), b.val = 0 → j.val < 128 →
      IntOp.ori (IntOp.cmpi .sge (BitVec.ofNat 32 j.val) 128#32) (past b) = 0#1) b j hb hj
  unfold keep
  rw [h]
  exact BitVec.and_zero

/-- A query attends to its own key. -/
theorem own_kept (b : Fin 8) (i : Fin 128) : keep (past b) i ⟨i.val + 128, by have := i.isLt; omega⟩ = 1#1 :=
  (by decide +kernel : ∀ (b : Fin 8) (i : Fin 128), keep (past b) i ⟨i.val + 128, by have := i.isLt; omega⟩ = 1#1) b i

/-- The word of the dilation. -/
theorem ratio : Ideal.ofBits .f32 0x40800000#32 = ((4 : ℝ) : EReal) := by
  simp [Ideal.ofBits, Ideal.ieee, -EReal.coe_mul]; norm_num

/-- The distances agree: the dilation multiplies it before or after the conversion to a float. -/
theorem dist_eq (i : Fin 128) (j : Fin 256) : refDist i j = dist i j := by
  have h : (IntOp.muli (gap i j) 4#32).toInt = (gap i j).toInt * 4 :=
    (by decide +kernel : ∀ (i : Fin 128) (j : Fin 256), (IntOp.muli (gap i j) 4#32).toInt = (gap i j).toInt * 4) i j
  unfold refDist AttnD4.dist
  rw [ratio]
  show (((IntOp.muli (gap i j) 4#32).toInt : ℝ) : EReal) = (((gap i j).toInt : ℝ) : EReal) * ((4 : ℝ) : EReal)
  rw [h, ← EReal.coe_mul]
  congr 1
  push_cast
  ring

/-- The distance is a real number. -/
theorem dist_real (i : Fin 128) (j : Fin 256) : Real' (dist i j) := (sitofp_real _).mul ⟨4, ratio⟩

/-- Where there is a block before, the reference's rows are the kernel's two blocks. -/
theorem band_pick (a : FVec Ideal S4096x6144 .bf16) (r : Fin 4) (b : Fin 8) (j : Fin 256) (l : Fin 2048) (h : ¬(b.val = 0 ∧ j.val < 128)) :
    band a r b j l = pick (fun p => tok a r (before b) p l) (fun p => tok a r b p l) j := by
  unfold band pick
  by_cases hj : j.val < 128
  · rw [dif_pos hj, dif_pos hj]
    exact if_neg fun hb => h ⟨hb, hj⟩
  · rw [dif_neg hj, dif_neg hj]

/-- The scores agree. -/
theorem scores_eq (q k : FVec Ideal S4096x6144 .bf16) (r : Fin 4) (b : Fin 8) (h : Fin 16) (i : Fin 128) :
    scores q k r b h i = scoreAt (past b) (block q r b) (block k r b) (block k r (before b)) h i := by
  funext j
  unfold scores scoreAt score
  rw [keep_eq, dist_eq]
  by_cases hm : b.val = 0 ∧ j.val < 128
  · rw [first_masked b i j hm.1 hm.2]
    rfl
  · congr 1
    rw [sub_eq_add_neg, EReal.neg_mul]
    congr 1
    refine Finset.sum_congr rfl fun x _ => congrArg (tok q r b i (lane h x) * ·) ?_
    rw [band_pick k r b j (lane h x) hm]
    unfold pick
    by_cases hj : j.val < 128
    · rw [dif_pos hj, dif_pos hj]; rfl
    · rw [dif_neg hj, dif_neg hj]; rfl

/-- The logarithms of the sums agree. -/
theorem log_eq (q k : FVec Ideal S4096x6144 .bf16) : wholeLog q k = logRef q k := by
  funext x
  show _ = if h : (logOf (x 1)).val < 16 then logSum (scores q k (resOfLog (x 1)) (blockOf (x 0)) ⟨(logOf (x 1)).val, h⟩ (within (x 0))) else 0
  simp only [scores_eq]
  rfl

/-- A row of two blocks of real numbers is real. -/
theorem pick_real {p c : Fin 128 → EReal} (hp : ∀ i, Real' (p i)) (hc : ∀ i, Real' (c i)) (j : Fin 256) : Real' (pick p c j) := by
  unfold pick
  split
  · exact hp _
  · exact hc _

/-- For real arguments the attention agrees. -/
theorem out_eq (q k v : FVec Ideal S4096x6144 .bf16) (hq : ∀ i, Real' (q i)) (hk : ∀ i, Real' (k i)) (hv : ∀ i, Real' (v i)) :
    whole q k v = outRef q k v := by
  funext x
  refine Eq.symm ?_
  have key : ∀ (r : Fin 4) (b : Fin 8) (h : Fin 16) (p i : Fin 128),
      ∑ j, band v r b j (lane h p) * Ideal.div (Ideal.exp (scores q k r b h i j - top (scores q k r b h i))) (∑ x, Ideal.exp (scores q k r b h i x - top (scores q k r b h i)))
        = attend (scoreAt (past b) (block q r b) (block k r b) (block k r (before b)) h i) (pick (fun a => tok v r (before b) a (lane h p)) (fun a => tok v r b a (lane h p))) := by
    intro r b h p i
    rw [scores_eq]
    have hkr : ∀ j x, Real' (pick (fun a x => block k r (before b) (ix2 a (lane h x))) (fun a x => block k r b (ix2 a (lane h x))) j x) := by
      intro j x
      unfold pick
      split
      · exact hk _
      · exact hk _
    refine attend_eq (k := ⟨i.val + 128, by have := i.isLt; omega⟩) (fun j => ?_) ?_ (fun j => ?_) (fun j => ?_)
    · exact score_real (headSlope_real h) (dist_real i j) (fun x => hq _) (hkr j)
    · exact score_kept (own_kept b i) (headSlope_real h) (dist_real i _) (fun x => hq _) (hkr _)
    · exact pick_real (fun a => hv _) (fun a => hv _) j
    · by_cases hm : b.val = 0 ∧ j.val < 128
      · refine Or.inr ⟨score_masked (first_masked b i j hm.1 hm.2), ?_⟩
        unfold band pick
        rw [dif_pos hm.2]
        exact if_pos hm.1
      · exact Or.inl (band_pick v r b j (lane h p) hm)
  exact key _ _ _ _ _

end Cert.AttnD4Equal
end
-- ==== Proof.AttnBlockD16.lean ====
/- What one block of the attention with dilation 16 computes. -/
module

public import proofs.«01_k».proof.Proof.Gen.Kernel21Ideal.Value
public import proofs.«01_k».proof.Proof.Attend
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnD16

open Cert.Kernel21Ideal Cert.Kernel21Ideal.Gen
open Cert.Attend

/-- The distance in tokens. -/
def dist (i : Fin 128) (j : Fin 256) : EReal := FloatOps.sitofp (F := Ideal) .f32 (gap i j) * Ideal.ofBits .f32 0x41800000#32

/-- The scores of head `h` in a block: queries `q`, current keys `kc`, previous keys `kp`. -/
def scoreAt (past : BitVec 1) (q kc kp : Vec Ideal S128x2048 .bf16) (h : Fin 16) (i : Fin 128) : Fin 256 → EReal := fun j =>
  score past (headSlope h) (dist i j) (fun x => q (ix2 i (lane h x))) (pick (fun a x => kp (ix2 a (lane h x))) (fun a x => kc (ix2 a (lane h x))) j) i j

/-- The attention of head `h` in a block. -/
def headOut (past : BitVec 1) (q kc kp vc vp : Vec Ideal S128x2048 .bf16) (h : Fin 16) (x : S128x128.Idx) : EReal :=
  attend (scoreAt past q kc kp h (x 0)) (pick (fun a => vp (ix2 a (lane h (x 1)))) (fun a => vc (ix2 a (lane h (x 1)))))

/-- The attention of a block, all heads side by side. -/
def blockOut (past : BitVec 1) (q kc kp vc vp : Vec Ideal S128x2048 .bf16) : Vec Ideal S128x2048 .f32 :=
  fun y => headOut past q kc kp vc vp (headOf (y 1)) (ix2 (y 0) (placeOf (y 1)))

/-- A lane of head `h` holds that head's attention. -/
theorem blockOut_head (past : BitVec 1) (q kc kp vc vp : Vec Ideal S128x2048 .bf16) (h : Fin 16) (y : S128x2048.Idx) (x : S128x128.Idx)
    (h0 : (y 0).val = (x 0).val) (h1 : (y 1).val = 128 * h.val + (x 1).val) :
    blockOut past q kc kp vc vp y = headOut past q kc kp vc vp h x := by
  have hx : (x 1).val < 128 := (x 1).isLt
  have e1 : headOf (y 1) = h := Fin.ext (by simp only [headOf]; omega)
  have e2 : (ix2 (y 0) (placeOf (y 1)) : S128x128.Idx) = x := by
    blk_ext
    all_goals first | exact h0 | (simp only [placeOf]; omega)
  unfold blockOut
  rw [e1, e2]

/-- The logarithms of the sums of a block: head `h` in lane `h`, zero in the other lanes. -/
def blockLog (past : BitVec 1) (q kc kp : Vec Ideal S128x2048 .bf16) : Vec Ideal S128x128 .f32 :=
  fun y => if h : (y 1).val < 16 then logSum (scoreAt past q kc kp ⟨(y 1).val, h⟩ (y 0)) else 0

/-- Masked scores, as the kernel writes them. -/
theorem tile_eq (M : IVec S128x256 1) (D : FVec Ideal S128x256 .f32) (w : BitVec 32) (q kp kc : FVec Ideal S128x128 .bf16) :
    select M (subf (matmul dot_S128x128_S256x128_S128x256_1_1_0_0_n_n none q (concatenate S256x128 0 [⟨S128x128, kp⟩, ⟨S128x128, kc⟩] concatenates_S128x128_S128x128_S256x128_d0) (constant S128x256 .f32 0x00000000#32)) (mulf (broadcast S128x256 (Scalar.ofBits .f32 w)) D)) (broadcast S128x256 (Scalar.ofBits .f32 0xFF800000#32))
      = fun j => Scalar.select (M j) (∑ x, q (ix2 (j 0) x) * pick (fun a x => kp (ix2 a x)) (fun a x => kc (ix2 a x)) (j 1) x - Ideal.ofBits .f32 w * D j) (Ideal.ofBits .f32 0xFF800000#32) := by
  funext j
  pointwise [pick]
  congr 2
  refine Finset.sum_congr rfl fun x _ => ?_
  split <;> rfl

/-- The exponentials of the scores less the row's largest, as the kernel writes them. -/
theorem prob_eq (S : FVec Ideal S128x256 .f32) :
    exp (subf S (broadcastTo S128x256 (shapeCast S128x1 (multiReduction .maximumf [1] S128 S 0xFF800000#32 reduces_S128x256_S128 (.inl rfl) rfl) shapeCasts_S128_S128x1) broadcasts_S128x1_S128x256))
      = fun j => Ideal.exp (S j - top fun x => S (ix2 (j 0) x)) := by
  funext j
  pointwise [top]

/-- The largest score of each row, as the kernel writes it. -/
theorem top_eq (S : FVec Ideal S128x256 .f32) :
    shapeCast S128x1 (multiReduction .maximumf [1] S128 S 0xFF800000#32 reduces_S128x256_S128 (.inl rfl) rfl) shapeCasts_S128_S128x1
      = fun j => top fun x => S (ix2 (j 0) x) := by
  funext j
  pointwise [top]

/-- A head's weighted average, as the kernel writes it. -/
theorem average_eq (P : FVec Ideal S128x256 .f32) (vp vc : FVec Ideal S128x128 .bf16) (x : S128x128.Idx) :
    divf (matmul dot_S128x256_S256x128_S128x128_1_0_0_1_n_n none (truncf .bf16 P bitsLt_bf16_f32) (concatenate S256x128 0 [⟨S128x128, vp⟩, ⟨S128x128, vc⟩] concatenates_S128x128_S128x128_S256x128_d0) (constant S128x128 .f32 0x00000000#32))
      (broadcastTo S128x128 (shapeCast S128x1 (multiReduction .add [1] S128 P 0x00000000#32 reduces_S128x256_S128 (.inl rfl) rfl) shapeCasts_S128_S128x1) broadcasts_S128x1_S128x128) x
      = Ideal.div (∑ j, P (ix2 (x 0) j) * pick (fun a => vp (ix2 a (x 1))) (fun a => vc (ix2 a (x 1))) j) (∑ j, P (ix2 (x 0) j)) := by
  pointwise [pick]

/-- A head's logarithm of the sum, as the kernel writes it. -/
theorem log_eq (S : FVec Ideal S128x256 .f32) :
    addf (shapeCast S128x1 (multiReduction .maximumf [1] S128 S 0xFF800000#32 reduces_S128x256_S128 (.inl rfl) rfl) shapeCasts_S128_S128x1)
      (log (shapeCast S128x1 (multiReduction .add [1] S128 (exp (subf S (broadcastTo S128x256 (shapeCast S128x1 (multiReduction .maximumf [1] S128 S 0xFF800000#32 reduces_S128x256_S128 (.inl rfl) rfl) shapeCasts_S128_S128x1) broadcasts_S128x1_S128x256))) 0x00000000#32 reduces_S128x256_S128 (.inl rfl) rfl) shapeCasts_S128_S128x1))
      = fun j => logSum fun x => S (ix2 (j 0) x) := by
  rw [prob_eq, top_eq]
  funext j
  pointwise [logSum, top]

/-- The stored attention block. -/
theorem out_eq (i : grid0.Coords) (q kc kp vc vp : Vec Ideal S128x2048 .bf16) :
    out0_5 i q kc kp vc vp = blockOut (Scalar.cmpi .sgt (BitVec.ofNat 32 (i 1).val) 0#32) q kc kp vc vp := by
  funext y
  unfold_out out0_5
  canon_tiles x h
  · rw [blockOut_head _ q kc kp vc vp 15 y x h0 (by simp only [Fin.isValue]; omega)]
    open_payloads
    rw [tile_eq, prob_eq, average_eq]
    pointwise [headOut, attend, top, scoreAt, score, keep, gap, dist, lane]
    rfl
  · rw [blockOut_head _ q kc kp vc vp 14 y x h0 (by simp only [Fin.isValue]; omega)]
    open_payloads
    rw [tile_eq, prob_eq, average_eq]
    pointwise [headOut, attend, top, scoreAt, score, keep, gap, dist, lane]
    rfl
  · rw [blockOut_head _ q kc kp vc vp 13 y x h0 (by simp only [Fin.isValue]; omega)]
    open_payloads
    rw [tile_eq, prob_eq, average_eq]
    pointwise [headOut, attend, top, scoreAt, score, keep, gap, dist, lane]
    rfl
  · rw [blockOut_head _ q kc kp vc vp 12 y x h0 (by simp only [Fin.isValue]; omega)]
    open_payloads
    rw [tile_eq, prob_eq, average_eq]
    pointwise [headOut, attend, top, scoreAt, score, keep, gap, dist, lane]
    rfl
  · rw [blockOut_head _ q kc kp vc vp 11 y x h0 (by simp only [Fin.isValue]; omega)]
    open_payloads
    rw [tile_eq, prob_eq, average_eq]
    pointwise [headOut, attend, top, scoreAt, score, keep, gap, dist, lane]
    rfl
  · rw [blockOut_head _ q kc kp vc vp 10 y x h0 (by simp only [Fin.isValue]; omega)]
    open_payloads
    rw [tile_eq, prob_eq, average_eq]
    pointwise [headOut, attend, top, scoreAt, score, keep, gap, dist, lane]
    rfl
  · rw [blockOut_head _ q kc kp vc vp 9 y x h0 (by simp only [Fin.isValue]; omega)]
    open_payloads
    rw [tile_eq, prob_eq, average_eq]
    pointwise [headOut, attend, top, scoreAt, score, keep, gap, dist, lane]
    rfl
  · rw [blockOut_head _ q kc kp vc vp 8 y x h0 (by simp only [Fin.isValue]; omega)]
    open_payloads
    rw [tile_eq, prob_eq, average_eq]
    pointwise [headOut, attend, top, scoreAt, score, keep, gap, dist, lane]
    rfl
  · rw [blockOut_head _ q kc kp vc vp 7 y x h0 (by simp only [Fin.isValue]; omega)]
    open_payloads
    rw [tile_eq, prob_eq, average_eq]
    pointwise [headOut, attend, top, scoreAt, score, keep, gap, dist, lane]
    rfl
  · rw [blockOut_head _ q kc kp vc vp 6 y x h0 (by simp only [Fin.isValue]; omega)]
    open_payloads
    rw [tile_eq, prob_eq, average_eq]
    pointwise [headOut, attend, top, scoreAt, score, keep, gap, dist, lane]
    rfl
  · rw [blockOut_head _ q kc kp vc vp 5 y x h0 (by simp only [Fin.isValue]; omega)]
    open_payloads
    rw [tile_eq, prob_eq, average_eq]
    pointwise [headOut, attend, top, scoreAt, score, keep, gap, dist, lane]
    rfl
  · rw [blockOut_head _ q kc kp vc vp 4 y x h0 (by simp only [Fin.isValue]; omega)]
    open_payloads
    rw [tile_eq, prob_eq, average_eq]
    pointwise [headOut, attend, top, scoreAt, score, keep, gap, dist, lane]
    rfl
  · rw [blockOut_head _ q kc kp vc vp 3 y x h0 (by simp only [Fin.isValue]; omega)]
    open_payloads
    rw [tile_eq, prob_eq, average_eq]
    pointwise [headOut, attend, top, scoreAt, score, keep, gap, dist, lane]
    rfl
  · rw [blockOut_head _ q kc kp vc vp 2 y x h0 (by simp only [Fin.isValue]; omega)]
    open_payloads
    rw [tile_eq, prob_eq, average_eq]
    pointwise [headOut, attend, top, scoreAt, score, keep, gap, dist, lane]
    rfl
  · rw [blockOut_head _ q kc kp vc vp 1 y x h0 (by simp only [Fin.isValue]; omega)]
    open_payloads
    rw [tile_eq, prob_eq, average_eq]
    pointwise [headOut, attend, top, scoreAt, score, keep, gap, dist, lane]
    rfl
  · rw [blockOut_head _ q kc kp vc vp 0 y x h0 (by simp only [Fin.isValue]; omega)]
    open_payloads
    rw [tile_eq, prob_eq, average_eq]
    pointwise [headOut, attend, top, scoreAt, score, keep, gap, dist, lane]
    rfl

/-- The stored logarithms of the sums. -/
theorem logs_eq (i : grid0.Coords) (q kc kp vc vp : Vec Ideal S128x2048 .bf16) :
    out0_6 i q kc kp vc vp = blockLog (Scalar.cmpi .sgt (BitVec.ofNat 32 (i 1).val) 0#32) q kc kp := by
  funext y
  unfold_out out0_6
  canon_tiles x h
  open_payloads
  rw [tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq, tile_eq, log_eq]
  have e : x = y := by
    blk_ext
    all_goals first | exact h0.symm | exact h1.symm | omega
  subst e
  refine Eq.trans ?_ (pack_lanes (fun h => logSum (scoreAt (Scalar.cmpi .sgt (BitVec.ofNat 32 (i 1).val) 0#32) q kc kp h (x 0))) (x 1).val (x 1).isLt)
  pointwise
  refine congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ (congrArg₂ (Scalar.select _) ?_ rfl)))))))))))))))
  all_goals
    refine congrArg logSum (funext fun j => ?_)
    pointwise [scoreAt, score, keep, gap, dist, lane]
    rfl

end Cert.AttnD16
end
-- ==== Proof.AttnArrayD16.lean ====
/- The arrays of the attention with dilation 16, token by token. -/
module

public import proofs.«01_k».proof.Proof.AttnBlockD16
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnD16

open Cert.Kernel21Ideal Cert.Kernel21Ideal.Gen
open Cert.Attend

/-- The entry of the token at place `i` of block `b` of residue `r`, in a lane of this group's heads. -/
def tok (a : FVec Ideal S4096x6144 .bf16) (r : Fin 16) (b : Fin 2) (i : Fin 128) (l : Fin 2048) : EReal :=
  a (ix2 ⟨(128 * b.val + i.val) * 16 + r.val, by have := r.isLt; have := b.isLt; have := i.isLt; omega⟩ ⟨4096 + l.val, by have := l.isLt; omega⟩)

/-- The block before, the first for the first. -/
def before (b : Fin 2) : Fin 2 := ⟨b.val - 1, by have := b.isLt; omega⟩

/-- Whether there is a block before. -/
def past (b : Fin 2) : BitVec 1 := Scalar.cmpi .sgt (BitVec.ofNat 32 b.val) 0#32

/-- The rows of a block. -/
def block (a : FVec Ideal S4096x6144 .bf16) (r : Fin 16) (b : Fin 2) : Vec Ideal S128x2048 .bf16 := fun y => tok a r b (y 0) (y 1)

/-- The residue of a lane of the result. -/
def resOf (l : Fin 32768) : Fin 16 := ⟨l.val / 2048, by have := l.isLt; omega⟩

/-- The lane of a lane of the result among its residue's. -/
def colOf (l : Fin 32768) : Fin 2048 := ⟨l.val % 2048, by omega⟩

/-- The block of a row of the result. -/
def blockOf (p : Fin 256) : Fin 2 := ⟨p.val / 128, by have := p.isLt; omega⟩

/-- The place of a row of the result in its block. -/
def within (p : Fin 256) : Fin 128 := ⟨p.val % 128, by omega⟩

/-- The residue of a lane of the logarithms. -/
def resOfLog (l : Fin 2048) : Fin 16 := ⟨l.val / 128, by have := l.isLt; omega⟩

/-- The lane of a lane of the logarithms among its residue's. -/
def logOf (l : Fin 2048) : Fin 128 := ⟨l.val % 128, by omega⟩

/-- The attention, every token of a residue in one row after another and the residues side by side. -/
def whole (q k v : FVec Ideal S4096x6144 .bf16) : FVec Ideal S256x32768 .f32 := fun x =>
  blockOut (past (blockOf (x 0))) (block q (resOf (x 1)) (blockOf (x 0))) (block k (resOf (x 1)) (blockOf (x 0))) (block k (resOf (x 1)) (before (blockOf (x 0))))
    (block v (resOf (x 1)) (blockOf (x 0))) (block v (resOf (x 1)) (before (blockOf (x 0))))
    (ix2 (within (x 0)) (colOf (x 1)))

/-- The logarithms of the sums, laid out likewise. -/
def wholeLog (q k : FVec Ideal S4096x6144 .bf16) : FVec Ideal S256x2048 .f32 := fun x =>
  blockLog (past (blockOf (x 0))) (block q (resOfLog (x 1)) (blockOf (x 0))) (block k (resOfLog (x 1)) (blockOf (x 0))) (block k (resOfLog (x 1)) (before (blockOf (x 0))))
    (ix2 (within (x 0)) (logOf (x 1)))

/-- A place of the result read in its block. -/
theorem whole_at (q k v : FVec Ideal S4096x6144 .bf16) (x : S256x32768.Idx) (r : Fin 16) (b : Fin 2) (y : S128x2048.Idx)
    (h0 : (x 0).val = 128 * b.val + (y 0).val) (h1 : (x 1).val = 2048 * r.val + (y 1).val) :
    whole q k v x = blockOut (past b) (block q r b) (block k r b) (block k r (before b)) (block v r b) (block v r (before b)) y := by
  have l0 : (y 0).val < 128 := (y 0).isLt
  have l1 : (y 1).val < 2048 := (y 1).isLt
  have hb : blockOf (x 0) = b := Fin.ext (by simp only [blockOf]; omega)
  have hr : resOf (x 1) = r := Fin.ext (by simp only [resOf]; omega)
  have hy : (ix2 (within (x 0)) (colOf (x 1)) : S128x2048.Idx) = y := by
    blk_ext
    all_goals simp only [within, colOf]; omega
  unfold whole
  rw [hb, hr, hy]

/-- A place of the logarithms read in its block. -/
theorem wholeLog_at (q k : FVec Ideal S4096x6144 .bf16) (x : S256x2048.Idx) (r : Fin 16) (b : Fin 2) (y : S128x128.Idx)
    (h0 : (x 0).val = 128 * b.val + (y 0).val) (h1 : (x 1).val = 128 * r.val + (y 1).val) :
    wholeLog q k x = blockLog (past b) (block q r b) (block k r b) (block k r (before b)) y := by
  have l0 : (y 0).val < 128 := (y 0).isLt
  have l1 : (y 1).val < 128 := (y 1).isLt
  have hb : blockOf (x 0) = b := Fin.ext (by simp only [blockOf]; omega)
  have hr : resOfLog (x 1) = r := Fin.ext (by simp only [resOfLog]; omega)
  have hy : (ix2 (within (x 0)) (logOf (x 1)) : S128x128.Idx) = y := by
    blk_ext
    all_goals simp only [within, logOf]; omega
  unfold wholeLog
  rw [hb, hr, hy]

variable (m : (ℓ : Loc nD τ sig) → Buf (Elt Ideal) ℓ)

/-- An argument's lanes of this group, the residues side by side. -/
def view (a : FVec Ideal S4096x6144 .bf16) : FVec Ideal S256x32768 .bf16 :=
  fun x => a (ix2 ⟨(x 0).val * 16 + (x 1).val / 2048, by have : (x 0).val < 256 := (x 0).isLt; have : (x 1).val < 32768 := (x 1).isLt; omega⟩ ⟨4096 + (x 1).val % 2048, by omega⟩)

/-- The array `q` the call is given. -/
theorem entry_q (c : Dev nD) : V m c main_v1 = view (m ((c : Thread nD τ).loc main_arg0)) := by
  funext i
  simp only [V, hostOps0, List.flatten_cons, List.flatten_nil, List.append_nil, List.cons_append, List.nil_append]
  entry_read
  pointwise [view]
  try rfl

/-- The array `k` the call is given. -/
theorem entry_k (c : Dev nD) : V m c main_v3 = view (m ((c : Thread nD τ).loc main_arg1)) := by
  funext i
  simp only [V, hostOps0, List.flatten_cons, List.flatten_nil, List.append_nil, List.cons_append, List.nil_append]
  entry_read
  pointwise [view]
  try rfl

/-- The array `v` the call is given. -/
theorem entry_v (c : Dev nD) : V m c main_v5 = view (m ((c : Thread nD τ).loc main_arg2)) := by
  funext i
  simp only [V, hostOps0, List.flatten_cons, List.flatten_nil, List.append_nil, List.cons_append, List.nil_append]
  entry_read
  pointwise [view]
  try rfl

/-- The block of every window at every grid point. -/
theorem idx : ∀ t : Fin cfg0.N, win0_0.index t = ![(grid0.coords t 1).val, (grid0.coords t 0).val] ∧ win0_1.index t = ![(grid0.coords t 1).val, (grid0.coords t 0).val]
    ∧ win0_2.index t = ![(grid0.coords t 1).val - 1, (grid0.coords t 0).val] ∧ win0_3.index t = ![(grid0.coords t 1).val, (grid0.coords t 0).val]
    ∧ win0_4.index t = ![(grid0.coords t 1).val - 1, (grid0.coords t 0).val] ∧ win0_5.index t = ![(grid0.coords t 1).val, (grid0.coords t 0).val]
    ∧ win0_6.index t = ![(grid0.coords t 1).val, (grid0.coords t 0).val] :=
  (by decide +kernel : ∀ t : Fin grid0.N, _)

/-- The residue of a grid point. -/
abbrev res (t : Fin cfg0.N) : Fin 16 := ⟨(grid0.coords t 0).val, (grid0.coords t 0).isLt⟩

/-- The block of a grid point. -/
abbrev num (t : Fin cfg0.N) : Fin 2 := ⟨(grid0.coords t 1).val, (grid0.coords t 1).isLt⟩

/-- Window 0's block at a grid point. -/
theorem block_q (c : Dev nD) (t : Fin cfg0.N) : iblk m c 0 t = block (m ((c : Thread nD τ).loc main_arg0)) (res t) (num t) := by
  have hr : (grid0.coords t 0).val < 16 := (grid0.coords t 0).isLt
  have hb : (grid0.coords t 1).val < 2 := (grid0.coords t 1).isLt
  funext y
  have h0 : (y 0).val < 128 := (y 0).isLt
  have h1 : (y 1).val < 2048 := (y 1).isLt
  refine Eq.trans (b := view (m ((c : Thread nD τ).loc main_arg0)) (ix2 ⟨128 * (num t).val + (y 0).val, by simp only [before]; omega⟩ ⟨2048 * (grid0.coords t 0).val + (y 1).val, by omega⟩)) ?_ ?_
  · rw [← entry_q]
    blk_point [iblk, idx t]
    all_goals omega
  · unfold view block tok
    blk_point []
    all_goals omega

/-- Window 1's block at a grid point. -/
theorem block_k (c : Dev nD) (t : Fin cfg0.N) : iblk m c 1 t = block (m ((c : Thread nD τ).loc main_arg1)) (res t) (num t) := by
  have hr : (grid0.coords t 0).val < 16 := (grid0.coords t 0).isLt
  have hb : (grid0.coords t 1).val < 2 := (grid0.coords t 1).isLt
  funext y
  have h0 : (y 0).val < 128 := (y 0).isLt
  have h1 : (y 1).val < 2048 := (y 1).isLt
  refine Eq.trans (b := view (m ((c : Thread nD τ).loc main_arg1)) (ix2 ⟨128 * (num t).val + (y 0).val, by simp only [before]; omega⟩ ⟨2048 * (grid0.coords t 0).val + (y 1).val, by omega⟩)) ?_ ?_
  · rw [← entry_k]
    blk_point [iblk, idx t]
    all_goals omega
  · unfold view block tok
    blk_point []
    all_goals omega

/-- Window 2's block at a grid point. -/
theorem block_k_before (c : Dev nD) (t : Fin cfg0.N) : iblk m c 2 t = block (m ((c : Thread nD τ).loc main_arg1)) (res t) (before (num t)) := by
  have hr : (grid0.coords t 0).val < 16 := (grid0.coords t 0).isLt
  have hb : (grid0.coords t 1).val < 2 := (grid0.coords t 1).isLt
  funext y
  have h0 : (y 0).val < 128 := (y 0).isLt
  have h1 : (y 1).val < 2048 := (y 1).isLt
  refine Eq.trans (b := view (m ((c : Thread nD τ).loc main_arg1)) (ix2 ⟨128 * (before (num t)).val + (y 0).val, by simp only [before]; omega⟩ ⟨2048 * (grid0.coords t 0).val + (y 1).val, by omega⟩)) ?_ ?_
  · rw [← entry_k]
    unfold before
    blk_point [iblk, idx t]
    all_goals omega
  · unfold view block tok before
    blk_point []
    all_goals omega

/-- Window 3's block at a grid point. -/
theorem block_v (c : Dev nD) (t : Fin cfg0.N) : iblk m c 3 t = block (m ((c : Thread nD τ).loc main_arg2)) (res t) (num t) := by
  have hr : (grid0.coords t 0).val < 16 := (grid0.coords t 0).isLt
  have hb : (grid0.coords t 1).val < 2 := (grid0.coords t 1).isLt
  funext y
  have h0 : (y 0).val < 128 := (y 0).isLt
  have h1 : (y 1).val < 2048 := (y 1).isLt
  refine Eq.trans (b := view (m ((c : Thread nD τ).loc main_arg2)) (ix2 ⟨128 * (num t).val + (y 0).val, by simp only [before]; omega⟩ ⟨2048 * (grid0.coords t 0).val + (y 1).val, by omega⟩)) ?_ ?_
  · rw [← entry_v]
    blk_point [iblk, idx t]
    all_goals omega
  · unfold view block tok
    blk_point []
    all_goals omega

/-- Window 4's block at a grid point. -/
theorem block_v_before (c : Dev nD) (t : Fin cfg0.N) : iblk m c 4 t = block (m ((c : Thread nD τ).loc main_arg2)) (res t) (before (num t)) := by
  have hr : (grid0.coords t 0).val < 16 := (grid0.coords t 0).isLt
  have hb : (grid0.coords t 1).val < 2 := (grid0.coords t 1).isLt
  funext y
  have h0 : (y 0).val < 128 := (y 0).isLt
  have h1 : (y 1).val < 2048 := (y 1).isLt
  refine Eq.trans (b := view (m ((c : Thread nD τ).loc main_arg2)) (ix2 ⟨128 * (before (num t)).val + (y 0).val, by simp only [before]; omega⟩ ⟨2048 * (grid0.coords t 0).val + (y 1).val, by omega⟩)) ?_ ?_
  · rw [← entry_v]
    unfold before
    blk_point [iblk, idx t]
    all_goals omega
  · unfold view block tok before
    blk_point []
    all_goals omega

/-- After the run the first result holds the attention. -/
theorem final_out (c : Dev nD) : (dats m 0 c).arrAt 5 cfg0.N = whole (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, out_eq, block_q, block_k, block_k_before, block_v, block_v_before]
  have hr : (grid0.coords t 0).val < 16 := (grid0.coords t 0).isLt
  have hb : (grid0.coords t 1).val < 2 := (grid0.coords t 1).isLt
  have h0 : (y 0).val < 128 := (y 0).isLt
  have h1 : (y 1).val < 2048 := (y 1).isLt
  refine (whole_at _ _ _ (ix2 ⟨128 * (grid0.coords t 1).val + (y 0).val, by omega⟩ ⟨2048 * (grid0.coords t 0).val + (y 1).val, by omega⟩ : S256x32768.Idx) (res t) (num t) y rfl rfl).symm.trans ?_
  congr 1
  blk_point [idx t]
  all_goals omega

/-- After the run the second result holds the logarithms of the sums. -/
theorem final_log (c : Dev nD) : (dats m 0 c).arrAt 6 cfg0.N = wholeLog (m ((c : Thread nD τ).loc main_arg0)) (m ((c : Thread nD τ).loc main_arg1)) := by
  refine (dats m 0 c).arrAt_eq_of_covers 6 _ (by decide +kernel) fun t hf y => ?_
  blk_simp
  rw [after0_6, logs_eq, block_q, block_k, block_k_before]
  have hr : (grid0.coords t 0).val < 16 := (grid0.coords t 0).isLt
  have hb : (grid0.coords t 1).val < 2 := (grid0.coords t 1).isLt
  have h0 : (y 0).val < 128 := (y 0).isLt
  have h1 : (y 1).val < 128 := (y 1).isLt
  refine (wholeLog_at _ _ (ix2 ⟨128 * (grid0.coords t 1).val + (y 0).val, by omega⟩ ⟨128 * (grid0.coords t 0).val + (y 1).val, by omega⟩ : S256x2048.Idx) (res t) (num t) y rfl rfl).symm.trans ?_
  congr 1
  blk_point [idx t]
  all_goals omega

end Cert.AttnD16
end
-- ==== Proof.AttnReferenceD16.lean ====
/- What the reference of the attention with dilation 16 computes. -/
module

public import proofs.«01_k».proof.Proof.Gen.Reference21Ideal.Run
public import proofs.«01_k».proof.Proof.AttnArrayD16
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnD16Reference

open Cert.Reference21Ideal Cert.Reference21Ideal.Gen
open Cert.Attend
open Cert.AttnD16 (tok before resOf colOf logOf blockOf within resOfLog)

/-- The rows of the block before and of a block, the rows before the first block zero. -/
def band (a : FVec Ideal S4096x6144 .bf16) (r : Fin 16) (b : Fin 2) (j : Fin 256) (l : Fin 2048) : EReal :=
  pick (fun p => if b.val = 0 then 0 else tok a r (before b) p l) (fun p => tok a r b p l) j

/-- Whether the query at place `i` of block `b` attends to the key at place `j`. -/
def refKeep (b : Fin 2) (i : Fin 128) (j : Fin 256) : BitVec 1 :=
  IntOp.andi (IntOp.andi (IntOp.cmpi .sge (gap i j) 0#32) (IntOp.cmpi .sle (gap i j) 128#32))
    (IntOp.cmpi .sge (IntOp.addi (IntOp.subi (IntOp.muli (BitVec.ofNat 32 b.val) 128#32) 128#32) (BitVec.ofNat 32 j.val)) 0#32)

/-- The distance in tokens. -/
def refDist (i : Fin 128) (j : Fin 256) : EReal := FloatOps.sitofp (F := Ideal) .f32 (IntOp.muli (gap i j) 16#32)

/-- The slopes as one array. -/
def slopeArr : FVec Ideal S16 .f32 := fun i => headSlope (i 0)

/-- The queries by residue, block and head. -/
def queryArr (a : FVec Ideal S4096x6144 .bf16) : FVec Ideal S16x2x128x16x128 .bf16 := fun i => tok a (i 0) (i 1) (i 2) (lane (i 3) (i 4))

/-- The rows of the block before and of a block, by head. -/
def bandArr (a : FVec Ideal S4096x6144 .bf16) : FVec Ideal S16x2x256x16x128 .bf16 := fun i => band a (i 0) (i 1) (i 2) (lane (i 3) (i 4))

/-- The mask of every query. -/
def maskArr : IVec S16x2x16x128x256 1 := fun i => refKeep (i 1) (i 3) (i 4)

/-- The masked scores of every query. -/
def scoreArr (M : IVec S16x2x16x128x256 1) (Q : FVec Ideal S16x2x128x16x128 .bf16) (K : FVec Ideal S16x2x256x16x128 .bf16) : FVec Ideal S16x2x16x128x256 .f32 := fun i =>
  Scalar.select (M i) (∑ x, Q (ix5 (i 0) (i 1) (i 3) (i 2) x) * K (ix5 (i 0) (i 1) (i 4) (i 2) x) + -headSlope (i 2) * refDist (i 3) (i 4)) (Ideal.ofBits .f32 0xFF800000#32)

/-- The exponentials of the scores less the largest. -/
def weightArr (S : FVec Ideal S16x2x16x128x256 .f32) : FVec Ideal S16x2x16x128x256 .f32 := fun i => Ideal.exp (S i - top fun x => S (ix5 (i 0) (i 1) (i 2) (i 3) x))

/-- The largest scores with the logarithms of the sums. -/
def lseArr (S P : FVec Ideal S16x2x16x128x256 .f32) : FVec Ideal S16x2x16x128x1 .f32 := fun i =>
  (top fun x => S (ix5 (i 0) (i 1) (i 2) (i 3) x)) + Ideal.log (∑ x, P (ix5 (i 0) (i 1) (i 2) (i 3) x))

/-- The slopes, as the reference writes them. -/
theorem slopes_eq : (fun i => FloatOps.ofBits .f32 (lit0 (S16.rowMajor i)) : FVec Ideal S16 .f32) = slopeArr := by
  funext i
  have h : ∀ k : Fin 16, lit0 (S16.rowMajor (ix1 k)) = (![0x3F3504F3#32, 0x3F000000#32, 0x3EB504F3#32, 0x3E800000#32, 0x3E3504F3#32, 0x3E000000#32, 0x3DB504F3#32, 0x3D800000#32, 0x3D3504F3#32, 0x3D000000#32, 0x3CB504F3#32, 0x3C800000#32, 0x3C3504F3#32, 0x3C000000#32, 0x3BB504F3#32, 0x3B800000#32] : Fin 16 → BitVec 32) k := by decide +kernel
  have e : i = ix1 (n0 := 16) (i 0) := by
    funext k
    rw [Subsingleton.elim k 0]
    rfl
  rw [e]
  exact congrArg (Ideal.ofBits .f32) (h (i 0))

/-- The padding is zero. -/
theorem pad_zero : FloatOps.sitofp (F := Ideal) .bf16 0#32 = 0 := by
  show (((0#32 : BitVec 32).toInt : ℝ) : EReal) = 0
  simp

/-- The queries by residue, block and head, as the reference writes them. -/
theorem queries_eq (a : FVec Ideal S4096x6144 .bf16) :
    (shapeCast _ (pad S16x256x16x128 ![0, 0, 0, 0] ![0, 0, 0, 0] ![0, 0, 0, 0] (shapeCast _ (transpose S1x16x256x16x128 [0, 2, 1, 3, 4] (shapeCast _ (shapeCast _ (extractStridedSlice S1x4096x1x16x128 ![0, 0, 2, 0, 0] (shapeCast _ a shapeCasts_S4096x6144_S1x4096x3x16x128) slices_S1x4096x3x16x128_S1x4096x1x16x128_0_0_2_0_0) shapeCasts_S1x4096x1x16x128_S1x4096x16x128) shapeCasts_S1x4096x16x128_S1x256x16x16x128) transposes_S1x256x16x16x128_S1x16x256x16x128_0_2_1_3_4) shapeCasts_S1x16x256x16x128_S16x256x16x128) (sitofp .bf16 (constantI S_ 32 0#32)) pads_S16x256x16x128_S16x256x16x128_000_000_000_000 h_S_) shapeCasts_S16x256x16x128_S16x2x128x16x128 : FVec Ideal S16x2x128x16x128 .bf16)
      = queryArr a := by
  funext i
  show _ = tok a (i 0) (i 1) (i 2) (lane (i 3) (i 4))
  have h1 : (i 1).val < 2 := (i 1).isLt
  have h2 : (i 2).val < 128 := (i 2).isLt
  pointwise [tok, lane]
  all_goals
    split_ifs
    all_goals first | omega | (blk_point []; all_goals omega)

/-- The rows of the block before and of a block, as the reference writes them. -/
theorem band_eq (a : FVec Ideal S4096x6144 .bf16) :
    (concatenate S16x2x256x16x128 2 [⟨S16x2x128x16x128, (shapeCast _ (extractStridedSlice S16x256x16x128 ![0, 0, 0, 0] (pad S16x384x16x128 ![0, 128, 0, 0] ![0, 0, 0, 0] ![0, 0, 0, 0] (shapeCast _ (transpose S1x16x256x16x128 [0, 2, 1, 3, 4] (shapeCast _ (shapeCast _ (extractStridedSlice S1x4096x1x16x128 ![0, 0, 2, 0, 0] (shapeCast _ a shapeCasts_S4096x6144_S1x4096x3x16x128) slices_S1x4096x3x16x128_S1x4096x1x16x128_0_0_2_0_0) shapeCasts_S1x4096x1x16x128_S1x4096x16x128) shapeCasts_S1x4096x16x128_S1x256x16x16x128) transposes_S1x256x16x16x128_S1x16x256x16x128_0_2_1_3_4) shapeCasts_S1x16x256x16x128_S16x256x16x128) (sitofp .bf16 (constantI S_ 32 0#32)) pads_S16x256x16x128_S16x384x16x128_000_12800_000_000 h_S_) slices_S16x384x16x128_S16x256x16x128_0_0_0_0) shapeCasts_S16x256x16x128_S16x2x128x16x128)⟩, ⟨S16x2x128x16x128, (shapeCast _ (extractStridedSlice S16x256x16x128 ![0, 128, 0, 0] (pad S16x384x16x128 ![0, 128, 0, 0] ![0, 0, 0, 0] ![0, 0, 0, 0] (shapeCast _ (transpose S1x16x256x16x128 [0, 2, 1, 3, 4] (shapeCast _ (shapeCast _ (extractStridedSlice S1x4096x1x16x128 ![0, 0, 2, 0, 0] (shapeCast _ a shapeCasts_S4096x6144_S1x4096x3x16x128) slices_S1x4096x3x16x128_S1x4096x1x16x128_0_0_2_0_0) shapeCasts_S1x4096x1x16x128_S1x4096x16x128) shapeCasts_S1x4096x16x128_S1x256x16x16x128) transposes_S1x256x16x16x128_S1x16x256x16x128_0_2_1_3_4) shapeCasts_S1x16x256x16x128_S16x256x16x128) (sitofp .bf16 (constantI S_ 32 0#32)) pads_S16x256x16x128_S16x384x16x128_000_12800_000_000 h_S_) slices_S16x384x16x128_S16x256x16x128_0_128_0_0) shapeCasts_S16x256x16x128_S16x2x128x16x128)⟩] concatenates_S16x2x128x16x128_S16x2x128x16x128_S16x2x256x16x128_d2 : FVec Ideal S16x2x256x16x128 .bf16)
      = bandArr a := by
  funext i
  show _ = band a (i 0) (i 1) (i 2) (lane (i 3) (i 4))
  have h0 : (i 0).val < 16 := (i 0).isLt
  have h1 : (i 1).val < 2 := (i 1).isLt
  have h2 : (i 2).val < 256 := (i 2).isLt
  pointwise [band, pick, before, tok, lane]
  all_goals
    split_ifs
    all_goals first | omega | exact pad_zero | (blk_point []; all_goals omega)

/-- The mask, as the reference writes it. -/
theorem mask_eq : (broadcastInDim S16x2x16x128x256 ![0, 1, 2, 3, 4] bcast_S1x2x1x128x256_S16x2x16x128x256_0_1_2_3_4 (broadcastInDim S1x2x1x128x256 ![1, 3, 4] bcast_S2x128x256_S1x2x1x128x256_1_3_4 (andi (broadcastInDim S2x128x256 ![0, 1, 2] bcast_S1x128x256_S2x128x256_0_1_2 (andi (broadcastInDim S1x128x256 ![1, 2] bcast_S128x256_S1x128x256_1_2 (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32)))) (broadcastInDim S1x128x256 ![1, 2] bcast_S128x256_S1x128x256_1_2 (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S2x128x256 ![0, 1, 2] bcast_S2x1x256_S2x128x256_0_1_2 (cmpi .sge (addi (broadcastInDim S2x1x256 ![0, 1, 2] bcast_S2x1x1_S2x1x256_0_1_2 (subi (muli (broadcastInDim S2x1x1 ![0] bcast_S2_S2x1x1_0 (iotaInDim S2 32 0)) (broadcastInDim S2x1x1 ![] bcast_S_S2x1x1 (constantI S_ 32 128#32))) (broadcastInDim S2x1x1 ![] bcast_S_S2x1x1 (constantI S_ 32 128#32)))) (broadcastInDim S2x1x256 ![0, 1, 2] bcast_S1x1x256_S2x1x256_0_1_2 (broadcastInDim S1x1x256 ![1, 2] bcast_S1x256_S1x1x256_1_2 (broadcastInDim S1x256 ![1] bcast_S256_S1x256_1 (iotaInDim S256 32 0))))) (broadcastInDim S2x1x256 ![] bcast_S_S2x1x256 (constantI S_ 32 0#32))))))) = maskArr := by
  funext i
  show _ = refKeep (i 1) (i 3) (i 4)
  pointwise [refKeep, gap]

/-- The masked scores, as the reference writes them. -/
theorem score_eq (M : IVec S16x2x16x128x256 1) (Q : FVec Ideal S16x2x128x16x128 .bf16) (K : FVec Ideal S16x2x256x16x128 .bf16) :
    select M (addf (Host.dotGeneral dot_S16x2x128x16x128_S16x2x256x16x128_S16x2x16x128x256_4_4_2_2_013_013 none Q K) (broadcastInDim S16x2x16x128x256 ![0, 1, 2, 3, 4] bcast_S1x1x16x128x256_S16x2x16x128x256_0_1_2_3_4 (broadcastInDim S1x1x16x128x256 ![2, 3, 4] bcast_S16x128x256_S1x1x16x128x256_2_3_4 (mulf (broadcastInDim S16x128x256 ![0, 1, 2] bcast_S16x1x1_S16x128x256_0_1_2 (Host.negf (broadcastInDim S16x1x1 ![0] bcast_S16_S16x1x1_0 slopeArr))) (broadcastInDim S16x128x256 ![0, 1, 2] bcast_S1x128x256_S16x128x256_0_1_2 (broadcastInDim S1x128x256 ![1, 2] bcast_S128x256_S1x128x256_1_2 (sitofp .f32 (muli (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 16#32)))))))))) (broadcastInDim S16x2x16x128x256 ![] bcast_S_S16x2x16x128x256 (id (constant S_ .f32 0xFF800000#32)))
      = scoreArr M Q K := by
  funext i
  show _ = Scalar.select (M i) (∑ x, Q (ix5 (i 0) (i 1) (i 3) (i 2) x) * K (ix5 (i 0) (i 1) (i 4) (i 2) x) + -headSlope (i 2) * refDist (i 3) (i 4)) (Ideal.ofBits .f32 0xFF800000#32)
  pointwise [refDist, gap, slopeArr]
  rfl

/-- The exponentials of the scores less the largest, as the reference writes them. -/
theorem prob_eq (S : FVec Ideal S16x2x16x128x256 .f32) :
    Host.exp (subf S (broadcastInDim S16x2x16x128x256 ![0, 1, 2, 3, 4] bcast_S16x2x16x128x1_S16x2x16x128x256_0_1_2_3_4 (broadcastInDim S16x2x16x128x1 ![0, 1, 2, 3] bcast_S16x2x16x128_S16x2x16x128x1_0_1_2_3 (Host.reduce FloatOps.maximumf S (constant S_ .f32 0xFF800000#32) reducesTo_S16x2x16x128x256_S16x2x16x128_d4 h_S_)))) = weightArr S := by
  funext i
  show _ = Ideal.exp (S i - top fun x => S (ix5 (i 0) (i 1) (i 2) (i 3) x))
  pointwise [top]

/-- The values averaged, as the reference writes it. -/
theorem average_eq (V : FVec Ideal S16x2x256x16x128 .bf16) (P : FVec Ideal S16x2x16x128x256 .f32) :
    (shapeCast _ (shapeCast _ (transpose S1x256x16x16x128 [0, 2, 1, 3, 4] (shapeCast _ (shapeCast _ (transpose S16x2x128x16x128 [0, 1, 4, 2, 3] (Host.dotGeneral dot_S16x2x256x16x128_S16x2x16x128x256_S16x2x16x128x128_2_4_4_3_013_012 none (extf .f32 V bitsLt_bf16_f32) (Host.divf P (broadcastInDim S16x2x16x128x256 ![0, 1, 2, 3, 4] bcast_S16x2x16x128x1_S16x2x16x128x256_0_1_2_3_4 (broadcastInDim S16x2x16x128x1 ![0, 1, 2, 3] bcast_S16x2x16x128_S16x2x16x128x1_0_1_2_3 (Host.reduceAdd P (constant S_ .f32 0x00000000#32) reducesTo_S16x2x16x128x256_S16x2x16x128_d4 h_S_))))) transposes_S16x2x16x128x128_S16x2x128x16x128_0_1_4_2_3) shapeCasts_S16x2x128x16x128_S16x256x16x128) shapeCasts_S16x256x16x128_S1x16x256x16x128) transposes_S1x16x256x16x128_S1x256x16x16x128_0_2_1_3_4) shapeCasts_S1x256x16x16x128_S1x4096x16x128) shapeCasts_S1x4096x16x128_S256x32768 : FVec Ideal S256x32768 .f32) = fun i => ∑ j, V (ix5 (resOf (i 1)) (blockOf (i 0)) j (headOf (colOf (i 1))) (placeOf (colOf (i 1))))
      * Ideal.div (P (ix5 (resOf (i 1)) (blockOf (i 0)) (headOf (colOf (i 1))) (within (i 0)) j)) (∑ x, P (ix5 (resOf (i 1)) (blockOf (i 0)) (headOf (colOf (i 1))) (within (i 0)) x)) := by
  funext i
  pointwise [resOf, colOf, blockOf, headOf, placeOf, within]
  simp only [show (i 1).val % 2048 / 128 = (i 1).val / 128 % 16 by omega, show (i 1).val % 2048 % 128 = (i 1).val % 128 by omega]

/-- The largest scores, as the reference writes them. -/
theorem max_eq (S : FVec Ideal S16x2x16x128x256 .f32) :
    broadcastInDim S16x2x16x128x1 ![0, 1, 2, 3] bcast_S16x2x16x128_S16x2x16x128x1_0_1_2_3 (Host.reduce FloatOps.maximumf S (constant S_ .f32 0xFF800000#32) reducesTo_S16x2x16x128x256_S16x2x16x128_d4 h_S_) = fun i => top fun x => S (ix5 (i 0) (i 1) (i 2) (i 3) x) := by
  funext i
  pointwise [top]

/-- The sums, as the reference writes them. -/
theorem sum_eq (P : FVec Ideal S16x2x16x128x256 .f32) :
    broadcastInDim S16x2x16x128x1 ![0, 1, 2, 3] bcast_S16x2x16x128_S16x2x16x128x1_0_1_2_3 (Host.reduceAdd P (constant S_ .f32 0x00000000#32) reducesTo_S16x2x16x128x256_S16x2x16x128_d4 h_S_) = fun i => ∑ x, P (ix5 (i 0) (i 1) (i 2) (i 3) x) := by
  funext i
  pointwise

/-- The largest scores with the logarithms of the sums, as the reference writes them. -/
theorem lse_eq (S P : FVec Ideal S16x2x16x128x256 .f32) :
    addf (broadcastInDim S16x2x16x128x1 ![0, 1, 2, 3] bcast_S16x2x16x128_S16x2x16x128x1_0_1_2_3 (Host.reduce FloatOps.maximumf S (constant S_ .f32 0xFF800000#32) reducesTo_S16x2x16x128x256_S16x2x16x128_d4 h_S_)) (Host.log (broadcastInDim S16x2x16x128x1 ![0, 1, 2, 3] bcast_S16x2x16x128_S16x2x16x128x1_0_1_2_3 (Host.reduceAdd P (constant S_ .f32 0x00000000#32) reducesTo_S16x2x16x128x256_S16x2x16x128_d4 h_S_))) = lseArr S P := by
  rw [max_eq, sum_eq]
  rfl

/-- The padding of the logarithms is zero. -/
theorem pad_log_zero : FloatOps.sitofp (F := Ideal) .f32 0#32 = 0 := by
  show (((0#32 : BitVec 32).toInt : ℝ) : EReal) = 0
  simp

/-- The logarithms by token and head, padded to a whole tile. -/
theorem logs_eq (Z : FVec Ideal S16x2x16x128x1 .f32) :
    (shapeCast _ (pad S4096x128 ![0, 0] ![0, 112] ![0, 0] (shapeCast _ (shapeCast _ (transpose S1x256x16x16 [0, 2, 1, 3] (shapeCast _ (shapeCast _ (transpose S16x2x128x16 [0, 1, 3, 2] (shapeCast _ Z shapeCasts_S16x2x16x128x1_S16x2x16x128) transposes_S16x2x16x128_S16x2x128x16_0_1_3_2) shapeCasts_S16x2x128x16_S16x256x16) shapeCasts_S16x256x16_S1x16x256x16) transposes_S1x16x256x16_S1x256x16x16_0_2_1_3) shapeCasts_S1x256x16x16_S1x4096x16) shapeCasts_S1x4096x16_S4096x16) (sitofp .f32 (constantI S_ 32 0#32)) pads_S4096x16_S4096x128_000_01120 h_S_) shapeCasts_S4096x128_S256x2048 : FVec Ideal S256x2048 .f32) = fun i => if h : (logOf (i 1)).val < 16 then
        Z (ix5 (resOfLog (i 1)) (blockOf (i 0)) ⟨(logOf (i 1)).val, h⟩ (within (i 0)) 0) else 0 := by
  funext i
  have h0 : (i 0).val < 256 := (i 0).isLt
  have h1 : (i 1).val < 2048 := (i 1).isLt
  pointwise [resOfLog, logOf, blockOf, within]
  all_goals
    split_ifs
    all_goals first | omega | rfl | exact pad_log_zero | (blk_point []; all_goals omega)

/-- The reference's scores. -/
def scores (q k : FVec Ideal S4096x6144 .bf16) (r : Fin 16) (b : Fin 2) (h : Fin 16) (i : Fin 128) (j : Fin 256) : EReal :=
  Scalar.select (refKeep b i j) (∑ x, tok q r b i (lane h x) * band k r b j (lane h x) + -headSlope h * refDist i j) (Ideal.ofBits .f32 0xFF800000#32)

/-- The attention the reference computes. -/
def outRef (q k v : FVec Ideal S4096x6144 .bf16) : FVec Ideal S256x32768 .f32 := fun i =>
  ∑ j, band v (resOf (i 1)) (blockOf (i 0)) j (lane (headOf (colOf (i 1))) (placeOf (colOf (i 1))))
    * Ideal.div (Ideal.exp (scores q k (resOf (i 1)) (blockOf (i 0)) (headOf (colOf (i 1))) (within (i 0)) j - top (scores q k (resOf (i 1)) (blockOf (i 0)) (headOf (colOf (i 1))) (within (i 0)))))
        (∑ x, Ideal.exp (scores q k (resOf (i 1)) (blockOf (i 0)) (headOf (colOf (i 1))) (within (i 0)) x - top (scores q k (resOf (i 1)) (blockOf (i 0)) (headOf (colOf (i 1))) (within (i 0)))))

/-- The logarithms of the sums the reference computes. -/
def logRef (q k : FVec Ideal S4096x6144 .bf16) : FVec Ideal S256x2048 .f32 := fun i =>
  if h : (logOf (i 1)).val < 16 then logSum (scores q k (resOfLog (i 1)) (blockOf (i 0)) ⟨(logOf (i 1)).val, h⟩ (within (i 0))) else 0

variable (m : (ℓ : Loc nD τ sig) → Buf (Elt Ideal) ℓ)

/-- The reference's first result. -/
theorem out_eq (c : Dev nD) : Cert.Reference21Ideal.Value.res_main_v104 m c = outRef (m ((c.tc : Thread nD τ).loc main_arg0)) (m ((c.tc : Thread nD τ).loc main_arg1)) (m ((c.tc : Thread nD τ).loc main_arg2)) := by
  unfold Cert.Reference21Ideal.Value.res_main_v104
  rw [slopes_eq, queries_eq, band_eq, band_eq, mask_eq, score_eq, prob_eq]
  exact (average_eq _ _).trans rfl

/-- The reference's second result. -/
theorem log_eq (c : Dev nD) : Cert.Reference21Ideal.Value.res_main_v105 m c = logRef (m ((c.tc : Thread nD τ).loc main_arg0)) (m ((c.tc : Thread nD τ).loc main_arg1)) := by
  unfold Cert.Reference21Ideal.Value.res_main_v105
  rw [slopes_eq, queries_eq, band_eq, mask_eq, score_eq, prob_eq, lse_eq]
  exact (logs_eq _).trans rfl

end Cert.AttnD16Reference
end
-- ==== Proof.AttnEqualD16.lean ====
/- With dilation 16 the kernel and the reference compute the same attention. -/
module

public import proofs.«01_k».proof.Proof.AttnReferenceD16
public import proofs.«01_k».proof.Proof.AttendReal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnD16Equal

open Cert.Kernel21Ideal Cert.Kernel21Ideal.Gen
open Cert.Attend Cert.AttnD16 Cert.AttnD16Reference

/-- The masks agree. -/
theorem keep_eq (b : Fin 2) (i : Fin 128) (j : Fin 256) : refKeep b i j = keep (past b) i j := by
  have h : IntOp.cmpi .sge (IntOp.addi (IntOp.subi (IntOp.muli (BitVec.ofNat 32 b.val) 128#32) 128#32) (BitVec.ofNat 32 j.val)) 0#32
      = IntOp.ori (IntOp.cmpi .sge (BitVec.ofNat 32 j.val) 128#32) (past b) :=
    (by decide +kernel : ∀ (b : Fin 2) (j : Fin 256),
      IntOp.cmpi .sge (IntOp.addi (IntOp.subi (IntOp.muli (BitVec.ofNat 32 b.val) 128#32) 128#32) (BitVec.ofNat 32 j.val)) 0#32
        = IntOp.ori (IntOp.cmpi .sge (BitVec.ofNat 32 j.val) 128#32) (past b)) b j
  unfold refKeep keep
  rw [h]

/-- Before the first block every key is masked. -/
theorem first_masked (b : Fin 2) (i : Fin 128) (j : Fin 256) (hb : b.val = 0) (hj : j.val < 128) : keep (past b) i j = 0#1 := by
  have h : IntOp.ori (IntOp.cmpi .sge (BitVec.ofNat 32 j.val) 128#32) (past b) = 0#1 :=
    (by decide +kernel : ∀ (b : Fin 2) (j : Fin 256), b.val = 0 → j.val < 128 →
      IntOp.ori (IntOp.cmpi .sge (BitVec.ofNat 32 j.val) 128#32) (past b) = 0#1) b j hb hj
  unfold keep
  rw [h]
  exact BitVec.and_zero

/-- A query attends to its own key. -/
theorem own_kept (b : Fin 2) (i : Fin 128) : keep (past b) i ⟨i.val + 128, by have := i.isLt; omega⟩ = 1#1 :=
  (by decide +kernel : ∀ (b : Fin 2) (i : Fin 128), keep (past b) i ⟨i.val + 128, by have := i.isLt; omega⟩ = 1#1) b i

/-- The word of the dilation. -/
theorem ratio : Ideal.ofBits .f32 0x41800000#32 = ((16 : ℝ) : EReal) := by
  simp [Ideal.ofBits, Ideal.ieee, -EReal.coe_mul]; norm_num

/-- The distances agree: the dilation multiplies it before or after the conversion to a float. -/
theorem dist_eq (i : Fin 128) (j : Fin 256) : refDist i j = dist i j := by
  have h : (IntOp.muli (gap i j) 16#32).toInt = (gap i j).toInt * 16 :=
    (by decide +kernel : ∀ (i : Fin 128) (j : Fin 256), (IntOp.muli (gap i j) 16#32).toInt = (gap i j).toInt * 16) i j
  unfold refDist AttnD16.dist
  rw [ratio]
  show (((IntOp.muli (gap i j) 16#32).toInt : ℝ) : EReal) = (((gap i j).toInt : ℝ) : EReal) * ((16 : ℝ) : EReal)
  rw [h, ← EReal.coe_mul]
  congr 1
  push_cast
  ring

/-- The distance is a real number. -/
theorem dist_real (i : Fin 128) (j : Fin 256) : Real' (dist i j) := (sitofp_real _).mul ⟨16, ratio⟩

/-- Where there is a block before, the reference's rows are the kernel's two blocks. -/
theorem band_pick (a : FVec Ideal S4096x6144 .bf16) (r : Fin 16) (b : Fin 2) (j : Fin 256) (l : Fin 2048) (h : ¬(b.val = 0 ∧ j.val < 128)) :
    band a r b j l = pick (fun p => tok a r (before b) p l) (fun p => tok a r b p l) j := by
  unfold band pick
  by_cases hj : j.val < 128
  · rw [dif_pos hj, dif_pos hj]
    exact if_neg fun hb => h ⟨hb, hj⟩
  · rw [dif_neg hj, dif_neg hj]

/-- The scores agree. -/
theorem scores_eq (q k : FVec Ideal S4096x6144 .bf16) (r : Fin 16) (b : Fin 2) (h : Fin 16) (i : Fin 128) :
    scores q k r b h i = scoreAt (past b) (block q r b) (block k r b) (block k r (before b)) h i := by
  funext j
  unfold scores scoreAt score
  rw [keep_eq, dist_eq]
  by_cases hm : b.val = 0 ∧ j.val < 128
  · rw [first_masked b i j hm.1 hm.2]
    rfl
  · congr 1
    rw [sub_eq_add_neg, EReal.neg_mul]
    congr 1
    refine Finset.sum_congr rfl fun x _ => congrArg (tok q r b i (lane h x) * ·) ?_
    rw [band_pick k r b j (lane h x) hm]
    unfold pick
    by_cases hj : j.val < 128
    · rw [dif_pos hj, dif_pos hj]; rfl
    · rw [dif_neg hj, dif_neg hj]; rfl

/-- The logarithms of the sums agree. -/
theorem log_eq (q k : FVec Ideal S4096x6144 .bf16) : wholeLog q k = logRef q k := by
  funext x
  show _ = if h : (logOf (x 1)).val < 16 then logSum (scores q k (resOfLog (x 1)) (blockOf (x 0)) ⟨(logOf (x 1)).val, h⟩ (within (x 0))) else 0
  simp only [scores_eq]
  rfl

/-- A row of two blocks of real numbers is real. -/
theorem pick_real {p c : Fin 128 → EReal} (hp : ∀ i, Real' (p i)) (hc : ∀ i, Real' (c i)) (j : Fin 256) : Real' (pick p c j) := by
  unfold pick
  split
  · exact hp _
  · exact hc _

/-- For real arguments the attention agrees. -/
theorem out_eq (q k v : FVec Ideal S4096x6144 .bf16) (hq : ∀ i, Real' (q i)) (hk : ∀ i, Real' (k i)) (hv : ∀ i, Real' (v i)) :
    whole q k v = outRef q k v := by
  funext x
  refine Eq.symm ?_
  have key : ∀ (r : Fin 16) (b : Fin 2) (h : Fin 16) (p i : Fin 128),
      ∑ j, band v r b j (lane h p) * Ideal.div (Ideal.exp (scores q k r b h i j - top (scores q k r b h i))) (∑ x, Ideal.exp (scores q k r b h i x - top (scores q k r b h i)))
        = attend (scoreAt (past b) (block q r b) (block k r b) (block k r (before b)) h i) (pick (fun a => tok v r (before b) a (lane h p)) (fun a => tok v r b a (lane h p))) := by
    intro r b h p i
    rw [scores_eq]
    have hkr : ∀ j x, Real' (pick (fun a x => block k r (before b) (ix2 a (lane h x))) (fun a x => block k r b (ix2 a (lane h x))) j x) := by
      intro j x
      unfold pick
      split
      · exact hk _
      · exact hk _
    refine attend_eq (k := ⟨i.val + 128, by have := i.isLt; omega⟩) (fun j => ?_) ?_ (fun j => ?_) (fun j => ?_)
    · exact score_real (headSlope_real h) (dist_real i j) (fun x => hq _) (hkr j)
    · exact score_kept (own_kept b i) (headSlope_real h) (dist_real i _) (fun x => hq _) (hkr _)
    · exact pick_real (fun a => hv _) (fun a => hv _) j
    · by_cases hm : b.val = 0 ∧ j.val < 128
      · refine Or.inr ⟨score_masked (first_masked b i j hm.1 hm.2), ?_⟩
        unfold band pick
        rw [dif_pos hm.2]
        exact if_pos hm.1
      · exact Or.inl (band_pick v r b j (lane h p) hm)
  exact key _ _ _ _ _

end Cert.AttnD16Equal
end
-- ==== Proof.GateBias.lean ====
/- The gradient of the bias, point by point. -/
module

public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.GateBlock

@[expose] public section

set_option maxRecDepth 16384

noncomputable section

open Idealize.ShloMosaic Idealize.ShloMosaic.TcCoe Idealize.SL.Sem
open Idealize.ShloMosaic.Pipeline (Dat)

namespace Cert.GateGrad

open Cert.KernelIdeal Cert.KernelIdeal.Gen

variable (m : (ℓ : Loc nD τ sig) → Buf (Elt Ideal) ℓ)

/-- At the first grid point the block holds that point's part alone. -/
theorem dbias_A (c : Dev nD) (t : Fin cfg0.N) (h : t.val % 32 = 0) (y : S128x2048.Idx) :
    (outsAt0 m c t.val t.isLt).2.2.1 y = 0 + dsv (iblk m c 0 t) (iblk m c 2 t) y := by
  rw [outsAt0_A m c t h]
  frame_open
  simp (disch := decide) only [↓ View.readCov_skip, ↓ View.readCov_cons_toLoadRect, ↓ View.readCov_fill]
  frame_out
  rw [canon_take 16 _ y (View.cover_of_tiledL _ ![128, 128] (by sl_kernel_rfl) y)]
  simp only [List.take_succ_cons, List.take_zero]
  canon_tiles x h
  all_goals
    open_payloads
    pointwise [dsv]
    blk_point []

/-- At every later grid point the block grows by that point's part. -/
theorem dbias_B (c : Dev nD) (t : Fin cfg0.N) (h : ¬ t.val % 32 = 0) (y : S128x2048.Idx) :
    (outsAt0 m c t.val t.isLt).2.2.1 y = (outsAt0 m c (t.val - 1) (Nat.lt_of_le_of_lt (Nat.sub_le _ _) t.isLt)).2.2.1 y
      + dsv (iblk m c 0 t) (iblk m c 2 t) y := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.1 = X
  canon_tiles x h
  all_goals
    open_payloads
    pointwise [dsv]
    blk_point []

end Cert.GateGrad
end
-- ==== Proof.GateMix.lean ====
/- The gradient of the mixing matrices, point by point. -/
module

public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.GateBlock

@[expose] public section

set_option maxRecDepth 16384

noncomputable section

open Idealize.ShloMosaic Idealize.ShloMosaic.TcCoe Idealize.SL.Sem
open Idealize.ShloMosaic.Pipeline (Dat)

namespace Cert.GateGrad

open Cert.KernelIdeal Cert.KernelIdeal.Gen

variable (m : (ℓ : Loc nD τ sig) → Buf (Elt Ideal) ℓ)

/-- At the first grid point the block holds that point's part alone. -/
theorem dws_A (c : Dev nD) (t : Fin cfg0.N) (h : t.val % 32 = 0) (y : S16x128x128.Idx) :
    (outsAt0 m c t.val t.isLt).2.1 y = 0 + dws (iblk m c 0 t) (iblk m c 2 t) (iblk m c 3 t) y := by
  rw [outsAt0_A m c t h]
  frame_open
  simp (disch := decide) only [↓ View.readCov_skip, ↓ View.readCov_cons_toLoadRect, ↓ View.readCov_fill]
  frame_out
  rw [canon_take 16 _ y (View.cover_of_tiledL _ ![1, 128, 128] (by sl_kernel_rfl) y)]
  simp only [List.take_succ_cons, List.take_zero]
  simp only [normed_eq]
  canon_tiles x h
  all_goals
    open_payloads
    pointwise [dws, dsv, below]
    blk_point []
    all_goals omega

/-- At every later grid point the block grows by that point's part. -/
theorem dws_B (c : Dev nD) (t : Fin cfg0.N) (h : ¬ t.val % 32 = 0) (y : S16x128x128.Idx) :
    (outsAt0 m c t.val t.isLt).2.1 y = (outsAt0 m c (t.val - 1) (Nat.lt_of_le_of_lt (Nat.sub_le _ _) t.isLt)).2.1 y
      + dws (iblk m c 0 t) (iblk m c 2 t) (iblk m c 3 t) y := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.1 = X
  simp only [normed_eq]
  canon_tiles x h
  all_goals
    open_payloads
    pointwise [dws, dsv, below]
    blk_point []
    all_goals omega

end Cert.GateGrad
end
-- ==== Proof.GateGain.lean ====
/- The gradient of the gain, point by point. -/
module

public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.GateBlock

@[expose] public section

set_option maxRecDepth 16384

noncomputable section

open Idealize.ShloMosaic Idealize.ShloMosaic.TcCoe Idealize.SL.Sem
open Idealize.ShloMosaic.Pipeline (Dat)

namespace Cert.GateGrad

open Cert.KernelIdeal Cert.KernelIdeal.Gen

variable (m : (ℓ : Loc nD τ sig) → Buf (Elt Ideal) ℓ)

/-- At the first grid point the block holds that point's part alone. -/
theorem dgain_A (c : Dev nD) (t : Fin cfg0.N) (h : t.val % 32 = 0) (y : S1x2048.Idx) :
    (outsAt0 m c t.val t.isLt).2.2.2 y = 0 + dgain (iblk m c 0 t) (iblk m c 2 t) (iblk m c 5 t) y := by
  rw [outsAt0_A m c t h]
  frame_open
  simp (disch := decide) only [↓ View.readCov_skip, ↓ View.readCov_cons_toLoadRect, ↓ View.readCov_fill]
  frame_out
  refine Eq.trans ?_ ((dgain_eq (iblk m c 0 t) (iblk m c 2 t) (iblk m c 5 t) k0_pay12 y).trans ?_)
  · rw [← dvn_eq, ← unit_eq]
  · pointwise [k0_pay12]

/-- At every later grid point the block grows by that point's part. -/
theorem dgain_B (c : Dev nD) (t : Fin cfg0.N) (h : ¬ t.val % 32 = 0) (y : S1x2048.Idx) :
    (outsAt0 m c t.val t.isLt).2.2.2 y = (outsAt0 m c (t.val - 1) (Nat.lt_of_le_of_lt (Nat.sub_le _ _) t.isLt)).2.2.2 y
      + dgain (iblk m c 0 t) (iblk m c 2 t) (iblk m c 5 t) y := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.2 = X
  refine Eq.trans ?_ (dgain_eq _ _ _ X y)
  rw [← dvn_eq, ← unit_eq]

end Cert.GateGrad
end
-- ==== Proof.GateFinal.lean ====
/- What the accumulated gradients of the gate hold after the run. -/
module

public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.GateWhole
public import proofs.«01_k».proof.Proof.GateBias
public import proofs.«01_k».proof.Proof.GateMix
public import proofs.«01_k».proof.Proof.GateGain

@[expose] public section

set_option maxRecDepth 16384

noncomputable section

open Idealize.ShloMosaic Idealize.ShloMosaic.TcCoe Idealize.SL.Sem
open Idealize.ShloMosaic.Pipeline (Dat)

namespace Cert.GateGrad

open Cert.KernelIdeal Cert.KernelIdeal.Gen

variable (m : (ℓ : Loc nD τ sig) → Buf (Elt Ideal) ℓ)

/-- At the last grid point the block of the gradient of the bias is complete. -/
theorem total_bias (c : Dev nD) (t : Fin cfg0.N) (ht : t.val % 32 = 32 - 1) (y : S128x2048.Idx) :
    (outsAt0 m c t.val t.isLt).2.2.1 y = biasGrad (act (m ((c : Thread nD τ).loc main_arg0))) (m ((c : Thread nD τ).loc main_arg4)) y := by
  have hN : cfg0.N = 32 := rfl
  have e : (outsAt0 m c t.val t.isLt).2.2.1 y = (0 : EReal) + ∑ n : Fin 32, (dsv (iblk m c 0 ⟨n.val, n.isLt⟩) (iblk m c 2 ⟨n.val, n.isLt⟩) y : EReal) :=
    (Pipeline.eq_sum_fin_of_reset_step_apply_of_flush (M := EReal) (fun n h => (outsAt0 m c n h).2.2.1) 32 (fun _ => 0)
      (fun t y => dsv (iblk m c 0 t) (iblk m c 2 t) y)
      (fun t h j => dbias_A m c t h j) (fun t h j => dbias_B m c t h j) t ht y).trans
      (congrArg ((0 : EReal) + ·) (Finset.sum_congr rfl fun n _ => by
        have hn : (⟨32 * (t.val / 32) + n.val, Pipeline.run_point_lt_of_flush t ht n⟩ : Fin cfg0.N) = ⟨n.val, n.isLt⟩ :=
          Fin.ext (by have := t.isLt; have := n.isLt; simp only; omega)
        rw [hn]))
  rw [e, zero_add]
  refine Finset.sum_congr rfl fun n _ => ?_
  rw [block_act, block_cot]
  exact sv_block _ _ _ _

/-- After the run the array is the gradient of the bias: summed over the blocks of rows. -/
theorem final_bias (c : Dev nD) : (dats m 0 c).arrAt 9 cfg0.N = biasGrad (act (m ((c : Thread nD τ).loc main_arg0))) (m ((c : Thread nD τ).loc main_arg4)) := by
  refine (dats m 0 c).arrAt_eq_of_covers 9 _ (by decide +kernel) fun t hf y => ?_
  blk_simp
  rw [after0_9]
  refine (total_bias m c t ((flush0_9 t).mp hf) y).trans ?_
  congr 1
  blk_point [idx t]

/-- At the last grid point the block of the gradient of the mixing matrices is complete. -/
theorem total_mix (c : Dev nD) (t : Fin cfg0.N) (ht : t.val % 32 = 32 - 1) (y : S16x128x128.Idx) :
    (outsAt0 m c t.val t.isLt).2.1 y = mixGrad (act (m ((c : Thread nD τ).loc main_arg0))) (m ((c : Thread nD τ).loc main_arg1)) (m ((c : Thread nD τ).loc main_arg4)) y := by
  have hN : cfg0.N = 32 := rfl
  have e : (outsAt0 m c t.val t.isLt).2.1 y = (0 : EReal) + ∑ n : Fin 32, (dws (iblk m c 0 ⟨n.val, n.isLt⟩) (iblk m c 2 ⟨n.val, n.isLt⟩) (iblk m c 3 ⟨n.val, n.isLt⟩) y : EReal) :=
    (Pipeline.eq_sum_fin_of_reset_step_apply_of_flush (M := EReal) (fun n h => (outsAt0 m c n h).2.1) 32 (fun _ => 0)
      (fun t y => dws (iblk m c 0 t) (iblk m c 2 t) (iblk m c 3 t) y)
      (fun t h j => dws_A m c t h j) (fun t h j => dws_B m c t h j) t ht y).trans
      (congrArg ((0 : EReal) + ·) (Finset.sum_congr rfl fun n _ => by
        have hn : (⟨32 * (t.val / 32) + n.val, Pipeline.run_point_lt_of_flush t ht n⟩ : Fin cfg0.N) = ⟨n.val, n.isLt⟩ :=
          Fin.ext (by have := t.isLt; have := n.isLt; simp only; omega)
        rw [hn]))
  rw [e, zero_add]
  refine Finset.sum_congr rfl fun n _ => ?_
  rw [block_act, block_cot, block_gain]
  exact mixGrad_block _ _ _ _ _

/-- After the run the array is the gradient of the mixing matrices: summed over the blocks of rows. -/
theorem final_mix (c : Dev nD) : (dats m 0 c).arrAt 8 cfg0.N = mixGrad (act (m ((c : Thread nD τ).loc main_arg0))) (m ((c : Thread nD τ).loc main_arg1)) (m ((c : Thread nD τ).loc main_arg4)) := by
  refine (dats m 0 c).arrAt_eq_of_covers 8 _ (by decide +kernel) fun t hf y => ?_
  blk_simp
  rw [after0_8]
  refine (total_mix m c t ((flush0_8 t).mp hf) y).trans ?_
  congr 1
  blk_point [idx t]

/-- At the last grid point the block of the gradient of the gain is complete. -/
theorem total_gain (c : Dev nD) (t : Fin cfg0.N) (ht : t.val % 32 = 32 - 1) (y : S1x2048.Idx) :
    (outsAt0 m c t.val t.isLt).2.2.2 y = gainGrad (act (m ((c : Thread nD τ).loc main_arg0))) (m ((c : Thread nD τ).loc main_arg4)) (m ((c : Thread nD τ).loc main_arg2)) y := by
  have hN : cfg0.N = 32 := rfl
  have e : (outsAt0 m c t.val t.isLt).2.2.2 y = (0 : EReal) + ∑ n : Fin 32, (dgain (iblk m c 0 ⟨n.val, n.isLt⟩) (iblk m c 2 ⟨n.val, n.isLt⟩) (iblk m c 5 ⟨n.val, n.isLt⟩) y : EReal) :=
    (Pipeline.eq_sum_fin_of_reset_step_apply_of_flush (M := EReal) (fun n h => (outsAt0 m c n h).2.2.2) 32 (fun _ => 0)
      (fun t y => dgain (iblk m c 0 t) (iblk m c 2 t) (iblk m c 5 t) y)
      (fun t h j => dgain_A m c t h j) (fun t h j => dgain_B m c t h j) t ht y).trans
      (congrArg ((0 : EReal) + ·) (Finset.sum_congr rfl fun n _ => by
        have hn : (⟨32 * (t.val / 32) + n.val, Pipeline.run_point_lt_of_flush t ht n⟩ : Fin cfg0.N) = ⟨n.val, n.isLt⟩ :=
          Fin.ext (by have := t.isLt; have := n.isLt; simp only; omega)
        rw [hn]))
  rw [e, zero_add]
  refine Finset.sum_congr rfl fun n _ => ?_
  rw [block_act, block_cot, block_flip]
  exact gainGrad_block _ _ _ _ _

/-- After the run the array is the gradient of the gain: summed over the blocks of rows. -/
theorem final_gain (c : Dev nD) : (dats m 0 c).arrAt 10 cfg0.N = gainGrad (act (m ((c : Thread nD τ).loc main_arg0))) (m ((c : Thread nD τ).loc main_arg4)) (m ((c : Thread nD τ).loc main_arg2)) := by
  refine (dats m 0 c).arrAt_eq_of_covers 10 _ (by decide +kernel) fun t hf y => ?_
  blk_simp
  rw [after0_10]
  refine (total_gain m c t ((flush0_10 t).mp hf) y).trans ?_
  congr 1
  blk_point [idx t]

end Cert.GateGrad
end
-- ==== Proof.GateInput.lean ====
/- The gradient of the input of the gate, at the first grid point. -/
module

public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.GateBlock

@[expose] public section

set_option maxRecDepth 16384

noncomputable section

open Idealize.ShloMosaic Idealize.ShloMosaic.TcCoe Idealize.SL.Sem
open Idealize.ShloMosaic.Pipeline (Dat)

namespace Cert.GateGrad

open Cert.KernelIdeal Cert.KernelIdeal.Gen

variable (m : (ℓ : Loc nD τ sig) → Buf (Elt Ideal) ℓ)

set_option maxHeartbeats 1600000 in
/-- At the first grid point the output block is the block function of the inputs. -/
theorem dz_A (c : Dev nD) (t : Fin cfg0.N) (h : t.val % 32 = 0) (y : S128x4096.Idx) :
    (outsAt0 m c t.val t.isLt).1 y = dz (iblk m c 0 t) (iblk m c 1 t) (iblk m c 2 t) (iblk m c 3 t) (iblk m c 4 t) (iblk m c 5 t) (iblk m c 6 t) y := by
  rw [outsAt0_A m c t h]
  frame_open
  simp (disch := decide) only [↓ View.readCov_skip, ↓ View.readCov_cons_toLoadRect, ↓ View.readCov_fill]
  frame_out
  simp only [normed_eq, unit_eq]
  canon_tiles x h using View.cover_of_tiledBy _ ![128, 128] (by sl_kernel_rfl) y
  case piece0 =>
    rw [dvn_eq, high_eq (iblk m c 0 t) (iblk m c 1 t) (iblk m c 2 t) (iblk m c 3 t) (iblk m c 4 t) (iblk m c 5 t) (iblk m c 6 t) y x h0 h1]
  all_goals
    rw [dz_low _ _ _ _ _ _ _ y (by omega)]
    open_payloads
    pointwise [mixed, below]
    blk_point []
    all_goals omega

end Cert.GateGrad
end
-- ==== Proof.GateInputLater.lean ====
/- The gradient of the input of the gate, at the later grid points. -/
module

public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.GateBlock

@[expose] public section

set_option maxRecDepth 16384

noncomputable section

open Idealize.ShloMosaic Idealize.ShloMosaic.TcCoe Idealize.SL.Sem
open Idealize.ShloMosaic.Pipeline (Dat)

namespace Cert.GateGrad

open Cert.KernelIdeal Cert.KernelIdeal.Gen

variable (m : (ℓ : Loc nD τ sig) → Buf (Elt Ideal) ℓ)

set_option maxHeartbeats 1600000 in
/-- At a later grid point the output block is the block function of the inputs. -/
theorem dz_B (c : Dev nD) (t : Fin cfg0.N) (h : ¬ t.val % 32 = 0) (y : S128x4096.Idx) :
    (outsAt0 m c t.val t.isLt).1 y = dz (iblk m c 0 t) (iblk m c 1 t) (iblk m c 2 t) (iblk m c 3 t) (iblk m c 4 t) (iblk m c 5 t) (iblk m c 6 t) y := by
  rw [outsAt0_B m c t h]
  frame_open
  simp (disch := decide) only [↓ View.readCov_skip, ↓ View.readCov_cons_toLoadRect, ↓ View.readCov_fill]
  frame_out
  simp only [normed_eq, unit_eq]
  canon_tiles x h using View.cover_of_tiledBy _ ![128, 128] (by sl_kernel_rfl) y
  case piece0 =>
    rw [dvn_eq, high_eq (iblk m c 0 t) (iblk m c 1 t) (iblk m c 2 t) (iblk m c 3 t) (iblk m c 4 t) (iblk m c 5 t) (iblk m c 6 t) y x h0 h1]
  all_goals
    rw [dz_low _ _ _ _ _ _ _ y (by omega)]
    open_payloads
    pointwise [mixed, below]
    blk_point []
    all_goals omega

end Cert.GateGrad
end
-- ==== Proof.GateFinalInput.lean ====
/- What the gradient of the gate's input holds after the run. -/
module

public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.GateWhole
public import proofs.«01_k».proof.Proof.GateInput
public import proofs.«01_k».proof.Proof.GateInputLater

@[expose] public section

set_option maxRecDepth 16384

noncomputable section

open Idealize.ShloMosaic Idealize.ShloMosaic.TcCoe Idealize.SL.Sem
open Idealize.ShloMosaic.Pipeline (Dat)

namespace Cert.GateGrad

open Cert.KernelIdeal Cert.KernelIdeal.Gen

variable (m : (ℓ : Loc nD τ sig) → Buf (Elt Ideal) ℓ)

/-- Every grid point leaves its block of the input's gradient. -/
theorem point_input (c : Dev nD) (t : Fin cfg0.N) (y : S128x4096.Idx) :
    (outsAt0 m c t.val t.isLt).1 y = inputGrad (act (m ((c : Thread nD τ).loc main_arg0))) (deriv (m ((c : Thread nD τ).loc main_arg0))) (m ((c : Thread nD τ).loc main_arg1)) (m ((c : Thread nD τ).loc main_arg4)) (m ((c : Thread nD τ).loc main_arg2)) (m ((c : Thread nD τ).loc main_arg3)) (ix2 (row (num t) (y 0)) (y 1)) := by
  have e : (outsAt0 m c t.val t.isLt).1 y = dz (iblk m c 0 t) (iblk m c 1 t) (iblk m c 2 t) (iblk m c 3 t) (iblk m c 4 t) (iblk m c 5 t) (iblk m c 6 t) y := by
    by_cases h : t.val % 32 = 0
    · exact dz_A m c t h y
    · exact dz_B m c t h y
  rw [e, block_act, block_deriv, block_cot, block_gain, block_mix, block_flip, block_spread]
  exact inputGrad_block _ _ _ _ _ _ _ _

/-- After the run the array is the input's gradient. -/
theorem final_input (c : Dev nD) : (dats m 0 c).arrAt 7 cfg0.N = inputGrad (act (m ((c : Thread nD τ).loc main_arg0))) (deriv (m ((c : Thread nD τ).loc main_arg0))) (m ((c : Thread nD τ).loc main_arg1)) (m ((c : Thread nD τ).loc main_arg4)) (m ((c : Thread nD τ).loc main_arg2)) (m ((c : Thread nD τ).loc main_arg3)) := by
  refine (dats m 0 c).arrAt_eq_of_covers 7 _ (by decide +kernel) fun t hf y => ?_
  blk_simp
  rw [after0_7]
  refine (point_input m c t y).trans ?_
  congr 1
  blk_point [idx t]
  show 128 * t.val + (y 0).val = t.val * 128 + (y 0).val
  rw [Nat.mul_comm]

end Cert.GateGrad
end
-- ==== Proof.GateContract.lean ====
/- A product contracted over blocks of rows and lanes at once, entry by entry. -/
module

public import proofs.«01_k».proof.Proof.Gen.ReferenceIdeal.Run
public import Idealize.ShloMosaic.Lib.Pipeline.ValueKit
public import Idealize.ShloMosaic.Lib.Pointwise
public import proofs.«01_k».proof.Proof.GateWhole

@[expose] public section

set_option maxRecDepth 16384

noncomputable section

open Idealize.ShloMosaic Idealize.ShloMosaic.TcCoe Idealize.SL.Sem
open Idealize.ShloMosaic.Pipeline (Dat)

namespace Cert.GateReference

open Cert.ReferenceIdeal Cert.ReferenceIdeal.Gen
open Cert.GateGrad (act gelu weight slope geluGrad row lane blockOf within groupOf lo hi sv rms hat tri normGrad mix below)

/-- The product of the cotangent with the normalised values, contracted over the blocks of rows and the lanes. -/
abbrev prod : DotDims S16x1x32x128x128 S1x32x128x16x128 S16x128x128 := dot_S16x1x32x128x128_S1x32x128x16x128_S16x128x128_123_014_4_2_0_3

/-- The contracted index of a block of rows and a lane. -/
def pair (n : Fin 32) (l : Fin 128) : prod.contr.Idx := fun p =>
  match p with
  | ⟨0, _⟩ => (0 : Fin 1)
  | ⟨1, _⟩ => n
  | ⟨2, _⟩ => l

/-- The contracted indices are the pairs of a block of rows and a lane. -/
def pairs : Fin 32 × Fin 128 ≃ prod.contr.Idx where
  toFun k := pair k.1 k.2
  invFun q := ((q ⟨1, by decide⟩ : Fin 32), (q ⟨2, by decide⟩ : Fin 128))
  left_inv _ := rfl
  right_inv q := by
    funext p
    match p with
    | ⟨0, _⟩ => exact (Subsingleton.elim (α := Fin 1) _ _)
    | ⟨1, _⟩ => rfl
    | ⟨2, _⟩ => rfl

/-- The entry of the left operand that a contracted index reads. -/
theorem left_pair (i : S16x128x128.Idx) (n : Fin 32) (l : Fin 128) : prod.lhsIdx i (pair n l) = ix5 (i 0) 0 n l (i 1) := by
  funext a
  match a with
  | ⟨0, _⟩ => rfl
  | ⟨1, _⟩ => rfl
  | ⟨2, _⟩ => rfl
  | ⟨3, _⟩ => rfl
  | ⟨4, _⟩ => rfl

/-- The entry of the right operand that a contracted index reads. -/
theorem right_pair (i : S16x128x128.Idx) (n : Fin 32) (l : Fin 128) : prod.rhsIdx i (pair n l) = ix5 0 n (i 2) (i 0) l := by
  funext a
  match a with
  | ⟨0, _⟩ => rfl
  | ⟨1, _⟩ => rfl
  | ⟨2, _⟩ => rfl
  | ⟨3, _⟩ => rfl
  | ⟨4, _⟩ => rfl

/-- The product at an entry: the sum over the blocks of rows and the lanes. -/
theorem prod_apply (a : FVec Ideal S16x1x32x128x128 .f32) (b : FVec Ideal S1x32x128x16x128 .f32) (i : S16x128x128.Idx) :
    Host.dotGeneral (F := Ideal) prod none a b i = ∑ n : Fin 32, ∑ l : Fin 128, a (ix5 (i 0) 0 n l (i 1)) * b (ix5 0 n (i 2) (i 0) l) := by
  have e : Host.dotGeneral (F := Ideal) prod none a b i = (0 : EReal) + ∑ q : prod.contr.Idx, a (prod.lhsIdx i q) * b (prod.rhsIdx i q) := rfl
  rw [e, zero_add, ← Fintype.sum_equiv pairs (fun k => a (prod.lhsIdx i (pair k.1 k.2)) * b (prod.rhsIdx i (pair k.1 k.2))) _ (fun _ => rfl)]
  simp only [Fintype.sum_prod_type, left_pair, right_pair]
  rfl

end Cert.GateReference
end
-- ==== Proof.GateReal.lean ====
/- The gate's gradients over the reals: the gelu's factor leaves its gradient, and the two forms of the normalisation's gradient agree. -/
module

public import proofs.«01_k».proof.Proof.GateArrays
public import proofs.«01_k».proof.Proof.Finite

@[expose] public section

set_option maxRecDepth 16384

noncomputable section

open Idealize.ShloMosaic Idealize.ShloMosaic.TcCoe Idealize.SL.Sem
open Idealize.ShloMosaic.Pipeline (Dat)

namespace Cert.GateReal

open Cert.Finite Cert.GateGrad

/-- The word of one. -/
theorem one : Ideal.ofBits .f32 0x3F800000#32 = 1 := by
  rw [← EReal.coe_one]
  simp [Ideal.ofBits, Ideal.ieee, -EReal.coe_mul, -EReal.coe_one]; norm_num

/-- The word of minus one half. -/
theorem minus_half : Ideal.ofBits .f32 0xBF000000#32 = ((-(1 / 2) : ℝ) : EReal) := by
  simp [Ideal.ofBits, Ideal.ieee, -EReal.coe_mul]; norm_num

/-- The word of 2048. -/
theorem lanes : Ideal.ofBits .f32 0x45000000#32 = ((2048 : ℝ) : EReal) := by
  simp [Ideal.ofBits, Ideal.ieee, -EReal.coe_mul]; norm_num

/-- The word of the small constant under the root. -/
theorem small : Ideal.ofBits .f32 0x358637BD#32 = ((8796093 / 8796093022208 : ℝ) : EReal) := by
  simp [Ideal.ofBits, Ideal.ieee, -EReal.coe_mul]; norm_num

/-- The words of the gelu's constants are real numbers. -/
theorem real_word : IsReal (Ideal.ofBits .f32 0x3F4C422A#32) ∧ IsReal (Ideal.ofBits .f32 0x3D372713#32) ∧ IsReal (Ideal.ofBits .f32 0x40400000#32) := by
  refine ⟨?_, ?_, ?_⟩ <;> (simp [Ideal.ofBits, Ideal.ieee, -EReal.coe_mul]; exact ⟨_, rfl⟩)

/-- The tangent of a real number is a real number. -/
theorem tanh_real {x : EReal} (hx : IsReal x) : IsReal (Ideal.tanh x) := by
  obtain ⟨x, rfl⟩ := hx
  exact ⟨_, Ideal.tanh_coe x⟩

/-- The tangent's argument is real at a real number. -/
theorem inner_real {y : EReal} (hy : IsReal y) : IsReal (Cert.GateGrad.inner y) :=
  real_word.1.mul (hy.add (real_word.2.1.mul ((hy.mul hy).mul hy)))

/-- The gelu's factor is real at a real number. -/
theorem weight_real {y : EReal} (hy : IsReal y) : IsReal (weight y) := by
  unfold weight
  rw [one, Cert.Literals.half]
  exact (IsReal.coe _).mul (IsReal.one.add (tanh_real (inner_real hy)))

/-- The gelu is real at a real number. -/
theorem gelu_real {y : EReal} (hy : IsReal y) : IsReal (gelu y) := hy.mul (weight_real hy)

/-- The gelu's gradient is the cotangent times the derivative. -/
theorem geluGrad_mul {d y : EReal} (hd : IsReal d) (hy : IsReal y) :
    geluGrad d y = d * geluGrad (Ideal.ofBits .f32 0x3F800000#32) y := by
  obtain ⟨w, hw⟩ := weight_real hy
  obtain ⟨t, ht⟩ := tanh_real (inner_real hy)
  obtain ⟨⟨a, ha⟩, ⟨b, hb⟩, ⟨k, hk⟩⟩ := real_word
  obtain ⟨d, rfl⟩ := hd
  obtain ⟨y, rfl⟩ := hy
  unfold geluGrad Cert.GateGrad.slope
  rw [hw, ht, ha, hb, hk, one, Cert.Literals.half, ← EReal.coe_one]
  norm_cast
  ring

/-- A sum of real numbers. -/
theorem coe_sum {n : ℕ} (f : Fin n → ℝ) : ∑ i, ((f i : ℝ) : EReal) = ((∑ i, f i : ℝ) : EReal) :=
  (map_sum (⟨⟨Real.toEReal, rfl⟩, EReal.coe_add⟩ : ℝ →+ EReal) f Finset.univ).symm

/-- The two forms of the gradient through the root mean square: one takes the projection on the normalised row off the
cotangent and scales once, the other adds the derivative of the scale, taken twice for the square's two factors. -/
theorem backward (x g : Fin 2048 → EReal) (hx : ∀ j, IsReal (x j)) (hg : ∀ j, IsReal (g j)) (j : Fin 2048) (s r c : EReal)
    (hs : s = Ideal.div (∑ l, x l * x l) (Ideal.ofBits .f32 0x45000000#32) + Ideal.ofBits .f32 0x358637BD#32)
    (hr : r = Ideal.rsqrt s)
    (hc : c = Ideal.div ((∑ l, x l * g l) * (Ideal.ofBits .f32 0xBF000000#32 * Ideal.div r s)) (Ideal.ofBits .f32 0x45000000#32)) :
    g j * r + x j * c + c * x j
      = r * (g j - x j * r * Ideal.div (∑ l, g l * (x l * r)) (Ideal.ofBits .f32 0x45000000#32)) := by
  choose X hX using hx
  choose G hG using hg
  have e : ∀ f : Fin 2048 → ℝ, ∑ i, ((f i : ℝ) : EReal) = ((∑ i, f i : ℝ) : EReal) := coe_sum
  have h48 : (2048 : ℝ) ≠ 0 := by norm_num
  have hp : 0 < (∑ l, X l * X l) * (1 / 2048) + 8796093 / 8796093022208 := by
    have : 0 ≤ ∑ l, X l * X l := Finset.sum_nonneg fun l _ => mul_self_nonneg _
    positivity
  have hs' : s = (((∑ l, X l * X l) * (1 / 2048) + 8796093 / 8796093022208 : ℝ) : EReal) := by
    rw [hs, lanes, small]
    simp only [hX, ← EReal.coe_mul]
    rw [e, Ideal.div_coe h48, ← EReal.coe_mul, ← EReal.coe_add]
  generalize (∑ l, X l * X l) * (1 / 2048) + 8796093 / 8796093022208 = S at hp hs'
  have hr' : r = (((Real.sqrt S)⁻¹ : ℝ) : EReal) := by
    rw [hr, hs', Ideal.rsqrt_coe, if_neg (not_lt.mpr hp.le), if_neg hp.ne']
  have hS : 1 / S = (Real.sqrt S)⁻¹ * (Real.sqrt S)⁻¹ := by
    rw [← mul_inv, Real.mul_self_sqrt hp.le, one_div]
  rw [hs', hr', Ideal.div_coe hp.ne', hS, lanes, minus_half] at hc
  rw [hc, hr', lanes]
  generalize (Real.sqrt S)⁻¹ = R
  have hsum : ∑ l, G l * (X l * R) = R * ∑ l, X l * G l := by
    rw [Finset.mul_sum]
    exact Finset.sum_congr rfl fun l _ => by ring
  simp only [hX, hG, ← EReal.coe_mul]
  rw [e, e, hsum, Ideal.div_coe h48, Ideal.div_coe h48]
  norm_cast
  ring

/-- One over the root mean square of a real row is a real number. -/
theorem root_real (x : Fin 2048 → EReal) (hx : ∀ j, IsReal (x j)) :
    IsReal (Ideal.rsqrt (Ideal.div (∑ l, x l * x l) (Ideal.ofBits .f32 0x45000000#32) + Ideal.ofBits .f32 0x358637BD#32)) := by
  choose X hX using hx
  have e : ∀ f : Fin 2048 → ℝ, ∑ i, ((f i : ℝ) : EReal) = ((∑ i, f i : ℝ) : EReal) := coe_sum
  have h48 : (2048 : ℝ) ≠ 0 := by norm_num
  have hp : 0 < (∑ l, X l * X l) * (1 / 2048) + 8796093 / 8796093022208 := by
    have : 0 ≤ ∑ l, X l * X l := Finset.sum_nonneg fun l _ => mul_self_nonneg _
    positivity
  simp only [hX, ← EReal.coe_mul]
  rw [lanes, small, e, Ideal.div_coe h48, ← EReal.coe_mul, ← EReal.coe_add, Ideal.rsqrt_coe, if_neg (not_lt.mpr hp.le),
    if_neg hp.ne']
  exact ⟨_, rfl⟩

/-- A real number over 2048 is a real number. -/
theorem mean_real {x : EReal} (hx : IsReal x) : IsReal (Ideal.div x (Ideal.ofBits .f32 0x45000000#32)) := by
  have h48 : (2048 : ℝ) ≠ 0 := by norm_num
  rw [lanes, Ideal.div_coe h48]
  exact hx.mul (IsReal.coe _)

end Cert.GateReal

end
-- ==== Proof.GateReference.lean ====
/- The parts of the reference of the gate, entry by entry. -/
module

public import proofs.«01_k».proof.Proof.Gen.ReferenceIdeal.Run
public import Idealize.ShloMosaic.Lib.Pipeline.ValueKit
public import Idealize.ShloMosaic.Lib.Pointwise
public import proofs.«01_k».proof.Proof.GateWhole
public import proofs.«01_k».proof.Proof.GateContract
public import proofs.«01_k».proof.Proof.GateReal

@[expose] public section

set_option maxRecDepth 16384

noncomputable section

open Idealize.ShloMosaic Idealize.ShloMosaic.TcCoe Idealize.SL.Sem
open Idealize.ShloMosaic.Pipeline (Dat)

namespace Cert.GateReference

open Cert.ReferenceIdeal Cert.ReferenceIdeal.Gen
open Cert.GateGrad (act gelu weight slope geluGrad row lane blockOf within groupOf lo hi sv rms hat tri normGrad mix below)

/-- The derivative of a row's scale. -/
def scaleGrad (z : FVec Ideal S4096x4096 .f32) (g : FVec Ideal S4096x2048 .f32) (r s : FVec Ideal S4096x1 .f32) (a : Fin 4096) : EReal :=
  Ideal.div ((∑ l : Fin 2048, z (ix2 a (hi l)) * g (ix2 a l)) * (Ideal.ofBits .f32 0xBF000000#32 * Ideal.div (r (ix2 a 0)) (s (ix2 a 0)))) (Ideal.ofBits .f32 0x45000000#32)

/-- The gelu's factor, as the reference writes it. -/
theorem weight_eq (y : FVec Ideal S4096x4096 .f32) : (mulf (broadcastInDim S4096x4096 ![] bcast_S_S4096x4096 (constant S_ .f32 0x3F000000#32)) (addf (broadcastInDim S4096x4096 ![] bcast_S_S4096x4096 (constant S_ .f32 0x3F800000#32)) (Host.tanh (mulf (broadcastInDim S4096x4096 ![] bcast_S_S4096x4096 (constant S_ .f32 0x3F4C422A#32)) (addf y (mulf (broadcastInDim S4096x4096 ![] bcast_S_S4096x4096 (constant S_ .f32 0x3D372713#32)) (mulf (mulf y y) y))))))) = fun i => weight (y i) := by
  funext i
  pointwise [weight, Cert.GateGrad.inner]

/-- The tangent, as the reference writes it. -/
theorem tanh_eq (y : FVec Ideal S4096x4096 .f32) : (Host.tanh (mulf (broadcastInDim S4096x4096 ![] bcast_S_S4096x4096 (constant S_ .f32 0x3F4C422A#32)) (addf y (mulf (broadcastInDim S4096x4096 ![] bcast_S_S4096x4096 (constant S_ .f32 0x3D372713#32)) (mulf (mulf y y) y))))) = fun i => Ideal.tanh (Cert.GateGrad.inner (y i)) := by
  funext i
  pointwise [Cert.GateGrad.inner]

/-- The mask multiplies every entry of a matrix by one or by zero. -/
theorem tri_eq (w : FVec Ideal S16x128x128 .f32) : mulf w (broadcastInDim S16x128x128 ![0, 1, 2] bcast_S1x128x128_S16x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))) = fun i => Scalar.select (below (i 1) (i 2)) (w i) 0 := by
  funext i
  pointwise [below]
  simp only [IntOp.addi, BitVec.add_zero]

/-- The cotangent of the mixed values, as the reference writes it. -/
theorem sv_eq (z : FVec Ideal S4096x4096 .f32) (d : FVec Ideal S4096x2048 .f32) : mulf (extractStridedSlice S4096x2048 ![0, 0] z slices_S4096x4096_S4096x2048_0_0) d = fun i => sv z d (i 0) (i 1) := by
  funext i
  pointwise [sv, lo]
  exact mul_comm _ _

/-- The mean square of a row's second half. -/
def meanSq (z : FVec Ideal S4096x4096 .f32) (a : Fin 4096) : EReal :=
  Ideal.div (∑ j : Fin 2048, z (ix2 a (hi j)) * z (ix2 a (hi j))) (Ideal.ofBits .f32 0x45000000#32) + Ideal.ofBits .f32 0x358637BD#32

/-- The mean square, as the reference writes it. -/
theorem meanSq_eq (z : FVec Ideal S4096x4096 .f32) : (addf (Host.divf (broadcastInDim S4096x1 ![0] bcast_S4096_S4096x1_0 (Host.reduceAdd (mulf (extractStridedSlice S4096x2048 ![0, 2048] z slices_S4096x4096_S4096x2048_0_2048) (extractStridedSlice S4096x2048 ![0, 2048] z slices_S4096x4096_S4096x2048_0_2048)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))) = fun i => meanSq z (i 0) := by
  funext i
  pointwise [meanSq, hi]

/-- The gelu, as the reference writes it. -/
theorem act_eq (y : FVec Ideal S4096x4096 .f32) : mulf y (mulf (broadcastInDim S4096x4096 ![] bcast_S_S4096x4096 (constant S_ .f32 0x3F000000#32)) (addf (broadcastInDim S4096x4096 ![] bcast_S_S4096x4096 (constant S_ .f32 0x3F800000#32)) (Host.tanh (mulf (broadcastInDim S4096x4096 ![] bcast_S_S4096x4096 (constant S_ .f32 0x3F4C422A#32)) (addf y (mulf (broadcastInDim S4096x4096 ![] bcast_S_S4096x4096 (constant S_ .f32 0x3D372713#32)) (mulf (mulf y y) y))))))) = act y := by
  funext i
  pointwise [act, gelu, weight, Cert.GateGrad.inner]

/-- One over the root mean square, as the reference writes it. -/
theorem rms_eq (z : FVec Ideal S4096x4096 .f32) : Host.rsqrt (F := Ideal) (φ := .f32) (s := S4096x1) (fun i => meanSq z (i 0)) = fun i => rms z (i 0) := by
  funext i
  pointwise [rms, meanSq]

/-- The normalised second half, as the reference writes it. -/
theorem hat_eq (z : FVec Ideal S4096x4096 .f32) (r : FVec Ideal S4096x1 .f32) :
    mulf (extractStridedSlice S4096x2048 ![0, 2048] z slices_S4096x4096_S4096x2048_0_2048) (broadcastInDim S4096x2048 ![0, 1] bcast_S4096x1_S4096x2048_0_1 r) = fun i => z (ix2 (i 0) (hi (i 1))) * r (ix2 (i 0) 0) := by
  funext i
  pointwise [hi]

/-- The gradient that reaches the normalised values, as the reference writes it. -/
theorem normGrad_eq (s : FVec Ideal S4096x2048 .f32) (t : FVec Ideal S16x128x128 .f32) : shapeCast _ (transpose S1x32x128x16x128 [1, 2, 4, 0, 3] (Host.dotGeneral dot_S16x1x32x128x128_S16x128x128_S16x1x32x128x128_4_1_123_2_0_0 none (transpose S16x1x32x128x128 [3, 0, 1, 4, 2] (shapeCast _ s shapeCasts_S4096x2048_S1x32x128x16x128) transposes_S1x32x128x16x128_S16x1x32x128x128_3_0_1_4_2) t) transposes_S16x1x32x128x128_S1x32x128x16x128_1_2_4_0_3) shapeCasts_S1x32x128x16x128_S4096x2048
    = fun i => ∑ p : Fin 128, s (ix2 (row (blockOf (i 0)) p) (i 1)) * t (ix3 (groupOf (i 1)) p (within (i 0))) := by
  funext i
  pointwise [row, blockOf, within, groupOf]
  simp only [Nat.mul_comm _ 128]

/-- The mixed values, as the reference writes them. -/
theorem mix_eq (s : FVec Ideal S4096x2048 .f32) (t : FVec Ideal S16x128x128 .f32) (b : FVec Ideal S16x128 .f32) : shapeCast _ (addf (transpose S1x32x128x16x128 [1, 2, 4, 0, 3] (Host.dotGeneral dot_S1x32x128x16x128_S16x128x128_S16x1x32x128x128_2_2_014_1_3_0 none (shapeCast _ s shapeCasts_S4096x2048_S1x32x128x16x128) t) transposes_S16x1x32x128x128_S1x32x128x16x128_1_2_4_0_3) (broadcastInDim S1x32x128x16x128 ![0, 1, 2, 3, 4] bcast_S1x1x128x16x128_S1x32x128x16x128_0_1_2_3_4 (shapeCast _ (shapeCast _ (broadcastInDim S128x16x128 ![0, 1] bcast_S128x16_S128x16x128_0_1 (transpose S128x16 [1, 0] b transposes_S16x128_S128x16_1_0)) shapeCasts_S128x16x128_S128x2048) shapeCasts_S128x2048_S1x1x128x16x128))) shapeCasts_S1x32x128x16x128_S4096x2048
    = fun i => ∑ q : Fin 128, s (ix2 (row (blockOf (i 0)) q) (i 1)) * t (ix3 (groupOf (i 1)) (within (i 0)) q) + b (ix2 (groupOf (i 1)) (within (i 0))) := by
  funext i
  pointwise [row, blockOf, within, groupOf]
  simp only [Nat.mul_comm _ 128]

/-- The product that gives the mixing matrices' gradient, as the reference writes it. -/
theorem mixGrad_eq (s x : FVec Ideal S4096x2048 .f32) : Host.dotGeneral dot_S16x1x32x128x128_S1x32x128x16x128_S16x128x128_123_014_4_2_0_3 none (transpose S16x1x32x128x128 [3, 0, 1, 4, 2] (shapeCast _ s shapeCasts_S4096x2048_S1x32x128x16x128) transposes_S1x32x128x16x128_S16x1x32x128x128_3_0_1_4_2) (shapeCast _ x shapeCasts_S4096x2048_S1x32x128x16x128)
    = fun i => ∑ n : Fin 32, ∑ l : Fin 128, s (ix2 (row n (i 1)) (lane (i 0) l)) * x (ix2 (row n (i 2)) (lane (i 0) l)) := by
  funext i
  refine (prod_apply _ _ i).trans ?_
  pointwise [row, lane]
  simp only [Nat.mul_comm _ 128]

/-- The sum over the blocks of rows, as the reference writes it. -/
theorem blocks_eq (s : FVec Ideal S4096x2048 .f32) :
    shapeCast S128x2048 (shapeCast S1x1x128x16x128 (Host.reduceAdd (shapeCast _ s shapeCasts_S4096x2048_S1x32x128x16x128) (constant S_ .f32 0x00000000#32) reducesTo_S1x32x128x16x128_S1x128x16x128_d1 h_S_) shapeCasts_S1x128x16x128_S1x1x128x16x128) shapeCasts_S1x1x128x16x128_S128x2048
    = fun i => ∑ n : Fin 32, s (ix2 (row n (i 0)) (i 1)) := by
  funext i
  pointwise [row]
  simp only [Nat.mul_comm _ 128]

/-- The values times the gain, as the reference writes them. -/
theorem gain_eq (h : FVec Ideal S4096x2048 .f32) (v : FVec Ideal S1x2048 .f32) :
    mulf h (broadcastInDim S4096x2048 ![0, 1] bcast_S1x2048_S4096x2048_0_1 v) = fun i => h i * v (ix2 0 (i 1)) := by
  funext i
  pointwise

/-- The sum over all rows, as the reference writes it. -/
theorem allRows_eq (s : FVec Ideal S4096x2048 .f32) :
    shapeCast S1x2048 (Host.reduceAdd s (constant S_ .f32 0x00000000#32) reducesTo_S4096x2048_S2048_d0 h_S_) shapeCasts_S2048_S1x2048
    = fun i => ∑ k : Fin 4096, s (ix2 k (i 1)) := by
  funext i
  pointwise

/-- The gelu's gradient, as the reference writes it. -/
theorem geluGrad_eq (y x : FVec Ideal S4096x4096 .f32) :
    truncf .bf16 (addf (addf (mulf x (fun i => weight (y i))) (mulf (broadcastInDim S4096x4096 ![] bcast_S_S4096x4096 (constant S_ .f32 0x3F4C422A#32)) (mulf (mulf (broadcastInDim S4096x4096 ![] bcast_S_S4096x4096 (constant S_ .f32 0x3F000000#32)) (mulf y x)) (mulf (addf (broadcastInDim S4096x4096 ![] bcast_S_S4096x4096 (constant S_ .f32 0x3F800000#32)) (fun i => Ideal.tanh (Cert.GateGrad.inner (y i)))) (subf (broadcastInDim S4096x4096 ![] bcast_S_S4096x4096 (constant S_ .f32 0x3F800000#32)) (fun i => Ideal.tanh (Cert.GateGrad.inner (y i))))))))
      (mulf (mulf (broadcastInDim S4096x4096 ![] bcast_S_S4096x4096 (constant S_ .f32 0x3D372713#32)) (mulf (broadcastInDim S4096x4096 ![] bcast_S_S4096x4096 (constant S_ .f32 0x3F4C422A#32)) (mulf (mulf (broadcastInDim S4096x4096 ![] bcast_S_S4096x4096 (constant S_ .f32 0x3F000000#32)) (mulf y x)) (mulf (addf (broadcastInDim S4096x4096 ![] bcast_S_S4096x4096 (constant S_ .f32 0x3F800000#32)) (fun i => Ideal.tanh (Cert.GateGrad.inner (y i)))) (subf (broadcastInDim S4096x4096 ![] bcast_S_S4096x4096 (constant S_ .f32 0x3F800000#32)) (fun i => Ideal.tanh (Cert.GateGrad.inner (y i)))))))) (mulf (broadcastInDim S4096x4096 ![] bcast_S_S4096x4096 (constant S_ .f32 0x40400000#32)) (mulf y y)))) bitsLt_bf16_f32
    = fun i => geluGrad (x i) (y i) := by
  funext i
  pointwise [geluGrad, Cert.GateGrad.slope]
  all_goals rw [Cert.GateReal.one]

/-- The cotangents of the two halves side by side, as the reference writes them. -/
theorem halves_eq (p q : FVec Ideal S4096x2048 .f32) :
    addf (pad S4096x4096 ![0, 2048] ![0, 0] ![0, 0] p (constant S_ .f32 0x00000000#32) pads_S4096x2048_S4096x4096_000_204800 h_S_)
      (pad S4096x4096 ![0, 0] ![0, 2048] ![0, 0] q (constant S_ .f32 0x00000000#32) pads_S4096x2048_S4096x4096_000_020480 h_S_)
    = fun i => if h : (i 1).val < 2048 then q (ix2 (i 0) ⟨(i 1).val, h⟩)
      else p (ix2 (i 0) ⟨(i 1).val - 2048, by have : (i 1).val < 4096 := (i 1).isLt; omega⟩) := by
  funext i
  pointwise
  by_cases h : (i 1).val < 2048
  · have h' : ¬ 2048 ≤ (i 1).val := by omega
    simp only [h, h', dif_pos, dif_neg, not_false_eq_true]
    simp
  · have h' : 2048 ≤ (i 1).val := by omega
    have h2 : (i 1).val - 2048 < 2048 := by
      have : (i 1).val < 4096 := (i 1).isLt
      omega
    simp only [h, h', dif_pos, dif_neg, not_false_eq_true]
    simp [h2]

/-- The gradient of the second half, as the reference writes it: `g` the cotangent of the normalised values times the gain, `r`
one over the root mean square, `s` the mean square, `c` the derivative of the scale. -/
theorem second_eq (z : FVec Ideal S4096x4096 .f32) (g : FVec Ideal S4096x2048 .f32) (r s : FVec Ideal S4096x1 .f32) :
    addf (addf (mulf g (broadcastInDim S4096x2048 ![0, 1] bcast_S4096x1_S4096x2048_0_1 r)) (mulf (extractStridedSlice S4096x2048 ![0, 2048] z slices_S4096x4096_S4096x2048_0_2048) (broadcastInDim S4096x2048 ![0] bcast_S4096_S4096x2048_0 (Host.reduceAdd (Host.divf (mulf (shapeCast _ (Host.reduceAdd (mulf (extractStridedSlice S4096x2048 ![0, 2048] z slices_S4096x4096_S4096x2048_0_2048) g) (constant S_ .f32 0x00000000#32) reducesTo_S4096x2048_S4096_d1 h_S_) shapeCasts_S4096_S4096x1) (mulf (broadcastInDim S4096x1 ![] bcast_S_S4096x1 (constant S_ .f32 0xBF000000#32)) (Host.divf r s))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf (extractStridedSlice S4096x2048 ![0, 2048] z slices_S4096x4096_S4096x2048_0_2048) g) (constant S_ .f32 0x00000000#32) reducesTo_S4096x2048_S4096_d1 h_S_) shapeCasts_S4096_S4096x1) (mulf (broadcastInDim S4096x1 ![] bcast_S_S4096x1 (constant S_ .f32 0xBF000000#32)) (Host.divf r s))) (broadcastInDim S4096x1 ![] bcast_S_S4096x1 (constant S_ .f32 0x45000000#32))) (constant S_ .f32 0x00000000#32) reducesTo_S4096x1_S4096_d1 h_S_)) (extractStridedSlice S4096x2048 ![0, 2048] z slices_S4096x4096_S4096x2048_0_2048))
    = fun i => g i * r (ix2 (i 0) 0) + z (ix2 (i 0) (hi (i 1))) * scaleGrad z g r s (i 0) + scaleGrad z g r s (i 0) * z (ix2 (i 0) (hi (i 1))) := by
  funext i
  pointwise [hi, scaleGrad]
  all_goals simp only [Fin.sum_univ_one, Fin.isValue]

end Cert.GateReference
end
-- ==== Proof.GateResults.lean ====
/- The results of the reference of the gate, entry by entry. -/
module

public import proofs.«01_k».proof.Proof.Gen.ReferenceIdeal.Run
public import Idealize.ShloMosaic.Lib.Pipeline.ValueKit
public import Idealize.ShloMosaic.Lib.Pointwise
public import proofs.«01_k».proof.Proof.GateReference
public import proofs.«01_k».proof.Proof.GateReal
public import proofs.«01_k».proof.Proof.GateWhole

@[expose] public section

set_option maxRecDepth 16384

noncomputable section

open Idealize.ShloMosaic Idealize.ShloMosaic.TcCoe Idealize.SL.Sem
open Idealize.ShloMosaic.Pipeline (Dat)

namespace Cert.GateReference

open Cert.ReferenceIdeal Cert.ReferenceIdeal.Gen
open Cert.GateGrad (act gelu weight slope geluGrad row lane blockOf within groupOf lo hi sv rms hat tri normGrad mix below)

open Cert.ReferenceIdeal.Value (res_main_v65 res_main_v69 res_main_v101)
open Cert.GateGrad (row_split blockOf_row within_row biasGrad mixGrad gainGrad inputGrad deriv hiGrad)

/-- The normalised second half, as the reference writes it. -/
theorem unit_eq (z : FVec Ideal S4096x4096 .f32) : mulf (extractStridedSlice S4096x2048 ![0, 2048] z slices_S4096x4096_S4096x2048_0_2048) (broadcastInDim S4096x2048 ![0, 1] bcast_S4096x1_S4096x2048_0_1 (fun i => rms z (i 0) : FVec Ideal S4096x1 .f32))
    = fun i => hat z (i 0) (i 1) := (hat_eq _ _).trans rfl

/-- The gradient of the normalised values from the gate's input and cotangent. -/
theorem dvn_eq (z : FVec Ideal S4096x4096 .f32) (d : FVec Ideal S4096x2048 .f32) (w : FVec Ideal S16x128x128 .f32) : (shapeCast S4096x2048 (transpose S1x32x128x16x128 [1, 2, 4, 0, 3] (Host.dotGeneral (φ₁ := .f32) (φ₂ := .f32) dot_S16x1x32x128x128_S16x128x128_S16x1x32x128x128_4_1_123_2_0_0 none (transpose (α := Ideal .f32) S16x1x32x128x128 [3, 0, 1, 4, 2] (shapeCast (α := Ideal .f32) S1x32x128x16x128 (fun i => sv z d (i 0) (i 1) : FVec Ideal S4096x2048 .f32) shapeCasts_S4096x2048_S1x32x128x16x128) transposes_S1x32x128x16x128_S16x1x32x128x128_3_0_1_4_2) (fun i => Scalar.select (below (i 1) (i 2)) (w i) 0 : FVec Ideal S16x128x128 .f32)) transposes_S16x1x32x128x128_S1x32x128x16x128_1_2_4_0_3) shapeCasts_S1x32x128x16x128_S4096x2048)
    = fun i => normGrad z d w (blockOf (i 0)) (within (i 0)) (i 1) :=
  (normGrad_eq _ _).trans (funext fun i => Finset.sum_congr rfl fun p _ => mul_comm _ _)

/-- The mixed values from the gate's input. -/
theorem mixed_eq (z : FVec Ideal S4096x4096 .f32) (v : FVec Ideal S1x2048 .f32) (w : FVec Ideal S16x128x128 .f32) (b : FVec Ideal S16x128 .f32) : shapeCast S4096x2048 (addf (transpose S1x32x128x16x128 [1, 2, 4, 0, 3] (Host.dotGeneral (φ₁ := .f32) (φ₂ := .f32) dot_S1x32x128x16x128_S16x128x128_S16x1x32x128x128_2_2_014_1_3_0 none (shapeCast (α := Ideal .f32) S1x32x128x16x128 (fun i => hat z (i 0) (i 1) * v (ix2 0 (i 1)) : FVec Ideal S4096x2048 .f32) shapeCasts_S4096x2048_S1x32x128x16x128) (fun i => Scalar.select (below (i 1) (i 2)) (w i) 0 : FVec Ideal S16x128x128 .f32)) transposes_S16x1x32x128x128_S1x32x128x16x128_1_2_4_0_3) (broadcastInDim S1x32x128x16x128 ![0, 1, 2, 3, 4] bcast_S1x1x128x16x128_S1x32x128x16x128_0_1_2_3_4 (shapeCast _ (shapeCast _ (broadcastInDim S128x16x128 ![0, 1] bcast_S128x16_S128x16x128_0_1 (transpose S128x16 [1, 0] b transposes_S16x128_S128x16_1_0)) shapeCasts_S128x16x128_S128x2048) shapeCasts_S128x2048_S1x1x128x16x128))) shapeCasts_S1x32x128x16x128_S4096x2048
    = fun i => mix z v w b (blockOf (i 0)) (within (i 0)) (i 1) :=
  (mix_eq _ _ _).trans (funext fun i => congrArg (· + _) (Finset.sum_congr rfl fun p _ => mul_comm _ _))

/-- A sum over all rows is one over the blocks and one within each block. -/
theorem sum_rows (f : Fin 4096 → EReal) : ∑ k, f k = ∑ n : Fin 32, ∑ p : Fin 128, f (row n p) := by
  rw [← Fintype.sum_prod_type']
  refine (Fintype.sum_equiv ⟨fun k => (blockOf k, within k), fun q => row q.1 q.2, fun k => row_split k, fun q => Prod.ext (blockOf_row _ _) (within_row _ _)⟩ _ _ fun k => ?_)
  exact congrArg f (row_split k).symm

/-- Choosing between a sum and zero is choosing between each term and zero. -/
theorem select_sum (k : BitVec 1) (f : Fin 32 → EReal) : Scalar.select k (∑ n, f n) 0 = ∑ n, Scalar.select k (f n) 0 := by
  unfold Scalar.select
  split <;> simp

/-- The gradient of the second half, as the reference orders it. -/
def secondGrad (z : FVec Ideal S4096x4096 .f32) (v : FVec Ideal S1x2048 .f32) (d : FVec Ideal S4096x2048 .f32) (w : FVec Ideal S16x128x128 .f32) (a : Fin 4096) (j : Fin 2048) : EReal :=
  normGrad z d w (blockOf a) (within a) j * v (ix2 0 j) * rms z a
    + z (ix2 a (hi j)) * scaleGrad z (fun i => normGrad z d w (blockOf (i 0)) (within (i 0)) (i 1) * v (ix2 0 (i 1))) (fun i => rms z (i 0)) (fun i => meanSq z (i 0)) a
    + scaleGrad z (fun i => normGrad z d w (blockOf (i 0)) (within (i 0)) (i 1) * v (ix2 0 (i 1))) (fun i => rms z (i 0)) (fun i => meanSq z (i 0)) a * z (ix2 a (hi j))

/-- The gradient of the gelu's value, as the reference orders it. -/
def actGrad (z : FVec Ideal S4096x4096 .f32) (v : FVec Ideal S1x2048 .f32) (d : FVec Ideal S4096x2048 .f32) (w : FVec Ideal S16x128x128 .f32) (b : FVec Ideal S16x128 .f32) : FVec Ideal S4096x4096 .f32 :=
  fun i => if h : (i 1).val < 2048 then d (ix2 (i 0) ⟨(i 1).val, h⟩) * mix z v w b (blockOf (i 0)) (within (i 0)) ⟨(i 1).val, h⟩
    else secondGrad z v d w (i 0) ⟨(i 1).val - 2048, by have : (i 1).val < 4096 := (i 1).isLt; omega⟩

/-- The gradient of the gate's input, as the reference orders it. -/
def inputRef (y : FVec Ideal S4096x4096 .f32) (v : FVec Ideal S1x2048 .f32) (d : FVec Ideal S4096x2048 .f32) (w : FVec Ideal S16x128x128 .f32) (b : FVec Ideal S16x128 .f32) : FVec Ideal S4096x4096 .bf16 :=
  fun i => geluGrad (actGrad (act y) v d w b i) (y i)

variable (m : (ℓ : Loc nD τ sig) → Buf (Elt Ideal) ℓ) (c : Dev nD)

/-- The reference's gradient of the gain. -/
theorem gain_result : res_main_v69 m c = gainGrad (act (m ((c.tc : Thread nD τ).loc main_arg0))) (m ((c.tc : Thread nD τ).loc main_arg4)) (m ((c.tc : Thread nD τ).loc main_arg2)) := by
  unfold res_main_v69
  rw [act_eq, sv_eq, tri_eq, dvn_eq, meanSq_eq, rms_eq, unit_eq]
  refine (allRows_eq _).trans ?_
  funext i
  refine (sum_rows _).trans (Finset.sum_congr rfl fun n _ => Finset.sum_congr rfl fun p _ => ?_)
  refine (mul_comm _ _).trans ?_
  show normGrad _ _ _ (blockOf (row n p)) (within (row n p)) (i 1) * _ = _
  rw [blockOf_row, within_row]
  rfl

/-- The reference's gradient of the mixing matrices. -/
theorem mix_result : res_main_v65 m c = mixGrad (act (m ((c.tc : Thread nD τ).loc main_arg0))) (m ((c.tc : Thread nD τ).loc main_arg1)) (m ((c.tc : Thread nD τ).loc main_arg4)) := by
  unfold res_main_v65
  rw [act_eq, sv_eq, meanSq_eq, rms_eq, unit_eq, gain_eq, tri_eq, mixGrad_eq]
  funext i
  exact select_sum _ _

/-- The reference's gradient of the bias, spread over the lanes. -/
theorem bias_result (y : FVec Ideal S4096x4096 .f32) (d : FVec Ideal S4096x2048 .f32) :
    shapeCast S128x2048 (shapeCast S1x1x128x16x128 (Host.reduceAdd (shapeCast _ (mulf (extractStridedSlice S4096x2048 ![0, 0] (mulf y (mulf (broadcastInDim S4096x4096 ![] bcast_S_S4096x4096 (constant S_ .f32 0x3F000000#32)) (addf (broadcastInDim S4096x4096 ![] bcast_S_S4096x4096 (constant S_ .f32 0x3F800000#32)) (Host.tanh (mulf (broadcastInDim S4096x4096 ![] bcast_S_S4096x4096 (constant S_ .f32 0x3F4C422A#32)) (addf y (mulf (broadcastInDim S4096x4096 ![] bcast_S_S4096x4096 (constant S_ .f32 0x3D372713#32)) (mulf (mulf y y) y)))))))) slices_S4096x4096_S4096x2048_0_0) d) shapeCasts_S4096x2048_S1x32x128x16x128) (constant S_ .f32 0x00000000#32) reducesTo_S1x32x128x16x128_S1x128x16x128_d1 h_S_) shapeCasts_S1x128x16x128_S1x1x128x16x128) shapeCasts_S1x1x128x16x128_S128x2048
    = biasGrad (act y) d := by
  rw [act_eq, sv_eq, blocks_eq]
  rfl

/-- The reference's gradient of the gate's input. -/
theorem input_result : res_main_v101 m c = inputRef (m ((c.tc : Thread nD τ).loc main_arg0)) (m ((c.tc : Thread nD τ).loc main_arg1)) (m ((c.tc : Thread nD τ).loc main_arg4)) (m ((c.tc : Thread nD τ).loc main_arg2)) (m ((c.tc : Thread nD τ).loc main_arg3)) := by
  unfold res_main_v101
  rw [act_eq, sv_eq, tri_eq, dvn_eq, meanSq_eq, rms_eq, unit_eq, gain_eq, gain_eq]
  erw [mixed_eq]
  rw [second_eq, halves_eq, weight_eq, tanh_eq, geluGrad_eq]
  rfl

end Cert.GateReference
end
-- ==== Proof.GateAlgebra.lean ====
/- The two orders of the gate's gradient agree when every entry of the arguments is real. -/
module

public import proofs.«01_k».proof.Proof.Gen.ReferenceIdeal.Run
public import Idealize.ShloMosaic.Lib.Pipeline.ValueKit
public import Idealize.ShloMosaic.Lib.Pointwise
public import proofs.«01_k».proof.Proof.GateResults

@[expose] public section

set_option maxRecDepth 16384

noncomputable section

open Idealize.ShloMosaic Idealize.ShloMosaic.TcCoe Idealize.SL.Sem
open Idealize.ShloMosaic.Pipeline (Dat)

namespace Cert.GateReference

open Cert.ReferenceIdeal Cert.ReferenceIdeal.Gen
open Cert.GateGrad (act gelu weight slope geluGrad row lane blockOf within groupOf lo hi sv rms hat tri normGrad mix below)

open Cert.GateGrad (row_split inputGrad deriv hiGrad)
open Cert.Finite

section

variable {z : FVec Ideal S4096x4096 .f32} {v : FVec Ideal S1x2048 .f32} {d : FVec Ideal S4096x2048 .f32} {w : FVec Ideal S16x128x128 .f32} {b : FVec Ideal S16x128 .f32}
  (hz : ∀ i, IsReal (z i)) (hv : ∀ i, IsReal (v i)) (hw : ∀ i, IsReal (w i)) (hb : ∀ i, IsReal (b i)) (hd : ∀ i, IsReal (d i))

include hz

/-- One over the root mean square of a row is real. -/
theorem rms_real (a : Fin 4096) : IsReal (rms z a) := Cert.GateReal.root_real (fun j => z (ix2 a (hi j))) fun j => hz _

/-- The normalised entries are real. -/
theorem hat_real (a : Fin 4096) (j : Fin 2048) : IsReal (hat z a j) := (hz _).mul (rms_real hz a)

omit hz in
include hw in
/-- The entries of the masked mixing matrices are real. -/
theorem tri_real (g : Fin 16) (p q : Fin 128) : IsReal (tri w g p q) := by
  unfold tri Scalar.select
  split
  · exact hw _
  · exact IsReal.zero

include hw hd in
/-- The gradient of the normalised values is real. -/
theorem normGrad_real (n : Fin 32) (a : Fin 128) (j : Fin 2048) : IsReal (normGrad z d w n a j) :=
  IsReal.sum _ fun p => (tri_real hw _ _ _).mul ((hd _).mul (hz _))

include hv hw hb in
/-- The mixed values are real. -/
theorem mix_real (n : Fin 32) (a : Fin 128) (j : Fin 2048) : IsReal (mix z v w b n a j) :=
  (IsReal.sum _ fun p => (tri_real hw _ _ _).mul ((hat_real hz _ _).mul (hv _))).add (hb _)

include hv hw hd in
/-- The gradient of the second half is real. -/
theorem hiGrad_real (n : Fin 32) (a : Fin 128) (j : Fin 2048) : IsReal (hiGrad z v d w n a j) :=
  (rms_real hz _).mul (((normGrad_real hz hw hd _ _ _).mul (hv _)).sub ((hat_real hz _ _).mul
    (Cert.GateReal.mean_real (IsReal.sum _ fun l => ((normGrad_real hz hw hd _ _ _).mul (hv _)).mul (hat_real hz _ _)))))

include hv hw hd in
/-- The two orders of the gradient through the normalisation. -/
theorem second_hi (a : Fin 4096) (j : Fin 2048) : secondGrad z v d w a j = hiGrad z v d w (blockOf a) (within a) j := by
  refine (Cert.GateReal.backward (fun l => z (ix2 a (hi l))) (fun l => normGrad z d w (blockOf a) (within a) l * v (ix2 0 l)) (fun l => hz _)
    (fun l => (normGrad_real hz hw hd _ _ _).mul (hv _)) j (meanSq z a) (rms z a) _ rfl rfl rfl).trans ?_
  unfold hiGrad hat
  rw [row_split]

end

/-- On real arguments the gradient of the gate's input is the same in both orders. -/
theorem input_eq {y : FVec Ideal S4096x4096 .f32} {v : FVec Ideal S1x2048 .f32} {d : FVec Ideal S4096x2048 .f32} {w : FVec Ideal S16x128x128 .f32} {b : FVec Ideal S16x128 .f32}
    (hy : ∀ i, IsReal (y i)) (hv : ∀ i, IsReal (v i)) (hw : ∀ i, IsReal (w i)) (hb : ∀ i, IsReal (b i)) (hd : ∀ i, IsReal (d i)) :
    inputGrad (act y) (deriv y) v d w b = inputRef y v d w b := by
  have hz : ∀ i, IsReal (act y i) := fun i => Cert.GateReal.gelu_real (hy i)
  have e : ∀ i, actGrad (act y) v d w b i = (if h : (i 1).val < 2048 then
      d (ix2 (i 0) ⟨(i 1).val, h⟩) * mix (act y) v w b (blockOf (i 0)) (within (i 0)) ⟨(i 1).val, h⟩
    else hiGrad (act y) v d w (blockOf (i 0)) (within (i 0)) ⟨(i 1).val - 2048, by have : (i 1).val < 4096 := (i 1).isLt; omega⟩) := by
    intro i
    unfold actGrad
    split
    · rfl
    · exact second_hi hz hv hw hd _ _
  have hr : ∀ i, IsReal (actGrad (act y) v d w b i) := by
    intro i
    rw [e]
    split
    · exact (hd _).mul (mix_real hz hv hw hb _ _ _)
    · exact hiGrad_real hz hv hw hd _ _ _
  funext i
  show _ * geluGrad (Ideal.ofBits .f32 0x3F800000#32) (y i) = geluGrad (actGrad (act y) v d w b i) (y i)
  rw [Cert.GateReal.geluGrad_mul (hr i) (hy i), e]

end Cert.GateReference
end
-- ==== Proof.Claims.lean ====
/- The value claims: each kernel and its reference end with the same results. -/
module

public import proofs.«01_k».proof.Defs
public import proofs.«01_k».proof.Proof.FfnHiddenGrad
public import proofs.«01_k».proof.Proof.FfnUpWeightGrad
public import proofs.«01_k».proof.Proof.FfnInputGrad
public import proofs.«01_k».proof.Proof.FfnDownWeightGrad
public import proofs.«01_k».proof.Proof.FfnUp
public import proofs.«01_k».proof.Proof.FfnDown
public import proofs.«01_k».proof.Proof.OutProj
public import proofs.«01_k».proof.Proof.OutProjWeightGrad
public import proofs.«01_k».proof.Proof.OutProjInputGrad
public import proofs.«01_k».proof.Proof.GateProjWeightGrad
public import proofs.«01_k».proof.Proof.GateProjInputGrad
public import proofs.«01_k».proof.Proof.KvProj
public import proofs.«01_k».proof.Proof.KvProjWeightGrad
public import proofs.«01_k».proof.Proof.KvProjInputGrad
public import proofs.«01_k».proof.Proof.QueryProj
public import proofs.«01_k».proof.Proof.QueryProjWeightGrad
public import proofs.«01_k».proof.Proof.QueryProjInputGrad
public import proofs.«01_k».proof.Proof.GateProj
public import proofs.«01_k».proof.Proof.NormRows
public import proofs.«01_k».proof.Proof.GateForward
public import proofs.«01_k».proof.Proof.Finite
public import proofs.«01_k».proof.Proof.FiniteGate
public import proofs.«01_k».proof.Proof.FiniteAttn
public import proofs.«01_k».proof.Proof.AttnEqualD1
public import proofs.«01_k».proof.Proof.AttnEqualD4
public import proofs.«01_k».proof.Proof.AttnEqualD16
public import proofs.«01_k».proof.Proof.GateFinal
public import proofs.«01_k».proof.Proof.GateFinalInput
public import proofs.«01_k».proof.Proof.GateAlgebra
public import proofs.«01_k».proof.Proof.Gen.KernelIdeal.Value
public import proofs.«01_k».proof.Proof.Gen.ReferenceIdeal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Claims

/-- `KernelIdeal` and `ReferenceIdeal` end with the same results: the four gradients of the gate. -/
theorem gateGrad : Cert.algebraic_KernelIdeal_ReferenceIdeal_pre_finite_gate := fun m g m' g' hp h => by
  refine ⟨fun c => Cert.GateReference.inputRef (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.GateGrad.mixGrad (Cert.GateGrad.act (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg4)),
    fun c => Cert.GateGrad.biasGrad (Cert.GateGrad.act (m ((c.tc : Thread Cert.KernelIdeal.nD Cert.KernelIdeal.τ).loc Cert.KernelIdeal.main_arg0))) (m ((c.tc : Thread Cert.KernelIdeal.nD Cert.KernelIdeal.τ).loc Cert.KernelIdeal.main_arg4)),
    fun c => Cert.GateGrad.gainGrad (Cert.GateGrad.act (m ((c.tc : Thread Cert.KernelIdeal.nD Cert.KernelIdeal.τ).loc Cert.KernelIdeal.main_arg0))) (m ((c.tc : Thread Cert.KernelIdeal.nD Cert.KernelIdeal.τ).loc Cert.KernelIdeal.main_arg4)) (m ((c.tc : Thread Cert.KernelIdeal.nD Cert.KernelIdeal.τ).loc Cert.KernelIdeal.main_arg2)), ?_, ?_⟩
  · refine (θ_run _ _ _).mono (fun r hr c => ?_) (Cert.KernelIdeal.Value.run_blocks m g)
    obtain ⟨hy, hv, hw, hb, hd⟩ := Cert.Finite.gate (hp c)
    exact ⟨(hr c).1.trans ((Cert.GateGrad.final_input m c).trans (Cert.GateReference.input_eq hy hv hw hb hd)),
      (hr c).2.1.trans (Cert.GateGrad.final_mix m c), (hr c).2.2.1.trans (Cert.GateGrad.final_bias m c),
      (hr c).2.2.2.1.trans (Cert.GateGrad.final_gain m c), (hr c).2.2.2.2⟩
  · refine (θ_run _ _ _).mono (fun r hr c => ?_) (Cert.ReferenceIdeal.Value.run m' g')
    obtain ⟨h0, h1, h2, h3, h4⟩ := h c
    exact ⟨(hr c).1.trans ((Cert.GateReference.input_result m' c).trans (by rw [h0, h1, h2, h3, h4])),
      (hr c).2.1.trans ((Cert.GateReference.mix_result m' c).trans (by rw [h0, h1, h4])),
      (hr c).2.2.1.trans ((Cert.GateReference.bias_result _ _).trans (by rw [h0, h4])),
      (hr c).2.2.2.1.trans ((Cert.GateReference.gain_result m' c).trans (by rw [h0, h2, h4])), (hr c).2.2.2.2⟩

/-- `Kernel2Ideal` and `Reference2Ideal` end with the same results: those of `FfnHiddenGrad`. -/
theorem ffnHiddenGrad : Cert.algebraic_Kernel2Ideal_Reference2Ideal_pre_finite_down := fun m g m' g' hp h => by
  refine ⟨fun c => Cert.FfnHiddenGrad.gateGrad (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => Cert.FfnHiddenGrad.upGrad (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), ?_, ?_⟩
  · refine (θ_run _ _ _).mono (fun r hr c => ?_) (Cert.Kernel2Ideal.Value.run_blocks m g)
    obtain ⟨hg, hu, hw, hd⟩ := Cert.Finite.down (hp c)
    exact ⟨(hr c).1.trans (Cert.FfnHiddenGrad.final_gate m c hg hu hw hd), (hr c).2.1.trans (Cert.FfnHiddenGrad.final_up m c), (hr c).2.2⟩
  · refine (θ_run _ _ _).mono (fun r hr c => ?_) (Cert.Reference2Ideal.Value.run m' g')
    obtain ⟨h0, h1, h2, h3⟩ := h c
    exact ⟨(hr c).1.trans ((Cert.FfnHiddenGrad.reference_gate_eq _ _ _ _).trans (by rw [h0, h1, h2, h3])),
      (hr c).2.1.trans ((Cert.FfnHiddenGrad.reference_up_eq _ _ _).trans (by rw [h0, h2, h3])), (hr c).2.2⟩

/-- `Kernel3Ideal` and `Reference3Ideal` end with the same results: those of `FfnUpWeightGrad`. -/
theorem ffnUpWeightGrad : Cert.algebraic_Kernel3Ideal_Reference3Ideal := fun m g m' g' _ h => by
  refine ⟨fun c => Cert.FfnUpWeightGrad.weightGrad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    fun c => Cert.FfnUpWeightGrad.weightGrad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg2)), ?_, ?_⟩
  · refine (θ_run _ _ _).mono (fun r hr c => ?_) (Cert.Kernel3Ideal.Value.run_blocks m g)
    exact ⟨(hr c).1.trans (Cert.FfnUpWeightGrad.final_gate m c), (hr c).2.1.trans (Cert.FfnUpWeightGrad.final_up m c), (hr c).2.2⟩
  · refine (θ_run _ _ _).mono (fun r hr c => ?_) (Cert.Reference3Ideal.Value.run m' g')
    obtain ⟨h0, h1, h2⟩ := h c
    exact ⟨(hr c).1.trans ((Cert.FfnUpWeightGrad.reference_eq _ _).trans (by rw [h0, h1])),
      (hr c).2.1.trans ((Cert.FfnUpWeightGrad.reference_eq _ _).trans (by rw [h0, h2])), (hr c).2.2⟩

/-- `Kernel4Ideal` and `Reference4Ideal` end with the same results: those of `FfnInputGrad`. -/
theorem ffnInputGrad : Cert.algebraic_Kernel4Ideal_Reference4Ideal := fun m g m' g' _ h => by
  refine ⟨fun c => Cert.FfnInputGrad.inputGrad (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), ?_, ?_⟩
  · refine (θ_run _ _ _).mono (fun r hr c => ?_) (Cert.Kernel4Ideal.Value.run_blocks m g)
    exact ⟨(hr c).1.trans (Cert.FfnInputGrad.final m c), (hr c).2⟩
  · refine (θ_run _ _ _).mono (fun r hr c => ?_) (Cert.Reference4Ideal.Value.run m' g')
    obtain ⟨h0, h1, h2, h3⟩ := h c
    exact ⟨(hr c).1.trans ((Cert.FfnInputGrad.reference_eq _ _ _ _).trans (by rw [h0, h1, h2, h3])), (hr c).2⟩

/-- `Kernel5Ideal` and `Reference5Ideal` end with the same results: those of `FfnDownWeightGrad`. -/
theorem ffnDownWeightGrad : Cert.algebraic_Kernel5Ideal_Reference5Ideal := fun m g m' g' _ h => by
  refine ⟨fun c => Cert.FfnDownWeightGrad.weightGrad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · refine (θ_run _ _ _).mono (fun r hr c => ?_) (Cert.Kernel5Ideal.Value.run_blocks m g)
    exact ⟨(hr c).1.trans (Cert.FfnDownWeightGrad.final m c), (hr c).2⟩
  · refine (θ_run _ _ _).mono (fun r hr c => ?_) (Cert.Reference5Ideal.Value.run m' g')
    obtain ⟨h0, h1⟩ := h c
    exact ⟨(hr c).1.trans ((Cert.FfnDownWeightGrad.reference_eq _ _).trans (by rw [h0, h1])), (hr c).2⟩

/-- `Kernel6Ideal` and `Reference6Ideal` end with the same results: those of `FfnUp`. -/
theorem ffnUp : Cert.algebraic_Kernel6Ideal_Reference6Ideal_pre_finite_up := fun m g m' g' hp h => by
  refine ⟨fun c => Cert.FfnUp.gateFactor (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    fun c => Cert.FfnUp.upFactor (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    fun c => Cert.FfnUp.hidden (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), ?_, ?_⟩
  · refine (θ_run _ _ _).mono (fun r hr c => ?_) (Cert.Kernel6Ideal.Value.run_blocks m g)
    obtain ⟨hn, hg, hu⟩ := Cert.Finite.up (hp c)
    exact ⟨(hr c).1.trans (Cert.FfnUp.final_gate m c hn hg hu), (hr c).2.1.trans (Cert.FfnUp.final_up m c), (hr c).2.2.1.trans (Cert.FfnUp.final_hidden m c), (hr c).2.2.2⟩
  · refine (θ_run _ _ _).mono (fun r hr c => ?_) (Cert.Reference6Ideal.Value.run m' g')
    obtain ⟨h0, h1, h2⟩ := h c
    exact ⟨(hr c).1.trans ((Cert.FfnUp.reference_gate_eq _ _ _).trans (by rw [h0, h1, h2])),
      (hr c).2.1.trans ((Cert.FfnUp.reference_up_eq _ _).trans (by rw [h0, h1])),
      (hr c).2.2.1.trans ((Cert.FfnUp.reference_hidden_eq _ _ _).trans (by rw [h0, h1, h2])), (hr c).2.2.2⟩

/-- `Kernel7Ideal` and `Reference7Ideal` end with the same results: those of `FfnDown`. -/
theorem ffnDown : Cert.algebraic_Kernel7Ideal_Reference7Ideal := fun m g m' g' _ h => by
  refine ⟨fun c => Cert.FfnDown.residual (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), ?_, ?_⟩
  · refine (θ_run _ _ _).mono (fun r hr c => ?_) (Cert.Kernel7Ideal.Value.run_blocks m g)
    exact ⟨(hr c).1.trans (Cert.FfnDown.final m c), (hr c).2⟩
  · refine (θ_run _ _ _).mono (fun r hr c => ?_) (Cert.Reference7Ideal.Value.run m' g')
    obtain ⟨h0, h1, h2⟩ := h c
    exact ⟨(hr c).1.trans ((Cert.FfnDown.reference_eq _ _ _).trans (by rw [h0, h1, h2])), (hr c).2⟩

/-- `Kernel8Ideal` and `Reference8Ideal` end with the same results: those of `OutProj`. -/
theorem outProj : Cert.algebraic_Kernel8Ideal_Reference8Ideal := fun m g m' g' _ h => by
  refine ⟨fun c => Cert.OutProj.residual (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)), ?_, ?_⟩
  · refine (θ_run _ _ _).mono (fun r hr c => ?_) (Cert.Kernel8Ideal.Value.run_blocks m g)
    exact ⟨(hr c).1.trans (Cert.OutProj.final m c), (hr c).2⟩
  · refine (θ_run _ _ _).mono (fun r hr c => ?_) (Cert.Reference8Ideal.Value.run m' g')
    obtain ⟨h0, h1, h2⟩ := h c
    exact ⟨(hr c).1.trans ((Cert.OutProj.reference_eq _ _ _).trans (by rw [h0, h1, h2])), (hr c).2⟩

/-- `Kernel9Ideal` and `Reference9Ideal` end with the same results: those of `OutProjWeightGrad`. -/
theorem outProjWeightGrad : Cert.algebraic_Kernel9Ideal_Reference9Ideal := fun m g m' g' _ h => by
  refine ⟨fun c => Cert.OutProjWeightGrad.weightGrad (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · refine (θ_run _ _ _).mono (fun r hr c => ?_) (Cert.Kernel9Ideal.Value.run_blocks m g)
    exact ⟨(hr c).1.trans (Cert.OutProjWeightGrad.final m c), (hr c).2⟩
  · refine (θ_run _ _ _).mono (fun r hr c => ?_) (Cert.Reference9Ideal.Value.run m' g')
    obtain ⟨h0, h1⟩ := h c
    exact ⟨(hr c).1.trans ((Cert.OutProjWeightGrad.reference_eq _ _).trans (by rw [h0, h1])), (hr c).2⟩

/-- `Kernel10Ideal` and `Reference10Ideal` end with the same results: those of `OutProjInputGrad`. -/
theorem outProjInputGrad : Cert.algebraic_Kernel10Ideal_Reference10Ideal := fun m g m' g' _ h => by
  refine ⟨fun c => Cert.OutProjInputGrad.activationGrad (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · refine (θ_run _ _ _).mono (fun r hr c => ?_) (Cert.Kernel10Ideal.Value.run_blocks m g)
    exact ⟨(hr c).1.trans (Cert.OutProjInputGrad.final m c), (hr c).2⟩
  · refine (θ_run _ _ _).mono (fun r hr c => ?_) (Cert.Reference10Ideal.Value.run m' g')
    obtain ⟨h0, h1⟩ := h c
    exact ⟨(hr c).1.trans ((Cert.OutProjInputGrad.reference_eq _ _).trans (by rw [h0, h1])), (hr c).2⟩

/-- `Kernel11Ideal` and `Reference11Ideal` end with the same results: those of `GateProjWeightGrad`. -/
theorem gateProjWeightGrad : Cert.algebraic_Kernel11Ideal_Reference11Ideal := fun m g m' g' _ h => by
  refine ⟨fun c => Cert.GateProjWeightGrad.weightGrad (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · refine (θ_run _ _ _).mono (fun r hr c => ?_) (Cert.Kernel11Ideal.Value.run_blocks m g)
    exact ⟨(hr c).1.trans (Cert.GateProjWeightGrad.final m c), (hr c).2⟩
  · refine (θ_run _ _ _).mono (fun r hr c => ?_) (Cert.Reference11Ideal.Value.run m' g')
    obtain ⟨h0, h1⟩ := h c
    exact ⟨(hr c).1.trans ((Cert.GateProjWeightGrad.reference_eq _ _).trans (by rw [h0, h1])), (hr c).2⟩

/-- `Kernel12Ideal` and `Reference12Ideal` end with the same results: those of `GateProjInputGrad`. -/
theorem gateProjInputGrad : Cert.algebraic_Kernel12Ideal_Reference12Ideal := fun m g m' g' _ h => by
  refine ⟨fun c => Cert.GateProjInputGrad.activationGrad (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · refine (θ_run _ _ _).mono (fun r hr c => ?_) (Cert.Kernel12Ideal.Value.run_blocks m g)
    exact ⟨(hr c).1.trans (Cert.GateProjInputGrad.final m c), (hr c).2⟩
  · refine (θ_run _ _ _).mono (fun r hr c => ?_) (Cert.Reference12Ideal.Value.run m' g')
    obtain ⟨h0, h1⟩ := h c
    exact ⟨(hr c).1.trans ((Cert.GateProjInputGrad.reference_eq _ _).trans (by rw [h0, h1])), (hr c).2⟩

/-- `Kernel13Ideal` and `Reference13Ideal` end with the same results: those of `KvProj`. -/
theorem kvProj : Cert.algebraic_Kernel13Ideal_Reference13Ideal := fun m g m' g' _ h => by
  refine ⟨fun c => Cert.KvProj.product (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)), ?_, ?_⟩
  · refine (θ_run _ _ _).mono (fun r hr c => ?_) (Cert.Kernel13Ideal.Value.run_blocks m g)
    exact ⟨(hr c).1.trans (Cert.KvProj.final m c), (hr c).2⟩
  · refine (θ_run _ _ _).mono (fun r hr c => ?_) (Cert.Reference13Ideal.Value.run m' g')
    obtain ⟨h0, h1⟩ := h c
    exact ⟨(hr c).1.trans ((Cert.KvProj.reference_eq _ _).trans (by rw [h0, h1])), (hr c).2⟩

/-- `Kernel14Ideal` and `Reference14Ideal` end with the same results: those of `KvProjWeightGrad`. -/
theorem kvProjWeightGrad : Cert.algebraic_Kernel14Ideal_Reference14Ideal := fun m g m' g' _ h => by
  refine ⟨fun c => Cert.KvProjWeightGrad.weightGrad (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), ?_, ?_⟩
  · refine (θ_run _ _ _).mono (fun r hr c => ?_) (Cert.Kernel14Ideal.Value.run_blocks m g)
    exact ⟨(hr c).1.trans (Cert.KvProjWeightGrad.final m c), (hr c).2⟩
  · refine (θ_run _ _ _).mono (fun r hr c => ?_) (Cert.Reference14Ideal.Value.run m' g')
    obtain ⟨h0, h1⟩ := h c
    exact ⟨(hr c).1.trans ((Cert.KvProjWeightGrad.reference_eq _ _).trans (by rw [h0, h1])), (hr c).2⟩

/-- `Kernel15Ideal` and `Reference15Ideal` end with the same results: those of `KvProjInputGrad`. -/
theorem kvProjInputGrad : Cert.algebraic_Kernel15Ideal_Reference15Ideal := fun m g m' g' _ h => by
  refine ⟨fun c => Cert.KvProjInputGrad.activationGrad (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)), ?_, ?_⟩
  · refine (θ_run _ _ _).mono (fun r hr c => ?_) (Cert.Kernel15Ideal.Value.run_blocks m g)
    exact ⟨(hr c).1.trans (Cert.KvProjInputGrad.final m c), (hr c).2⟩
  · refine (θ_run _ _ _).mono (fun r hr c => ?_) (Cert.Reference15Ideal.Value.run m' g')
    obtain ⟨h0, h1⟩ := h c
    exact ⟨(hr c).1.trans ((Cert.KvProjInputGrad.reference_eq _ _).trans (by rw [h0, h1])), (hr c).2⟩

/-- `Kernel16Ideal` and `Reference16Ideal` end with the same results: those of `QueryProj`. -/
theorem queryProj : Cert.algebraic_Kernel16Ideal_Reference16Ideal := fun m g m' g' _ h => by
  refine ⟨fun c => Cert.QueryProj.product (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)), ?_, ?_⟩
  · refine (θ_run _ _ _).mono (fun r hr c => ?_) (Cert.Kernel16Ideal.Value.run_blocks m g)
    exact ⟨(hr c).1.trans (Cert.QueryProj.final m c), (hr c).2⟩
  · refine (θ_run _ _ _).mono (fun r hr c => ?_) (Cert.Reference16Ideal.Value.run m' g')
    obtain ⟨h0, h1⟩ := h c
    exact ⟨(hr c).1.trans ((Cert.QueryProj.reference_eq _ _).trans (by rw [h0, h1])), (hr c).2⟩

/-- `Kernel17Ideal` and `Reference17Ideal` end with the same results: those of `QueryProjWeightGrad`. -/
theorem queryProjWeightGrad : Cert.algebraic_Kernel17Ideal_Reference17Ideal := fun m g m' g' _ h => by
  refine ⟨fun c => Cert.QueryProjWeightGrad.weightGrad (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)), ?_, ?_⟩
  · refine (θ_run _ _ _).mono (fun r hr c => ?_) (Cert.Kernel17Ideal.Value.run_blocks m g)
    exact ⟨(hr c).1.trans (Cert.QueryProjWeightGrad.final m c), (hr c).2⟩
  · refine (θ_run _ _ _).mono (fun r hr c => ?_) (Cert.Reference17Ideal.Value.run m' g')
    obtain ⟨h0, h1⟩ := h c
    exact ⟨(hr c).1.trans ((Cert.QueryProjWeightGrad.reference_eq _ _).trans (by rw [h0, h1])), (hr c).2⟩

/-- `Kernel18Ideal` and `Reference18Ideal` end with the same results: those of `QueryProjInputGrad`. -/
theorem queryProjInputGrad : Cert.algebraic_Kernel18Ideal_Reference18Ideal := fun m g m' g' _ h => by
  refine ⟨fun c => Cert.QueryProjInputGrad.activationGrad (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)), ?_, ?_⟩
  · refine (θ_run _ _ _).mono (fun r hr c => ?_) (Cert.Kernel18Ideal.Value.run_blocks m g)
    exact ⟨(hr c).1.trans (Cert.QueryProjInputGrad.final m c), (hr c).2⟩
  · refine (θ_run _ _ _).mono (fun r hr c => ?_) (Cert.Reference18Ideal.Value.run m' g')
    obtain ⟨h0, h1⟩ := h c
    exact ⟨(hr c).1.trans ((Cert.QueryProjInputGrad.reference_eq _ _).trans (by rw [h0, h1])), (hr c).2⟩

/-- `Kernel22Ideal` and `Reference22Ideal` end with the same results: those of `GateProj`. -/
theorem gateProj : Cert.algebraic_Kernel22Ideal_Reference22Ideal := fun m g m' g' _ h => by
  refine ⟨fun c => Cert.GateProj.active (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)), ?_, ?_⟩
  · refine (θ_run _ _ _).mono (fun r hr c => ?_) (Cert.Kernel22Ideal.Value.run_blocks m g)
    exact ⟨(hr c).2.1.trans (Cert.GateProj.final m c), (hr c).2.2⟩
  · refine (θ_run _ _ _).mono (fun r hr c => ?_) (Cert.Reference22Ideal.Value.run m' g')
    obtain ⟨h0, h1⟩ := h c
    exact ⟨(hr c).1.trans ((Cert.GateProj.reference_eq _ _).trans (by rw [h0, h1])), (hr c).2⟩

/-- `Kernel23Ideal` and `Reference23Ideal` end with the same results: those of `NormRows`. -/
theorem normRows : Cert.algebraic_Kernel23Ideal_Reference23Ideal := fun m g m' g' _ h => by
  refine ⟨fun c => Cert.NormRows.normed (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)), ?_, ?_⟩
  · refine (θ_run _ _ _).mono (fun r hr c => ?_) (Cert.Kernel23Ideal.Value.run_blocks m g)
    exact ⟨(hr c).1.trans (Cert.NormRows.final m c), (hr c).2⟩
  · refine (θ_run _ _ _).mono (fun r hr c => ?_) (Cert.Reference23Ideal.Value.run m' g')
    obtain ⟨h0, h1⟩ := h c
    exact ⟨(hr c).1.trans ((Cert.NormRows.reference_eq _ _).trans (by rw [h0, h1])), (hr c).2⟩

/-- `Kernel24Ideal` and `Reference24Ideal` end with the same results: those of `GateForward`. -/
theorem gateForward : Cert.algebraic_Kernel24Ideal_Reference24Ideal := fun m g m' g' _ h => by
  refine ⟨fun c => Cert.GateForward.forward (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)), ?_, ?_⟩
  · refine (θ_run _ _ _).mono (fun r hr c => ?_) (Cert.Kernel24Ideal.Value.run_blocks m g)
    exact ⟨(hr c).1.trans (Cert.GateForward.final m c), (hr c).2⟩
  · refine (θ_run _ _ _).mono (fun r hr c => ?_) (Cert.Reference24Ideal.Value.run m' g')
    obtain ⟨h0, h1, h2, h3⟩ := h c
    exact ⟨(hr c).1.trans ((Cert.GateForward.reference_eq _ _ _ _).trans (by rw [h0, h1, h2, h3])), (hr c).2⟩

/-- `Kernel19Ideal` and `Reference19Ideal` end with the same results: the attention with dilation 1 and the logarithms of its sums. -/
theorem attnD1 : Cert.algebraic_Kernel19Ideal_Reference19Ideal_pre_finite_attn := fun m g m' g' hp h => by
  refine ⟨fun c => Cert.AttnD1Reference.outRef (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)),
    fun c => Cert.AttnD1Reference.logRef (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)), ?_, ?_⟩
  · refine (θ_run _ _ _).mono (fun r hr c => ?_) (Cert.Kernel19Ideal.Value.run_blocks m g)
    obtain ⟨hq, hk, hv⟩ := Cert.Finite.attn (hp c)
    exact ⟨(hr c).1.trans ((Cert.AttnD1.final_out m c).trans (Cert.AttnD1Equal.out_eq _ _ _ hq hk hv)),
      (hr c).2.1.trans ((Cert.AttnD1.final_log m c).trans (Cert.AttnD1Equal.log_eq _ _)), (hr c).2.2⟩
  · refine (θ_run _ _ _).mono (fun r hr c => ?_) (Cert.Reference19Ideal.Value.run m' g')
    obtain ⟨h0, h1, h2⟩ := h c
    exact ⟨(hr c).1.trans ((Cert.AttnD1Reference.out_eq m' c).trans (by rw [h0, h1, h2])),
      (hr c).2.1.trans ((Cert.AttnD1Reference.log_eq m' c).trans (by rw [h0, h1])), (hr c).2.2⟩

/-- `Kernel20Ideal` and `Reference20Ideal` end with the same results: the attention with dilation 4 and the logarithms of its sums. -/
theorem attnD4 : Cert.algebraic_Kernel20Ideal_Reference20Ideal_pre_finite_attn := fun m g m' g' hp h => by
  refine ⟨fun c => Cert.AttnD4Reference.outRef (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)),
    fun c => Cert.AttnD4Reference.logRef (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)), ?_, ?_⟩
  · refine (θ_run _ _ _).mono (fun r hr c => ?_) (Cert.Kernel20Ideal.Value.run_blocks m g)
    obtain ⟨hq, hk, hv⟩ := Cert.Finite.attn (hp c)
    exact ⟨(hr c).1.trans ((Cert.AttnD4.final_out m c).trans (Cert.AttnD4Equal.out_eq _ _ _ hq hk hv)),
      (hr c).2.1.trans ((Cert.AttnD4.final_log m c).trans (Cert.AttnD4Equal.log_eq _ _)), (hr c).2.2⟩
  · refine (θ_run _ _ _).mono (fun r hr c => ?_) (Cert.Reference20Ideal.Value.run m' g')
    obtain ⟨h0, h1, h2⟩ := h c
    exact ⟨(hr c).1.trans ((Cert.AttnD4Reference.out_eq m' c).trans (by rw [h0, h1, h2])),
      (hr c).2.1.trans ((Cert.AttnD4Reference.log_eq m' c).trans (by rw [h0, h1])), (hr c).2.2⟩

/-- `Kernel21Ideal` and `Reference21Ideal` end with the same results: the attention with dilation 16 and the logarithms of its sums. -/
theorem attnD16 : Cert.algebraic_Kernel21Ideal_Reference21Ideal_pre_finite_attn := fun m g m' g' hp h => by
  refine ⟨fun c => Cert.AttnD16Reference.outRef (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)),
    fun c => Cert.AttnD16Reference.logRef (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)), ?_, ?_⟩
  · refine (θ_run _ _ _).mono (fun r hr c => ?_) (Cert.Kernel21Ideal.Value.run_blocks m g)
    obtain ⟨hq, hk, hv⟩ := Cert.Finite.attn (hp c)
    exact ⟨(hr c).1.trans ((Cert.AttnD16.final_out m c).trans (Cert.AttnD16Equal.out_eq _ _ _ hq hk hv)),
      (hr c).2.1.trans ((Cert.AttnD16.final_log m c).trans (Cert.AttnD16Equal.log_eq _ _)), (hr c).2.2⟩
  · refine (θ_run _ _ _).mono (fun r hr c => ?_) (Cert.Reference21Ideal.Value.run m' g')
    obtain ⟨h0, h1, h2⟩ := h c
    exact ⟨(hr c).1.trans ((Cert.AttnD16Reference.out_eq m' c).trans (by rw [h0, h1, h2])),
      (hr c).2.1.trans ((Cert.AttnD16Reference.log_eq m' c).trans (by rw [h0, h1])), (hr c).2.2⟩

end Cert.Claims

end
-- ==== Proof.lean ====
/- The certificate: each kernel of the training step runs to its end with its arguments unchanged, its idealization is
   its own text, and it ends with the results of its reference. -/
module

public import proofs.«01_k».proof.Defs
public import proofs.«01_k».proof.Proof.Claims
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Kernel19
public import proofs.«01_k».proof.Proof.Gen.Kernel19Ideal
public import proofs.«01_k».proof.Proof.Gen.Reference19Ideal
public import proofs.«01_k».proof.Proof.Gen.Kernel20
public import proofs.«01_k».proof.Proof.Gen.Kernel20Ideal
public import proofs.«01_k».proof.Proof.Gen.Reference20Ideal
public import proofs.«01_k».proof.Proof.Gen.Kernel21
public import proofs.«01_k».proof.Proof.Gen.Kernel21Ideal
public import proofs.«01_k».proof.Proof.Gen.Reference21Ideal
public import proofs.«01_k».proof.Proof.Gen.Kernel22
public import proofs.«01_k».proof.Proof.Gen.Kernel22Ideal
public import proofs.«01_k».proof.Proof.Gen.Reference22Ideal
public import proofs.«01_k».proof.Proof.Gen.Kernel23
public import proofs.«01_k».proof.Proof.Gen.Kernel23Ideal
public import proofs.«01_k».proof.Proof.Gen.Reference23Ideal
public import proofs.«01_k».proof.Proof.Gen.Kernel24
public import proofs.«01_k».proof.Proof.Gen.Kernel24Ideal
public import proofs.«01_k».proof.Proof.Gen.Reference24Ideal
public import proofs.«01_k».proof.Proof.Gen.Pre_finite_gate
public import proofs.«01_k».proof.Proof.Gen.Pre_finite_down
public import proofs.«01_k».proof.Proof.Gen.Pre_finite_up
public import proofs.«01_k».proof.Proof.Gen.Pre_finite_attn

@[expose] public section

noncomputable section

namespace Cert.Proof

open Idealize.ShloMosaic Idealize.ShloMosaic.TcCoe Idealize.SL.Sem

/-- `ReferenceIdeal` is host operations alone: it runs, its arguments end unchanged, and it has no counter. -/
theorem frame_ReferenceIdeal (m ρ) : θ_run Cert.ReferenceIdeal.defs (onTc (τ := Cert.ReferenceIdeal.τ) (Cert.ReferenceIdeal.main (F := Ideal))) ⟨m, fun _ => 0, ρ⟩
    (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2.2, sem_eq_zero_of_no_sems (by decide) r.2⟩)
    (Cert.ReferenceIdeal.Value.run m ρ)

/-- `Reference2Ideal` is host operations alone: it runs, its arguments end unchanged, and it has no counter. -/
theorem frame_Reference2Ideal (m ρ) : θ_run Cert.Reference2Ideal.defs (onTc (τ := Cert.Reference2Ideal.τ) (Cert.Reference2Ideal.main (F := Ideal))) ⟨m, fun _ => 0, ρ⟩
    (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run Cert.Reference2Ideal.defs _ _).mono (fun r h => ⟨fun c => (h c).2.2, sem_eq_zero_of_no_sems (by decide) r.2⟩)
    (Cert.Reference2Ideal.Value.run m ρ)

/-- `Reference3Ideal` is host operations alone: it runs, its arguments end unchanged, and it has no counter. -/
theorem frame_Reference3Ideal (m ρ) : θ_run Cert.Reference3Ideal.defs (onTc (τ := Cert.Reference3Ideal.τ) (Cert.Reference3Ideal.main (F := Ideal))) ⟨m, fun _ => 0, ρ⟩
    (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run Cert.Reference3Ideal.defs _ _).mono (fun r h => ⟨fun c => (h c).2.2, sem_eq_zero_of_no_sems (by decide) r.2⟩)
    (Cert.Reference3Ideal.Value.run m ρ)

/-- `Reference4Ideal` is host operations alone: it runs, its arguments end unchanged, and it has no counter. -/
theorem frame_Reference4Ideal (m ρ) : θ_run Cert.Reference4Ideal.defs (onTc (τ := Cert.Reference4Ideal.τ) (Cert.Reference4Ideal.main (F := Ideal))) ⟨m, fun _ => 0, ρ⟩
    (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0) :=
  (θ_run Cert.Reference4Ideal.defs _ _).mono (fun r h => ⟨fun c => (h c).2, sem_eq_zero_of_no_sems (by decide) r.2⟩)
    (Cert.Reference4Ideal.Value.run m ρ)

/-- `Reference5Ideal` is host operations alone: it runs, its arguments end unchanged, and it has no counter. -/
theorem frame_Reference5Ideal (m ρ) : θ_run Cert.Reference5Ideal.defs (onTc (τ := Cert.Reference5Ideal.τ) (Cert.Reference5Ideal.main (F := Ideal))) ⟨m, fun _ => 0, ρ⟩
    (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run Cert.Reference5Ideal.defs _ _).mono (fun r h => ⟨fun c => (h c).2, sem_eq_zero_of_no_sems (by decide) r.2⟩)
    (Cert.Reference5Ideal.Value.run m ρ)

/-- `Reference6Ideal` is host operations alone: it runs, its arguments end unchanged, and it has no counter. -/
theorem frame_Reference6Ideal (m ρ) : θ_run Cert.Reference6Ideal.defs (onTc (τ := Cert.Reference6Ideal.τ) (Cert.Reference6Ideal.main (F := Ideal))) ⟨m, fun _ => 0, ρ⟩
    (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0) :=
  (θ_run Cert.Reference6Ideal.defs _ _).mono (fun r h => ⟨fun c => (h c).2.2.2, sem_eq_zero_of_no_sems (by decide) r.2⟩)
    (Cert.Reference6Ideal.Value.run m ρ)

/-- `Reference7Ideal` is host operations alone: it runs, its arguments end unchanged, and it has no counter. -/
theorem frame_Reference7Ideal (m ρ) : θ_run Cert.Reference7Ideal.defs (onTc (τ := Cert.Reference7Ideal.τ) (Cert.Reference7Ideal.main (F := Ideal))) ⟨m, fun _ => 0, ρ⟩
    (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run Cert.Reference7Ideal.defs _ _).mono (fun r h => ⟨fun c => (h c).2, sem_eq_zero_of_no_sems (by decide) r.2⟩)
    (Cert.Reference7Ideal.Value.run m ρ)

/-- `Reference8Ideal` is host operations alone: it runs, its arguments end unchanged, and it has no counter. -/
theorem frame_Reference8Ideal (m ρ) : θ_run Cert.Reference8Ideal.defs (onTc (τ := Cert.Reference8Ideal.τ) (Cert.Reference8Ideal.main (F := Ideal))) ⟨m, fun _ => 0, ρ⟩
    (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0) :=
  (θ_run Cert.Reference8Ideal.defs _ _).mono (fun r h => ⟨fun c => (h c).2, sem_eq_zero_of_no_sems (by decide) r.2⟩)
    (Cert.Reference8Ideal.Value.run m ρ)

/-- `Reference9Ideal` is host operations alone: it runs, its arguments end unchanged, and it has no counter. -/
theorem frame_Reference9Ideal (m ρ) : θ_run Cert.Reference9Ideal.defs (onTc (τ := Cert.Reference9Ideal.τ) (Cert.Reference9Ideal.main (F := Ideal))) ⟨m, fun _ => 0, ρ⟩
    (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0) :=
  (θ_run Cert.Reference9Ideal.defs _ _).mono (fun r h => ⟨fun c => (h c).2, sem_eq_zero_of_no_sems (by decide) r.2⟩)
    (Cert.Reference9Ideal.Value.run m ρ)

/-- `Reference10Ideal` is host operations alone: it runs, its arguments end unchanged, and it has no counter. -/
theorem frame_Reference10Ideal (m ρ) : θ_run Cert.Reference10Ideal.defs (onTc (τ := Cert.Reference10Ideal.τ) (Cert.Reference10Ideal.main (F := Ideal))) ⟨m, fun _ => 0, ρ⟩
    (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0) :=
  (θ_run Cert.Reference10Ideal.defs _ _).mono (fun r h => ⟨fun c => (h c).2, sem_eq_zero_of_no_sems (by decide) r.2⟩)
    (Cert.Reference10Ideal.Value.run m ρ)

/-- `Reference11Ideal` is host operations alone: it runs, its arguments end unchanged, and it has no counter. -/
theorem frame_Reference11Ideal (m ρ) : θ_run Cert.Reference11Ideal.defs (onTc (τ := Cert.Reference11Ideal.τ) (Cert.Reference11Ideal.main (F := Ideal))) ⟨m, fun _ => 0, ρ⟩
    (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0) :=
  (θ_run Cert.Reference11Ideal.defs _ _).mono (fun r h => ⟨fun c => (h c).2, sem_eq_zero_of_no_sems (by decide) r.2⟩)
    (Cert.Reference11Ideal.Value.run m ρ)

/-- `Reference12Ideal` is host operations alone: it runs, its arguments end unchanged, and it has no counter. -/
theorem frame_Reference12Ideal (m ρ) : θ_run Cert.Reference12Ideal.defs (onTc (τ := Cert.Reference12Ideal.τ) (Cert.Reference12Ideal.main (F := Ideal))) ⟨m, fun _ => 0, ρ⟩
    (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0) :=
  (θ_run Cert.Reference12Ideal.defs _ _).mono (fun r h => ⟨fun c => (h c).2, sem_eq_zero_of_no_sems (by decide) r.2⟩)
    (Cert.Reference12Ideal.Value.run m ρ)

/-- `Reference13Ideal` is host operations alone: it runs, its arguments end unchanged, and it has no counter. -/
theorem frame_Reference13Ideal (m ρ) : θ_run Cert.Reference13Ideal.defs (onTc (τ := Cert.Reference13Ideal.τ) (Cert.Reference13Ideal.main (F := Ideal))) ⟨m, fun _ => 0, ρ⟩
    (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0) :=
  (θ_run Cert.Reference13Ideal.defs _ _).mono (fun r h => ⟨fun c => (h c).2, sem_eq_zero_of_no_sems (by decide) r.2⟩)
    (Cert.Reference13Ideal.Value.run m ρ)

/-- `Reference14Ideal` is host operations alone: it runs, its arguments end unchanged, and it has no counter. -/
theorem frame_Reference14Ideal (m ρ) : θ_run Cert.Reference14Ideal.defs (onTc (τ := Cert.Reference14Ideal.τ) (Cert.Reference14Ideal.main (F := Ideal))) ⟨m, fun _ => 0, ρ⟩
    (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0) :=
  (θ_run Cert.Reference14Ideal.defs _ _).mono (fun r h => ⟨fun c => (h c).2, sem_eq_zero_of_no_sems (by decide) r.2⟩)
    (Cert.Reference14Ideal.Value.run m ρ)

/-- `Reference15Ideal` is host operations alone: it runs, its arguments end unchanged, and it has no counter. -/
theorem frame_Reference15Ideal (m ρ) : θ_run Cert.Reference15Ideal.defs (onTc (τ := Cert.Reference15Ideal.τ) (Cert.Reference15Ideal.main (F := Ideal))) ⟨m, fun _ => 0, ρ⟩
    (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0) :=
  (θ_run Cert.Reference15Ideal.defs _ _).mono (fun r h => ⟨fun c => (h c).2, sem_eq_zero_of_no_sems (by decide) r.2⟩)
    (Cert.Reference15Ideal.Value.run m ρ)

/-- `Reference16Ideal` is host operations alone: it runs, its arguments end unchanged, and it has no counter. -/
theorem frame_Reference16Ideal (m ρ) : θ_run Cert.Reference16Ideal.defs (onTc (τ := Cert.Reference16Ideal.τ) (Cert.Reference16Ideal.main (F := Ideal))) ⟨m, fun _ => 0, ρ⟩
    (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0) :=
  (θ_run Cert.Reference16Ideal.defs _ _).mono (fun r h => ⟨fun c => (h c).2, sem_eq_zero_of_no_sems (by decide) r.2⟩)
    (Cert.Reference16Ideal.Value.run m ρ)

/-- `Reference17Ideal` is host operations alone: it runs, its arguments end unchanged, and it has no counter. -/
theorem frame_Reference17Ideal (m ρ) : θ_run Cert.Reference17Ideal.defs (onTc (τ := Cert.Reference17Ideal.τ) (Cert.Reference17Ideal.main (F := Ideal))) ⟨m, fun _ => 0, ρ⟩
    (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0) :=
  (θ_run Cert.Reference17Ideal.defs _ _).mono (fun r h => ⟨fun c => (h c).2, sem_eq_zero_of_no_sems (by decide) r.2⟩)
    (Cert.Reference17Ideal.Value.run m ρ)

/-- `Reference18Ideal` is host operations alone: it runs, its arguments end unchanged, and it has no counter. -/
theorem frame_Reference18Ideal (m ρ) : θ_run Cert.Reference18Ideal.defs (onTc (τ := Cert.Reference18Ideal.τ) (Cert.Reference18Ideal.main (F := Ideal))) ⟨m, fun _ => 0, ρ⟩
    (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0) :=
  (θ_run Cert.Reference18Ideal.defs _ _).mono (fun r h => ⟨fun c => (h c).2, sem_eq_zero_of_no_sems (by decide) r.2⟩)
    (Cert.Reference18Ideal.Value.run m ρ)

/-- `Reference19Ideal` is host operations alone: it runs, its arguments end unchanged, and it has no counter. -/
theorem frame_Reference19Ideal (m ρ) : θ_run Cert.Reference19Ideal.defs (onTc (τ := Cert.Reference19Ideal.τ) (Cert.Reference19Ideal.main (F := Ideal))) ⟨m, fun _ => 0, ρ⟩
    (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0) :=
  (θ_run Cert.Reference19Ideal.defs _ _).mono (fun r h => ⟨fun c => (h c).2.2, sem_eq_zero_of_no_sems (by decide) r.2⟩)
    (Cert.Reference19Ideal.Value.run m ρ)

/-- `Reference20Ideal` is host operations alone: it runs, its arguments end unchanged, and it has no counter. -/
theorem frame_Reference20Ideal (m ρ) : θ_run Cert.Reference20Ideal.defs (onTc (τ := Cert.Reference20Ideal.τ) (Cert.Reference20Ideal.main (F := Ideal))) ⟨m, fun _ => 0, ρ⟩
    (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0) :=
  (θ_run Cert.Reference20Ideal.defs _ _).mono (fun r h => ⟨fun c => (h c).2.2, sem_eq_zero_of_no_sems (by decide) r.2⟩)
    (Cert.Reference20Ideal.Value.run m ρ)

/-- `Reference21Ideal` is host operations alone: it runs, its arguments end unchanged, and it has no counter. -/
theorem frame_Reference21Ideal (m ρ) : θ_run Cert.Reference21Ideal.defs (onTc (τ := Cert.Reference21Ideal.τ) (Cert.Reference21Ideal.main (F := Ideal))) ⟨m, fun _ => 0, ρ⟩
    (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0) :=
  (θ_run Cert.Reference21Ideal.defs _ _).mono (fun r h => ⟨fun c => (h c).2.2, sem_eq_zero_of_no_sems (by decide) r.2⟩)
    (Cert.Reference21Ideal.Value.run m ρ)

/-- `Reference22Ideal` is host operations alone: it runs, its arguments end unchanged, and it has no counter. -/
theorem frame_Reference22Ideal (m ρ) : θ_run Cert.Reference22Ideal.defs (onTc (τ := Cert.Reference22Ideal.τ) (Cert.Reference22Ideal.main (F := Ideal))) ⟨m, fun _ => 0, ρ⟩
    (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0) :=
  (θ_run Cert.Reference22Ideal.defs _ _).mono (fun r h => ⟨fun c => (h c).2, sem_eq_zero_of_no_sems (by decide) r.2⟩)
    (Cert.Reference22Ideal.Value.run m ρ)

/-- `Reference23Ideal` is host operations alone: it runs, its arguments end unchanged, and it has no counter. -/
theorem frame_Reference23Ideal (m ρ) : θ_run Cert.Reference23Ideal.defs (onTc (τ := Cert.Reference23Ideal.τ) (Cert.Reference23Ideal.main (F := Ideal))) ⟨m, fun _ => 0, ρ⟩
    (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0) :=
  (θ_run Cert.Reference23Ideal.defs _ _).mono (fun r h => ⟨fun c => (h c).2, sem_eq_zero_of_no_sems (by decide) r.2⟩)
    (Cert.Reference23Ideal.Value.run m ρ)

/-- `Reference24Ideal` is host operations alone: it runs, its arguments end unchanged, and it has no counter. -/
theorem frame_Reference24Ideal (m ρ) : θ_run Cert.Reference24Ideal.defs (onTc (τ := Cert.Reference24Ideal.τ) (Cert.Reference24Ideal.main (F := Ideal))) ⟨m, fun _ => 0, ρ⟩
    (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0) :=
  (θ_run Cert.Reference24Ideal.defs _ _).mono (fun r h => ⟨fun c => (h c).2, sem_eq_zero_of_no_sems (by decide) r.2⟩)
    (Cert.Reference24Ideal.Value.run m ρ)

/-- Everything the certificate claims: the frames, the idealizations and the value claims, in the order of the claim. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Pre_finite_gate.Gen.facts,
  Cert.Pre_finite_down.Gen.facts,
  Cert.Pre_finite_up.Gen.facts,
  Cert.Pre_finite_attn.Gen.facts,
  fun m ρ _ => Cert.Kernel.Gen.frame m ρ,
  fun m ρ _ => Cert.KernelIdeal.Gen.frame m ρ,
  fun m ρ _ => Cert.KernelIdeal.Gen.frame m ρ,
  fun m ρ _ => frame_ReferenceIdeal m ρ,
  fun m ρ _ => frame_ReferenceIdeal m ρ,
  fun m ρ _ => Cert.Kernel2.Gen.frame m ρ,
  fun m ρ _ => Cert.Kernel2Ideal.Gen.frame m ρ,
  fun m ρ _ => Cert.Kernel2Ideal.Gen.frame m ρ,
  fun m ρ _ => frame_Reference2Ideal m ρ,
  fun m ρ _ => frame_Reference2Ideal m ρ,
  fun m ρ _ => Cert.Kernel3.Gen.frame m ρ,
  fun m ρ _ => Cert.Kernel3Ideal.Gen.frame m ρ,
  fun m ρ _ => frame_Reference3Ideal m ρ,
  fun m ρ _ => Cert.Kernel4.Gen.frame m ρ,
  fun m ρ _ => Cert.Kernel4Ideal.Gen.frame m ρ,
  fun m ρ _ => frame_Reference4Ideal m ρ,
  fun m ρ _ => Cert.Kernel5.Gen.frame m ρ,
  fun m ρ _ => Cert.Kernel5Ideal.Gen.frame m ρ,
  fun m ρ _ => frame_Reference5Ideal m ρ,
  fun m ρ _ => Cert.Kernel6.Gen.frame m ρ,
  fun m ρ _ => Cert.Kernel6Ideal.Gen.frame m ρ,
  fun m ρ _ => Cert.Kernel6Ideal.Gen.frame m ρ,
  fun m ρ _ => frame_Reference6Ideal m ρ,
  fun m ρ _ => frame_Reference6Ideal m ρ,
  fun m ρ _ => Cert.Kernel7.Gen.frame m ρ,
  fun m ρ _ => Cert.Kernel7Ideal.Gen.frame m ρ,
  fun m ρ _ => frame_Reference7Ideal m ρ,
  fun m ρ _ => Cert.Kernel8.Gen.frame m ρ,
  fun m ρ _ => Cert.Kernel8Ideal.Gen.frame m ρ,
  fun m ρ _ => frame_Reference8Ideal m ρ,
  fun m ρ _ => Cert.Kernel9.Gen.frame m ρ,
  fun m ρ _ => Cert.Kernel9Ideal.Gen.frame m ρ,
  fun m ρ _ => frame_Reference9Ideal m ρ,
  fun m ρ _ => Cert.Kernel10.Gen.frame m ρ,
  fun m ρ _ => Cert.Kernel10Ideal.Gen.frame m ρ,
  fun m ρ _ => frame_Reference10Ideal m ρ,
  fun m ρ _ => Cert.Kernel11.Gen.frame m ρ,
  fun m ρ _ => Cert.Kernel11Ideal.Gen.frame m ρ,
  fun m ρ _ => frame_Reference11Ideal m ρ,
  fun m ρ _ => Cert.Kernel12.Gen.frame m ρ,
  fun m ρ _ => Cert.Kernel12Ideal.Gen.frame m ρ,
  fun m ρ _ => frame_Reference12Ideal m ρ,
  fun m ρ _ => Cert.Kernel13.Gen.frame m ρ,
  fun m ρ _ => Cert.Kernel13Ideal.Gen.frame m ρ,
  fun m ρ _ => frame_Reference13Ideal m ρ,
  fun m ρ _ => Cert.Kernel14.Gen.frame m ρ,
  fun m ρ _ => Cert.Kernel14Ideal.Gen.frame m ρ,
  fun m ρ _ => frame_Reference14Ideal m ρ,
  fun m ρ _ => Cert.Kernel15.Gen.frame m ρ,
  fun m ρ _ => Cert.Kernel15Ideal.Gen.frame m ρ,
  fun m ρ _ => frame_Reference15Ideal m ρ,
  fun m ρ _ => Cert.Kernel16.Gen.frame m ρ,
  fun m ρ _ => Cert.Kernel16Ideal.Gen.frame m ρ,
  fun m ρ _ => frame_Reference16Ideal m ρ,
  fun m ρ _ => Cert.Kernel17.Gen.frame m ρ,
  fun m ρ _ => Cert.Kernel17Ideal.Gen.frame m ρ,
  fun m ρ _ => frame_Reference17Ideal m ρ,
  fun m ρ _ => Cert.Kernel18.Gen.frame m ρ,
  fun m ρ _ => Cert.Kernel18Ideal.Gen.frame m ρ,
  fun m ρ _ => frame_Reference18Ideal m ρ,
  fun m ρ _ => Cert.Kernel19.Gen.frame m ρ,
  fun m ρ _ => Cert.Kernel19Ideal.Gen.frame m ρ,
  fun m ρ _ => Cert.Kernel19Ideal.Gen.frame m ρ,
  fun m ρ _ => frame_Reference19Ideal m ρ,
  fun m ρ _ => frame_Reference19Ideal m ρ,
  fun m ρ _ => Cert.Kernel20.Gen.frame m ρ,
  fun m ρ _ => Cert.Kernel20Ideal.Gen.frame m ρ,
  fun m ρ _ => Cert.Kernel20Ideal.Gen.frame m ρ,
  fun m ρ _ => frame_Reference20Ideal m ρ,
  fun m ρ _ => frame_Reference20Ideal m ρ,
  fun m ρ _ => Cert.Kernel21.Gen.frame m ρ,
  fun m ρ _ => Cert.Kernel21Ideal.Gen.frame m ρ,
  fun m ρ _ => Cert.Kernel21Ideal.Gen.frame m ρ,
  fun m ρ _ => frame_Reference21Ideal m ρ,
  fun m ρ _ => frame_Reference21Ideal m ρ,
  fun m ρ _ => Cert.Kernel22.Gen.frame m ρ,
  fun m ρ _ => Cert.Kernel22Ideal.Gen.frame m ρ,
  fun m ρ _ => frame_Reference22Ideal m ρ,
  fun m ρ _ => Cert.Kernel23.Gen.frame m ρ,
  fun m ρ _ => Cert.Kernel23Ideal.Gen.frame m ρ,
  fun m ρ _ => frame_Reference23Ideal m ρ,
  fun m ρ _ => Cert.Kernel24.Gen.frame m ρ,
  fun m ρ _ => Cert.Kernel24Ideal.Gen.frame m ρ,
  fun m ρ _ => frame_Reference24Ideal m ρ,
  trivial,
  Cert.Claims.gateGrad,
  trivial,
  Cert.Claims.ffnHiddenGrad,
  trivial,
  Cert.Claims.ffnUpWeightGrad,
  trivial,
  Cert.Claims.ffnInputGrad,
  trivial,
  Cert.Claims.ffnDownWeightGrad,
  trivial,
  Cert.Claims.ffnUp,
  trivial,
  Cert.Claims.ffnDown,
  trivial,
  Cert.Claims.outProj,
  trivial,
  Cert.Claims.outProjWeightGrad,
  trivial,
  Cert.Claims.outProjInputGrad,
  trivial,
  Cert.Claims.gateProjWeightGrad,
  trivial,
  Cert.Claims.gateProjInputGrad,
  trivial,
  Cert.Claims.kvProj,
  trivial,
  Cert.Claims.kvProjWeightGrad,
  trivial,
  Cert.Claims.kvProjInputGrad,
  trivial,
  Cert.Claims.queryProj,
  trivial,
  Cert.Claims.queryProjWeightGrad,
  trivial,
  Cert.Claims.queryProjInputGrad,
  trivial,
  Cert.Claims.attnD1,
  trivial,
  Cert.Claims.attnD4,
  trivial,
  Cert.Claims.attnD16,
  trivial,
  Cert.Claims.gateProj,
  trivial,
  Cert.Claims.normRows,
  trivial,
  Cert.Claims.gateForward⟩

end Cert.Proof

end
